-- ==== Defs.lean ====
def Pre_Kernel [hPre_matched : Cert.Pre_matched.Facts] (m : (ℓ : Loc Cert.Kernel.nD Cert.Kernel.τ Cert.Kernel.sig) → Buf (Elt Bits) ℓ) : Prop :=
  ∀ c : Dev Cert.Kernel.nD,
    (Cert.Pre_matched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_matched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_matched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_matched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_matched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2 = (fun _ => 1#1)

def Pre_KernelIdeal [hPre_matched : Cert.Pre_matched.Facts] (m : (ℓ : Loc Cert.KernelIdeal.nD Cert.KernelIdeal.τ Cert.KernelIdeal.sig) → Buf (Elt Ideal) ℓ) : Prop :=
  ∀ c : Dev Cert.KernelIdeal.nD,
    (Cert.Pre_matched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_matched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_matched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_matched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_matched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_matched [hPre_matched : Cert.Pre_matched.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_matched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_matched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_matched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_matched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_matched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] [hPre_matched : Cert.Pre_matched.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_matched : Cert.Pre_matched.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_matched [hReferenceIdeal : Cert.ReferenceIdeal.Facts] [hPre_matched : Cert.Pre_matched.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_matched m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_matched : Cert.Pre_matched.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v52)) (v3 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_matched : Cert.Pre_matched.Facts),
    quiescent_Kernel (hKernel := hKernel) (hPre_matched := hPre_matched)
    ∧ quiescent_KernelIdeal (hKernelIdeal := hKernelIdeal) (hPre_matched := hPre_matched)
    ∧ quiescent_ReferenceIdeal (hReferenceIdeal := hReferenceIdeal)
    ∧ quiescent_ReferenceIdeal_pre_matched (hReferenceIdeal := hReferenceIdeal) (hPre_matched := hPre_matched)
    ∧ preserves_Kernel_KernelIdeal
    ∧ algebraic_KernelIdeal_ReferenceIdeal (hKernelIdeal := hKernelIdeal) (hReferenceIdeal := hReferenceIdeal) (hPre_matched := hPre_matched)
-- ==== Pre_matched.lean ====
abbrev S8x100x80 : Shape := ⟨3, ![8, 100, 80]⟩
abbrev S8x100x128x128 : Shape := ⟨4, ![8, 100, 128, 128]⟩
abbrev S8x100x1 : Shape := ⟨3, ![8, 100, 1]⟩
abbrev S8x10x512x512 : Shape := ⟨4, ![8, 10, 512, 512]⟩
abbrev S8x10 : Shape := ⟨2, ![8, 10]⟩
abbrev S_ : Shape := ⟨0, ![]⟩
abbrev S8x10x10 : Shape := ⟨3, ![8, 10, 10]⟩

class Facts : Prop where
  bcast_S_S8x10 : S_.BroadcastsInDim S8x10 (![] : Fin 0 → Fin S8x10.rank)
  bcast_S8x10_S8x10x10_0_1 : S8x10.BroadcastsInDim S8x10x10 (![0, 1] : Fin 2 → Fin S8x10x10.rank)
  bcast_S8x10_S8x10x10_0_2 : S8x10.BroadcastsInDim S8x10x10 (![0, 2] : Fin 2 → Fin S8x10x10.rank)
  bcast_S_S8x100x80 : S_.BroadcastsInDim S8x100x80 (![] : Fin 0 → Fin S8x100x80.rank)

variable [Facts]

def fn_part1 {F : FTy → Type} [FloatOps F] (main_v4 : IVec S8x10 1) (main_v11 : IVec S8x10x10 1) (main_v13 : IVec S8x10 1) (main_v18 : IVec S8x10 1) (main_v19 : FVec F S8x100x80 .f32) : IVec S8x10 1 × IVec S8x10x10 1 × IVec S8x10 1 × IVec S8x10 1 × IVec S8x100x80 1 :=
  let main_cst : FVec F S_ .f32 := constant S_ .f32 0x7F800000#32
  let main_v20 : FVec F S8x100x80 .f32 := broadcastInDim S8x100x80 ![] bcast_S_S8x100x80 main_cst
  let main_v21 : IVec S8x100x80 1 := cmpf .olt main_v19 main_v20
  (main_v4, main_v11, main_v13, main_v18, main_v21)

def fn {F : FTy → Type} [FloatOps F] (main_arg0 : FVec F S8x100x80 .f32) (main_arg1 : FVec F S8x100x128x128 .f32) (main_arg2 : FVec F S8x100x1 .f32) (main_arg3 : FVec F S8x10x512x512 .f32) (main_arg4 : IVec S8x10 32) (main_arg5 : IVec S8x10 32) (main_arg6 : IVec S8x10 32) : IVec S8x10 1 × IVec S8x10x10 1 × IVec S8x10 1 × IVec S8x10 1 × IVec S8x100x80 1 :=
  let main_c : IVec S_ 32 := constantI S_ 32 0#32
  let main_v0 : IVec S8x10 32 := broadcastInDim S8x10 ![] bcast_S_S8x10 main_c
  let main_v1 : IVec S8x10 1 := cmpi .sge main_arg5 main_v0
  let main_c_0 : IVec S_ 32 := constantI S_ 32 100#32
  let main_v2 : IVec S8x10 32 := broadcastInDim S8x10 ![] bcast_S_S8x10 main_c_0
  let main_v3 : IVec S8x10 1 := cmpi .slt main_arg5 main_v2
  let main_v4 : IVec S8x10 1 := andi main_v1 main_v3
  let main_v5 : IVec S8x10x10 32 := iotaInDim S8x10x10 32 1
  let main_v6 : IVec S8x10x10 32 := iotaInDim S8x10x10 32 2
  let main_v7 : IVec S8x10x10 32 := broadcastInDim S8x10x10 ![0, 1] bcast_S8x10_S8x10x10_0_1 main_arg5
  let main_v8 : IVec S8x10x10 32 := broadcastInDim S8x10x10 ![0, 2] bcast_S8x10_S8x10x10_0_2 main_arg5
  let main_v9 : IVec S8x10x10 1 := cmpi .ne main_v7 main_v8
  let main_v10 : IVec S8x10x10 1 := cmpi .eq main_v5 main_v6
  let main_v11 : IVec S8x10x10 1 := ori main_v9 main_v10
  let main_v12 : IVec S8x10 32 := iotaInDim S8x10 32 1
  let main_v13 : IVec S8x10 1 := cmpi .eq main_arg6 main_v12
  let main_c_1 : IVec S_ 32 := constantI S_ 32 0#32
  let main_v14 : IVec S8x10 32 := broadcastInDim S8x10 ![] bcast_S_S8x10 main_c_1
  let main_v15 : IVec S8x10 1 := cmpi .sge main_arg4 main_v14
  let main_c_2 : IVec S_ 32 := constantI S_ 32 80#32
  let main_v16 : IVec S8x10 32 := broadcastInDim S8x10 ![] bcast_S_S8x10 main_c_2
  let main_v17 : IVec S8x10 1 := cmpi .slt main_arg4 main_v16
  let main_v18 : IVec S8x10 1 := andi main_v15 main_v17
  let main_v19 : FVec F S8x100x80 .f32 := Host.absf main_arg0
  fn_part1 (F := F) main_v4 main_v11 main_v13 main_v18 main_v19
-- ==== Kernel.lean ====
abbrev S8x100x80 : Shape := ⟨3, ![8, 100, 80]⟩
abbrev S8x100x128x128 : Shape := ⟨4, ![8, 100, 128, 128]⟩
abbrev S8x100x1 : Shape := ⟨3, ![8, 100, 1]⟩
abbrev S8x10x512x512 : Shape := ⟨4, ![8, 10, 512, 512]⟩
abbrev S8x10 : Shape := ⟨2, ![8, 10]⟩
abbrev S8 : Shape := ⟨1, ![8]⟩
abbrev S80 : Shape := ⟨1, ![80]⟩
abbrev S_ : Shape := ⟨0, ![]⟩
abbrev S128 : Shape := ⟨1, ![128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S5x8192x512 : Shape := ⟨3, ![5, 8192, 512]⟩
abbrev S800x128x128 : Shape := ⟨3, ![800, 128, 128]⟩
abbrev S5x160x80 : Shape := ⟨3, ![5, 160, 80]⟩
abbrev S800x80 : Shape := ⟨2, ![800, 80]⟩
abbrev S800x1 : Shape := ⟨2, ![800, 1]⟩
abbrev S1x1 : Shape := ⟨2, ![1, 1]⟩
abbrev S1x160x80 : Shape := ⟨3, ![1, 160, 80]⟩
abbrev S1x8192x512 : Shape := ⟨3, ![1, 8192, 512]⟩
abbrev S1x128x128 : Shape := ⟨3, ![1, 128, 128]⟩
abbrev S1 : Shape := ⟨1, ![1]⟩
abbrev S160x80 : Shape := ⟨2, ![160, 80]⟩
abbrev S1x80 : Shape := ⟨2, ![1, 80]⟩
abbrev S1x48 : Shape := ⟨2, ![1, 48]⟩
abbrev S8192x512 : Shape := ⟨2, ![8192, 512]⟩
abbrev S8192x128 : Shape := ⟨2, ![8192, 128]⟩
abbrev S128x128 : Shape := ⟨2, ![128, 128]⟩
abbrev S2048x128 : Shape := ⟨2, ![2048, 128]⟩
abbrev S16x128x128 : Shape := ⟨3, ![16, 128, 128]⟩
abbrev S16x128 : Shape := ⟨2, ![16, 128]⟩
abbrev S113x128 : Shape := ⟨2, ![113, 128]⟩
abbrev S113 : Shape := ⟨1, ![113]⟩
abbrev S16 : Shape := ⟨1, ![16]⟩
abbrev S1x16 : Shape := ⟨2, ![1, 16]⟩
abbrev S16x80 : Shape := ⟨2, ![16, 80]⟩
abbrev S16x1 : Shape := ⟨2, ![16, 1]⟩

abbrev nBuf : Space → Nat
  | .hbm => 80
  | .vmem => 40
  | .smem => 7
  | _ => 0

abbrev bufTy : (tb : Table) → Fin (tcTables nBuf tb) → BufTy
  | .hbm, ⟨0, _⟩ => ⟨S8x100x80, .f32⟩
  | .hbm, ⟨1, _⟩ => ⟨S8x100x128x128, .f32⟩
  | .hbm, ⟨2, _⟩ => ⟨S8x100x1, .f32⟩
  | .hbm, ⟨3, _⟩ => ⟨S8x10x512x512, .f32⟩
  | .hbm, ⟨4, _⟩ => ⟨S8x10, .i32⟩
  | .hbm, ⟨5, _⟩ => ⟨S8x10, .i32⟩
  | .hbm, ⟨6, _⟩ => ⟨S8x10, .i32⟩
  | .hbm, ⟨7, _⟩ => ⟨S8, .i32⟩
  | .hbm, ⟨8, _⟩ => ⟨S8x10, .i32⟩
  | .hbm, ⟨9, _⟩ => ⟨S80, .i32⟩
  | .hbm, ⟨10, _⟩ => ⟨S_, .i32⟩
  | .hbm, ⟨11, _⟩ => ⟨S80, .i32⟩
  | .hbm, ⟨12, _⟩ => ⟨S80, .i32⟩
  | .hbm, ⟨13, _⟩ => ⟨S80, .i32⟩
  | .hbm, ⟨14, _⟩ => ⟨S_, .i32⟩
  | .hbm, ⟨15, _⟩ => ⟨S80, .i32⟩
  | .hbm, ⟨16, _⟩ => ⟨S80, .i32⟩
  | .hbm, ⟨17, _⟩ => ⟨S80, .i32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S512, .f32⟩
  | .hbm, ⟨30, _⟩ => ⟨S512x1, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S512x128, .f32⟩
  | .hbm, ⟨48, _⟩ => ⟨S512x128, .f32⟩
  | .hbm, ⟨49, _⟩ => ⟨S512x128, .bf16⟩
  | .hbm, ⟨50, _⟩ => ⟨S128x512, .bf16⟩
  | .hbm, ⟨51, _⟩ => ⟨S5x8192x512, .f32⟩
  | .hbm, ⟨52, _⟩ => ⟨S800x128x128, .f32⟩
  | .hbm, ⟨53, _⟩ => ⟨S5x160x80, .f32⟩
  | .hbm, ⟨54, _⟩ => ⟨S800x80, .f32⟩
  | .hbm, ⟨55, _⟩ => ⟨S800x1, .f32⟩
  | .hbm, ⟨56, _⟩ => ⟨S1x1, .f32⟩
  | .hbm, ⟨57, _⟩ => ⟨S1x1, .f32⟩
  | .hbm, ⟨58, _⟩ => ⟨S1x1, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S1x160x80, .f32⟩
  | .local _ .vmem, ⟨1, _⟩ => ⟨S1x160x80, .f32⟩
  | .local _ .vmem, ⟨2, _⟩ => ⟨S800x80, .f32⟩
  | .local _ .vmem, ⟨3, _⟩ => ⟨S800x1, .f32⟩
  | .local _ .vmem, ⟨4, _⟩ => ⟨S1x8192x512, .f32⟩
  | .local _ .vmem, ⟨5, _⟩ => ⟨S1x8192x512, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S1x128x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S1x128x128, .f32⟩
  | .local _ .vmem, ⟨38, _⟩ => ⟨S512x128, .bf16⟩
  | .local _ .vmem, ⟨39, _⟩ => ⟨S128x512, .bf16⟩
  | .local _ .smem, ⟨0, _⟩ => ⟨S80, .i32⟩
  | .local _ .smem, ⟨1, _⟩ => ⟨S80, .i32⟩
  | .local _ .smem, ⟨2, _⟩ => ⟨S80, .i32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S8x100x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v43_3 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v6 : Ref sig .tc := ⟨.smem, 0, rfl⟩
abbrev main_v10 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.smem, 3, rfl⟩
abbrev cc0_stg23_0 : Ref sig .tc := ⟨.smem, 4, rfl⟩
abbrev cc0_stg24_0 : Ref sig .tc := ⟨.smem, 5, rfl⟩
abbrev cc0_stg25_0 : Ref sig .tc := ⟨.smem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43

abbrev nD : Nat := 1
abbrev τ : Topo := Topo.v7x

variable {F : FTy → Type} [FloatOps F]

abbrev grid0 : Pipeline.Grid := ⟨1, ![5], ![false]⟩

abbrev pre0 : Pipeline.Prefetch sig := ⟨3, ![main_v6.idx, main_v10.idx, main_v11.idx], fun | 0 => main_v6.names | 1 => main_v10.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let c16_i32 : BitVec 32 := 16#32
  let arg0 : BitVec 32 := BitVec.ofNat 32 (i 0).val
  let v0 : BitVec 32 := Scalar.muli c16_i32 arg0
  let v1 : BitVec 32 := Scalar.addi v0 c0_i32
  let v2 : Index := Scalar.indexCast v1
  ![v2.toNat]
def k0_off2 (v207 : BitVec 32) : Fin 2 → Nat :=
  let v208 : Index := Scalar.indexCast v207
  let c0_131 : Index := 0#32
  ![v208.toNat, 0]

def k0_chk1 (v207 : BitVec 32) : Prop :=
  (∀ a, (k0_off2 v207) a + S1x1.size a ≤ S800x1.size a)
theorem k0_off2_inb : ∀ (v207 : BitVec 32) (k0_hw1 : k0_chk1 v207), ∀ a, (k0_off2 v207) a + S1x1.size a ≤ S800x1.size a := fun v207 k0_hw1 => k0_hw1

def k0_off3 (i : grid0.Coords) : Fin 1 → Nat :=
  let c16_i32_132 : BitVec 32 := 16#32
  let arg0 : BitVec 32 := BitVec.ofNat 32 (i 0).val
  let v211 : BitVec 32 := Scalar.muli c16_i32_132 arg0
  let c1_i32 : BitVec 32 := 1#32
  let v212 : BitVec 32 := Scalar.addi v211 c1_i32
  let v213 : Index := Scalar.indexCast v212
  ![v213.toNat]
def k0_off4 (v214 : BitVec 32) : Fin 2 → Nat :=
  let v215 : Index := Scalar.indexCast v214
  let c0_133 : Index := 0#32
  ![v215.toNat, 0]

def k0_chk2 (v214 : BitVec 32) : Prop :=
  (∀ a, (k0_off4 v214) a + S1x1.size a ≤ S800x1.size a)
theorem k0_off4_inb : ∀ (v214 : BitVec 32) (k0_hw2 : k0_chk2 v214), ∀ a, (k0_off4 v214) a + S1x1.size a ≤ S800x1.size a := fun v214 k0_hw2 => k0_hw2

def k0_off5 (i : grid0.Coords) : Fin 1 → Nat :=
  let c16_i32_134 : BitVec 32 := 16#32
  let arg0 : BitVec 32 := BitVec.ofNat 32 (i 0).val
  let v218 : BitVec 32 := Scalar.muli c16_i32_134 arg0
  let c2_i32 : BitVec 32 := 2#32
  let v219 : BitVec 32 := Scalar.addi v218 c2_i32
  let v220 : Index := Scalar.indexCast v219
  ![v220.toNat]
def k0_off6 (v221 : BitVec 32) : Fin 2 → Nat :=
  let v222 : Index := Scalar.indexCast v221
  let c0_135 : Index := 0#32
  ![v222.toNat, 0]

def k0_chk3 (v221 : BitVec 32) : Prop :=
  (∀ a, (k0_off6 v221) a + S1x1.size a ≤ S800x1.size a)
theorem k0_off6_inb : ∀ (v221 : BitVec 32) (k0_hw3 : k0_chk3 v221), ∀ a, (k0_off6 v221) a + S1x1.size a ≤ S800x1.size a := fun v221 k0_hw3 => k0_hw3

def k0_off7 (i : grid0.Coords) : Fin 1 → Nat :=
  let c16_i32_136 : BitVec 32 := 16#32
  let arg0 : BitVec 32 := BitVec.ofNat 32 (i 0).val
  let v225 : BitVec 32 := Scalar.muli c16_i32_136 arg0
  let c3_i32 : BitVec 32 := 3#32
  let v226 : BitVec 32 := Scalar.addi v225 c3_i32
  let v227 : Index := Scalar.indexCast v226
  ![v227.toNat]
def k0_off8 (v228 : BitVec 32) : Fin 2 → Nat :=
  let v229 : Index := Scalar.indexCast v228
  let c0_137 : Index := 0#32
  ![v229.toNat, 0]

def k0_chk4 (v228 : BitVec 32) : Prop :=
  (∀ a, (k0_off8 v228) a + S1x1.size a ≤ S800x1.size a)
theorem k0_off8_inb : ∀ (v228 : BitVec 32) (k0_hw4 : k0_chk4 v228), ∀ a, (k0_off8 v228) a + S1x1.size a ≤ S800x1.size a := fun v228 k0_hw4 => k0_hw4

def k0_off9 (i : grid0.Coords) : Fin 1 → Nat :=
  let c16_i32_138 : BitVec 32 := 16#32
  let arg0 : BitVec 32 := BitVec.ofNat 32 (i 0).val
  let v232 : BitVec 32 := Scalar.muli c16_i32_138 arg0
  let c4_i32 : BitVec 32 := 4#32
  let v233 : BitVec 32 := Scalar.addi v232 c4_i32
  let v234 : Index := Scalar.indexCast v233
  ![v234.toNat]
def k0_off10 (v235 : BitVec 32) : Fin 2 → Nat :=
  let v236 : Index := Scalar.indexCast v235
  let c0_139 : Index := 0#32
  ![v236.toNat, 0]

def k0_chk5 (v235 : BitVec 32) : Prop :=
  (∀ a, (k0_off10 v235) a + S1x1.size a ≤ S800x1.size a)
theorem k0_off10_inb : ∀ (v235 : BitVec 32) (k0_hw5 : k0_chk5 v235), ∀ a, (k0_off10 v235) a + S1x1.size a ≤ S800x1.size a := fun v235 k0_hw5 => k0_hw5

def k0_off11 (i : grid0.Coords) : Fin 1 → Nat :=
  let c16_i32_140 : BitVec 32 := 16#32
  let arg0 : BitVec 32 := BitVec.ofNat 32 (i 0).val
  let v239 : BitVec 32 := Scalar.muli c16_i32_140 arg0
  let c5_i32 : BitVec 32 := 5#32
  let v240 : BitVec 32 := Scalar.addi v239 c5_i32
  let v241 : Index := Scalar.indexCast v240
  ![v241.toNat]
def k0_off12 (v242 : BitVec 32) : Fin 2 → Nat :=
  let v243 : Index := Scalar.indexCast v242
  let c0_141 : Index := 0#32
  ![v243.toNat, 0]

def k0_chk6 (v242 : BitVec 32) : Prop :=
  (∀ a, (k0_off12 v242) a + S1x1.size a ≤ S800x1.size a)
theorem k0_off12_inb : ∀ (v242 : BitVec 32) (k0_hw6 : k0_chk6 v242), ∀ a, (k0_off12 v242) a + S1x1.size a ≤ S800x1.size a := fun v242 k0_hw6 => k0_hw6

def k0_off13 (i : grid0.Coords) : Fin 1 → Nat :=
  let c16_i32_142 : BitVec 32 := 16#32
  let arg0 : BitVec 32 := BitVec.ofNat 32 (i 0).val
  let v246 : BitVec 32 := Scalar.muli c16_i32_142 arg0
  let c6_i32 : BitVec 32 := 6#32
  let v247 : BitVec 32 := Scalar.addi v246 c6_i32
  let v248 : Index := Scalar.indexCast v247
  ![v248.toNat]
def k0_off14 (v249 : BitVec 32) : Fin 2 → Nat :=
  let v250 : Index := Scalar.indexCast v249
  let c0_143 : Index := 0#32
  ![v250.toNat, 0]

def k0_chk7 (v249 : BitVec 32) : Prop :=
  (∀ a, (k0_off14 v249) a + S1x1.size a ≤ S800x1.size a)
theorem k0_off14_inb : ∀ (v249 : BitVec 32) (k0_hw7 : k0_chk7 v249), ∀ a, (k0_off14 v249) a + S1x1.size a ≤ S800x1.size a := fun v249 k0_hw7 => k0_hw7

def k0_off15 (i : grid0.Coords) : Fin 1 → Nat :=
  let c16_i32_144 : BitVec 32 := 16#32
  let arg0 : BitVec 32 := BitVec.ofNat 32 (i 0).val
  let v253 : BitVec 32 := Scalar.muli c16_i32_144 arg0
  let c7_i32 : BitVec 32 := 7#32
  let v254 : BitVec 32 := Scalar.addi v253 c7_i32
  let v255 : Index := Scalar.indexCast v254
  ![v255.toNat]
def k0_off16 (v256 : BitVec 32) : Fin 2 → Nat :=
  let v257 : Index := Scalar.indexCast v256
  let c0_145 : Index := 0#32
  ![v257.toNat, 0]

def k0_chk8 (v256 : BitVec 32) : Prop :=
  (∀ a, (k0_off16 v256) a + S1x1.size a ≤ S800x1.size a)
theorem k0_off16_inb : ∀ (v256 : BitVec 32) (k0_hw8 : k0_chk8 v256), ∀ a, (k0_off16 v256) a + S1x1.size a ≤ S800x1.size a := fun v256 k0_hw8 => k0_hw8

def k0_off17 (i : grid0.Coords) : Fin 1 → Nat :=
  let c16_i32_146 : BitVec 32 := 16#32
  let arg0 : BitVec 32 := BitVec.ofNat 32 (i 0).val
  let v260 : BitVec 32 := Scalar.muli c16_i32_146 arg0
  let c8_i32 : BitVec 32 := 8#32
  let v261 : BitVec 32 := Scalar.addi v260 c8_i32
  let v262 : Index := Scalar.indexCast v261
  ![v262.toNat]
def k0_off18 (v263 : BitVec 32) : Fin 2 → Nat :=
  let v264 : Index := Scalar.indexCast v263
  let c0_147 : Index := 0#32
  ![v264.toNat, 0]

def k0_chk9 (v263 : BitVec 32) : Prop :=
  (∀ a, (k0_off18 v263) a + S1x1.size a ≤ S800x1.size a)
theorem k0_off18_inb : ∀ (v263 : BitVec 32) (k0_hw9 : k0_chk9 v263), ∀ a, (k0_off18 v263) a + S1x1.size a ≤ S800x1.size a := fun v263 k0_hw9 => k0_hw9

def k0_off19 (i : grid0.Coords) : Fin 1 → Nat :=
  let c16_i32_148 : BitVec 32 := 16#32
  let arg0 : BitVec 32 := BitVec.ofNat 32 (i 0).val
  let v267 : BitVec 32 := Scalar.muli c16_i32_148 arg0
  let c9_i32 : BitVec 32 := 9#32
  let v268 : BitVec 32 := Scalar.addi v267 c9_i32
  let v269 : Index := Scalar.indexCast v268
  ![v269.toNat]
def k0_off20 (v270 : BitVec 32) : Fin 2 → Nat :=
  let v271 : Index := Scalar.indexCast v270
  let c0_149 : Index := 0#32
  ![v271.toNat, 0]

def k0_chk10 (v270 : BitVec 32) : Prop :=
  (∀ a, (k0_off20 v270) a + S1x1.size a ≤ S800x1.size a)
theorem k0_off20_inb : ∀ (v270 : BitVec 32) (k0_hw10 : k0_chk10 v270), ∀ a, (k0_off20 v270) a + S1x1.size a ≤ S800x1.size a := fun v270 k0_hw10 => k0_hw10

def k0_off21 (i : grid0.Coords) : Fin 1 → Nat :=
  let c16_i32_150 : BitVec 32 := 16#32
  let arg0 : BitVec 32 := BitVec.ofNat 32 (i 0).val
  let v274 : BitVec 32 := Scalar.muli c16_i32_150 arg0
  let c10_i32 : BitVec 32 := 10#32
  let v275 : BitVec 32 := Scalar.addi v274 c10_i32
  let v276 : Index := Scalar.indexCast v275
  ![v276.toNat]
def k0_off22 (v277 : BitVec 32) : Fin 2 → Nat :=
  let v278 : Index := Scalar.indexCast v277
  let c0_151 : Index := 0#32
  ![v278.toNat, 0]

def k0_chk11 (v277 : BitVec 32) : Prop :=
  (∀ a, (k0_off22 v277) a + S1x1.size a ≤ S800x1.size a)
theorem k0_off22_inb : ∀ (v277 : BitVec 32) (k0_hw11 : k0_chk11 v277), ∀ a, (k0_off22 v277) a + S1x1.size a ≤ S800x1.size a := fun v277 k0_hw11 => k0_hw11

def k0_off23 (i : grid0.Coords) : Fin 1 → Nat :=
  let c16_i32_152 : BitVec 32 := 16#32
  let arg0 : BitVec 32 := BitVec.ofNat 32 (i 0).val
  let v281 : BitVec 32 := Scalar.muli c16_i32_152 arg0
  let c11_i32 : BitVec 32 := 11#32
  let v282 : BitVec 32 := Scalar.addi v281 c11_i32
  let v283 : Index := Scalar.indexCast v282
  ![v283.toNat]
def k0_off24 (v284 : BitVec 32) : Fin 2 → Nat :=
  let v285 : Index := Scalar.indexCast v284
  let c0_153 : Index := 0#32
  ![v285.toNat, 0]

def k0_chk12 (v284 : BitVec 32) : Prop :=
  (∀ a, (k0_off24 v284) a + S1x1.size a ≤ S800x1.size a)
theorem k0_off24_inb : ∀ (v284 : BitVec 32) (k0_hw12 : k0_chk12 v284), ∀ a, (k0_off24 v284) a + S1x1.size a ≤ S800x1.size a := fun v284 k0_hw12 => k0_hw12

def k0_off25 (i : grid0.Coords) : Fin 1 → Nat :=
  let c16_i32_154 : BitVec 32 := 16#32
  let arg0 : BitVec 32 := BitVec.ofNat 32 (i 0).val
  let v288 : BitVec 32 := Scalar.muli c16_i32_154 arg0
  let c12_i32 : BitVec 32 := 12#32
  let v289 : BitVec 32 := Scalar.addi v288 c12_i32
  let v290 : Index := Scalar.indexCast v289
  ![v290.toNat]
def k0_off26 (v291 : BitVec 32) : Fin 2 → Nat :=
  let v292 : Index := Scalar.indexCast v291
  let c0_155 : Index := 0#32
  ![v292.toNat, 0]

def k0_chk13 (v291 : BitVec 32) : Prop :=
  (∀ a, (k0_off26 v291) a + S1x1.size a ≤ S800x1.size a)
theorem k0_off26_inb : ∀ (v291 : BitVec 32) (k0_hw13 : k0_chk13 v291), ∀ a, (k0_off26 v291) a + S1x1.size a ≤ S800x1.size a := fun v291 k0_hw13 => k0_hw13

def k0_off27 (i : grid0.Coords) : Fin 1 → Nat :=
  let c16_i32_156 : BitVec 32 := 16#32
  let arg0 : BitVec 32 := BitVec.ofNat 32 (i 0).val
  let v295 : BitVec 32 := Scalar.muli c16_i32_156 arg0
  let c13_i32 : BitVec 32 := 13#32
  let v296 : BitVec 32 := Scalar.addi v295 c13_i32
  let v297 : Index := Scalar.indexCast v296
  ![v297.toNat]
def k0_off28 (v298 : BitVec 32) : Fin 2 → Nat :=
  let v299 : Index := Scalar.indexCast v298
  let c0_157 : Index := 0#32
  ![v299.toNat, 0]

def k0_chk14 (v298 : BitVec 32) : Prop :=
  (∀ a, (k0_off28 v298) a + S1x1.size a ≤ S800x1.size a)
theorem k0_off28_inb : ∀ (v298 : BitVec 32) (k0_hw14 : k0_chk14 v298), ∀ a, (k0_off28 v298) a + S1x1.size a ≤ S800x1.size a := fun v298 k0_hw14 => k0_hw14

def k0_off29 (i : grid0.Coords) : Fin 1 → Nat :=
  let c16_i32_158 : BitVec 32 := 16#32
  let arg0 : BitVec 32 := BitVec.ofNat 32 (i 0).val
  let v302 : BitVec 32 := Scalar.muli c16_i32_158 arg0
  let c14_i32 : BitVec 32 := 14#32
  let v303 : BitVec 32 := Scalar.addi v302 c14_i32
  let v304 : Index := Scalar.indexCast v303
  ![v304.toNat]
def k0_off30 (v305 : BitVec 32) : Fin 2 → Nat :=
  let v306 : Index := Scalar.indexCast v305
  let c0_159 : Index := 0#32
  ![v306.toNat, 0]

def k0_chk15 (v305 : BitVec 32) : Prop :=
  (∀ a, (k0_off30 v305) a + S1x1.size a ≤ S800x1.size a)
theorem k0_off30_inb : ∀ (v305 : BitVec 32) (k0_hw15 : k0_chk15 v305), ∀ a, (k0_off30 v305) a + S1x1.size a ≤ S800x1.size a := fun v305 k0_hw15 => k0_hw15

def k0_off31 (i : grid0.Coords) : Fin 1 → Nat :=
  let c16_i32_160 : BitVec 32 := 16#32
  let arg0 : BitVec 32 := BitVec.ofNat 32 (i 0).val
  let v309 : BitVec 32 := Scalar.muli c16_i32_160 arg0
  let c15_i32 : BitVec 32 := 15#32
  let v310 : BitVec 32 := Scalar.addi v309 c15_i32
  let v311 : Index := Scalar.indexCast v310
  ![v311.toNat]
def k0_off32 (v312 : BitVec 32) : Fin 2 → Nat :=
  let v313 : Index := Scalar.indexCast v312
  let c0_161 : Index := 0#32
  ![v313.toNat, 0]

def k0_chk16 (v312 : BitVec 32) : Prop :=
  (∀ a, (k0_off32 v312) a + S1x1.size a ≤ S800x1.size a)
theorem k0_off32_inb : ∀ (v312 : BitVec 32) (k0_hw16 : k0_chk16 v312), ∀ a, (k0_off32 v312) a + S1x1.size a ≤ S800x1.size a := fun v312 k0_hw16 => k0_hw16

def k0_off33 (i : grid0.Coords) : Fin 1 → Nat :=
  let c16_i32_162 : BitVec 32 := 16#32
  let arg0 : BitVec 32 := BitVec.ofNat 32 (i 0).val
  let v333 : BitVec 32 := Scalar.muli c16_i32_162 arg0
  let c0_i32_163 : BitVec 32 := 0#32
  let v334 : BitVec 32 := Scalar.addi v333 c0_i32_163
  let v335 : Index := Scalar.indexCast v334
  ![v335.toNat]
def k0_off34 (v336 : BitVec 32) : Fin 2 → Nat :=
  let v337 : Index := Scalar.indexCast v336
  let c0_164 : Index := 0#32
  ![v337.toNat, 0]

def k0_chk17 (v336 : BitVec 32) : Prop :=
  (∀ a, (k0_off34 v336) a + S1x80.size a ≤ S800x80.size a)
theorem k0_off34_inb : ∀ (v336 : BitVec 32) (k0_hw17 : k0_chk17 v336), ∀ a, (k0_off34 v336) a + S1x80.size a ≤ S800x80.size a := fun v336 k0_hw17 => k0_hw17

def k0_off35 (i : grid0.Coords) : Fin 1 → Nat :=
  let c16_i32_165 : BitVec 32 := 16#32
  let arg0 : BitVec 32 := BitVec.ofNat 32 (i 0).val
  let v340 : BitVec 32 := Scalar.muli c16_i32_165 arg0
  let c1_i32_166 : BitVec 32 := 1#32
  let v341 : BitVec 32 := Scalar.addi v340 c1_i32_166
  let v342 : Index := Scalar.indexCast v341
  ![v342.toNat]
def k0_off36 (v343 : BitVec 32) : Fin 2 → Nat :=
  let v344 : Index := Scalar.indexCast v343
  let c0_167 : Index := 0#32
  ![v344.toNat, 0]

def k0_chk18 (v343 : BitVec 32) : Prop :=
  (∀ a, (k0_off36 v343) a + S1x80.size a ≤ S800x80.size a)
theorem k0_off36_inb : ∀ (v343 : BitVec 32) (k0_hw18 : k0_chk18 v343), ∀ a, (k0_off36 v343) a + S1x80.size a ≤ S800x80.size a := fun v343 k0_hw18 => k0_hw18

def k0_off37 (i : grid0.Coords) : Fin 1 → Nat :=
  let c16_i32_168 : BitVec 32 := 16#32
  let arg0 : BitVec 32 := BitVec.ofNat 32 (i 0).val
  let v347 : BitVec 32 := Scalar.muli c16_i32_168 arg0
  let c2_i32_169 : BitVec 32 := 2#32
  let v348 : BitVec 32 := Scalar.addi v347 c2_i32_169
  let v349 : Index := Scalar.indexCast v348
  ![v349.toNat]
def k0_off38 (v350 : BitVec 32) : Fin 2 → Nat :=
  let v351 : Index := Scalar.indexCast v350
  let c0_170 : Index := 0#32
  ![v351.toNat, 0]

def k0_chk19 (v350 : BitVec 32) : Prop :=
  (∀ a, (k0_off38 v350) a + S1x80.size a ≤ S800x80.size a)
theorem k0_off38_inb : ∀ (v350 : BitVec 32) (k0_hw19 : k0_chk19 v350), ∀ a, (k0_off38 v350) a + S1x80.size a ≤ S800x80.size a := fun v350 k0_hw19 => k0_hw19

def k0_off39 (i : grid0.Coords) : Fin 1 → Nat :=
  let c16_i32_171 : BitVec 32 := 16#32
  let arg0 : BitVec 32 := BitVec.ofNat 32 (i 0).val
  let v354 : BitVec 32 := Scalar.muli c16_i32_171 arg0
  let c3_i32_172 : BitVec 32 := 3#32
  let v355 : BitVec 32 := Scalar.addi v354 c3_i32_172
  let v356 : Index := Scalar.indexCast v355
  ![v356.toNat]
def k0_off40 (v357 : BitVec 32) : Fin 2 → Nat :=
  let v358 : Index := Scalar.indexCast v357
  let c0_173 : Index := 0#32
  ![v358.toNat, 0]

def k0_chk20 (v357 : BitVec 32) : Prop :=
  (∀ a, (k0_off40 v357) a + S1x80.size a ≤ S800x80.size a)
theorem k0_off40_inb : ∀ (v357 : BitVec 32) (k0_hw20 : k0_chk20 v357), ∀ a, (k0_off40 v357) a + S1x80.size a ≤ S800x80.size a := fun v357 k0_hw20 => k0_hw20

def k0_off41 (i : grid0.Coords) : Fin 1 → Nat :=
  let c16_i32_174 : BitVec 32 := 16#32
  let arg0 : BitVec 32 := BitVec.ofNat 32 (i 0).val
  let v361 : BitVec 32 := Scalar.muli c16_i32_174 arg0
  let c4_i32_175 : BitVec 32 := 4#32
  let v362 : BitVec 32 := Scalar.addi v361 c4_i32_175
  let v363 : Index := Scalar.indexCast v362
  ![v363.toNat]
def k0_off42 (v364 : BitVec 32) : Fin 2 → Nat :=
  let v365 : Index := Scalar.indexCast v364
  let c0_176 : Index := 0#32
  ![v365.toNat, 0]

def k0_chk21 (v364 : BitVec 32) : Prop :=
  (∀ a, (k0_off42 v364) a + S1x80.size a ≤ S800x80.size a)
theorem k0_off42_inb : ∀ (v364 : BitVec 32) (k0_hw21 : k0_chk21 v364), ∀ a, (k0_off42 v364) a + S1x80.size a ≤ S800x80.size a := fun v364 k0_hw21 => k0_hw21

def k0_off43 (i : grid0.Coords) : Fin 1 → Nat :=
  let c16_i32_177 : BitVec 32 := 16#32
  let arg0 : BitVec 32 := BitVec.ofNat 32 (i 0).val
  let v368 : BitVec 32 := Scalar.muli c16_i32_177 arg0
  let c5_i32_178 : BitVec 32 := 5#32
  let v369 : BitVec 32 := Scalar.addi v368 c5_i32_178
  let v370 : Index := Scalar.indexCast v369
  ![v370.toNat]
def k0_off44 (v371 : BitVec 32) : Fin 2 → Nat :=
  let v372 : Index := Scalar.indexCast v371
  let c0_179 : Index := 0#32
  ![v372.toNat, 0]

def k0_chk22 (v371 : BitVec 32) : Prop :=
  (∀ a, (k0_off44 v371) a + S1x80.size a ≤ S800x80.size a)
theorem k0_off44_inb : ∀ (v371 : BitVec 32) (k0_hw22 : k0_chk22 v371), ∀ a, (k0_off44 v371) a + S1x80.size a ≤ S800x80.size a := fun v371 k0_hw22 => k0_hw22

def k0_off45 (i : grid0.Coords) : Fin 1 → Nat :=
  let c16_i32_180 : BitVec 32 := 16#32
  let arg0 : BitVec 32 := BitVec.ofNat 32 (i 0).val
  let v375 : BitVec 32 := Scalar.muli c16_i32_180 arg0
  let c6_i32_181 : BitVec 32 := 6#32
  let v376 : BitVec 32 := Scalar.addi v375 c6_i32_181
  let v377 : Index := Scalar.indexCast v376
  ![v377.toNat]
def k0_off46 (v378 : BitVec 32) : Fin 2 → Nat :=
  let v379 : Index := Scalar.indexCast v378
  let c0_182 : Index := 0#32
  ![v379.toNat, 0]

def k0_chk23 (v378 : BitVec 32) : Prop :=
  (∀ a, (k0_off46 v378) a + S1x80.size a ≤ S800x80.size a)
theorem k0_off46_inb : ∀ (v378 : BitVec 32) (k0_hw23 : k0_chk23 v378), ∀ a, (k0_off46 v378) a + S1x80.size a ≤ S800x80.size a := fun v378 k0_hw23 => k0_hw23

def k0_off47 (i : grid0.Coords) : Fin 1 → Nat :=
  let c16_i32_183 : BitVec 32 := 16#32
  let arg0 : BitVec 32 := BitVec.ofNat 32 (i 0).val
  let v382 : BitVec 32 := Scalar.muli c16_i32_183 arg0
  let c7_i32_184 : BitVec 32 := 7#32
  let v383 : BitVec 32 := Scalar.addi v382 c7_i32_184
  let v384 : Index := Scalar.indexCast v383
  ![v384.toNat]
def k0_off48 (v385 : BitVec 32) : Fin 2 → Nat :=
  let v386 : Index := Scalar.indexCast v385
  let c0_185 : Index := 0#32
  ![v386.toNat, 0]

def k0_chk24 (v385 : BitVec 32) : Prop :=
  (∀ a, (k0_off48 v385) a + S1x80.size a ≤ S800x80.size a)
theorem k0_off48_inb : ∀ (v385 : BitVec 32) (k0_hw24 : k0_chk24 v385), ∀ a, (k0_off48 v385) a + S1x80.size a ≤ S800x80.size a := fun v385 k0_hw24 => k0_hw24

def k0_off49 (i : grid0.Coords) : Fin 1 → Nat :=
  let c16_i32_186 : BitVec 32 := 16#32
  let arg0 : BitVec 32 := BitVec.ofNat 32 (i 0).val
  let v389 : BitVec 32 := Scalar.muli c16_i32_186 arg0
  let c8_i32_187 : BitVec 32 := 8#32
  let v390 : BitVec 32 := Scalar.addi v389 c8_i32_187
  let v391 : Index := Scalar.indexCast v390
  ![v391.toNat]
def k0_off50 (v392 : BitVec 32) : Fin 2 → Nat :=
  let v393 : Index := Scalar.indexCast v392
  let c0_188 : Index := 0#32
  ![v393.toNat, 0]

def k0_chk25 (v392 : BitVec 32) : Prop :=
  (∀ a, (k0_off50 v392) a + S1x80.size a ≤ S800x80.size a)
theorem k0_off50_inb : ∀ (v392 : BitVec 32) (k0_hw25 : k0_chk25 v392), ∀ a, (k0_off50 v392) a + S1x80.size a ≤ S800x80.size a := fun v392 k0_hw25 => k0_hw25

def k0_off51 (i : grid0.Coords) : Fin 1 → Nat :=
  let c16_i32_189 : BitVec 32 := 16#32
  let arg0 : BitVec 32 := BitVec.ofNat 32 (i 0).val
  let v396 : BitVec 32 := Scalar.muli c16_i32_189 arg0
  let c9_i32_190 : BitVec 32 := 9#32
  let v397 : BitVec 32 := Scalar.addi v396 c9_i32_190
  let v398 : Index := Scalar.indexCast v397
  ![v398.toNat]
def k0_off52 (v399 : BitVec 32) : Fin 2 → Nat :=
  let v400 : Index := Scalar.indexCast v399
  let c0_191 : Index := 0#32
  ![v400.toNat, 0]

def k0_chk26 (v399 : BitVec 32) : Prop :=
  (∀ a, (k0_off52 v399) a + S1x80.size a ≤ S800x80.size a)
theorem k0_off52_inb : ∀ (v399 : BitVec 32) (k0_hw26 : k0_chk26 v399), ∀ a, (k0_off52 v399) a + S1x80.size a ≤ S800x80.size a := fun v399 k0_hw26 => k0_hw26

def k0_off53 (i : grid0.Coords) : Fin 1 → Nat :=
  let c16_i32_192 : BitVec 32 := 16#32
  let arg0 : BitVec 32 := BitVec.ofNat 32 (i 0).val
  let v403 : BitVec 32 := Scalar.muli c16_i32_192 arg0
  let c10_i32_193 : BitVec 32 := 10#32
  let v404 : BitVec 32 := Scalar.addi v403 c10_i32_193
  let v405 : Index := Scalar.indexCast v404
  ![v405.toNat]
def k0_off54 (v406 : BitVec 32) : Fin 2 → Nat :=
  let v407 : Index := Scalar.indexCast v406
  let c0_194 : Index := 0#32
  ![v407.toNat, 0]

def k0_chk27 (v406 : BitVec 32) : Prop :=
  (∀ a, (k0_off54 v406) a + S1x80.size a ≤ S800x80.size a)
theorem k0_off54_inb : ∀ (v406 : BitVec 32) (k0_hw27 : k0_chk27 v406), ∀ a, (k0_off54 v406) a + S1x80.size a ≤ S800x80.size a := fun v406 k0_hw27 => k0_hw27

def k0_off55 (i : grid0.Coords) : Fin 1 → Nat :=
  let c16_i32_195 : BitVec 32 := 16#32
  let arg0 : BitVec 32 := BitVec.ofNat 32 (i 0).val
  let v410 : BitVec 32 := Scalar.muli c16_i32_195 arg0
  let c11_i32_196 : BitVec 32 := 11#32
  let v411 : BitVec 32 := Scalar.addi v410 c11_i32_196
  let v412 : Index := Scalar.indexCast v411
  ![v412.toNat]
def k0_off56 (v413 : BitVec 32) : Fin 2 → Nat :=
  let v414 : Index := Scalar.indexCast v413
  let c0_197 : Index := 0#32
  ![v414.toNat, 0]

def k0_chk28 (v413 : BitVec 32) : Prop :=
  (∀ a, (k0_off56 v413) a + S1x80.size a ≤ S800x80.size a)
theorem k0_off56_inb : ∀ (v413 : BitVec 32) (k0_hw28 : k0_chk28 v413), ∀ a, (k0_off56 v413) a + S1x80.size a ≤ S800x80.size a := fun v413 k0_hw28 => k0_hw28

def k0_off57 (i : grid0.Coords) : Fin 1 → Nat :=
  let c16_i32_198 : BitVec 32 := 16#32
  let arg0 : BitVec 32 := BitVec.ofNat 32 (i 0).val
  let v417 : BitVec 32 := Scalar.muli c16_i32_198 arg0
  let c12_i32_199 : BitVec 32 := 12#32
  let v418 : BitVec 32 := Scalar.addi v417 c12_i32_199
  let v419 : Index := Scalar.indexCast v418
  ![v419.toNat]
def k0_off58 (v420 : BitVec 32) : Fin 2 → Nat :=
  let v421 : Index := Scalar.indexCast v420
  let c0_200 : Index := 0#32
  ![v421.toNat, 0]

def k0_chk29 (v420 : BitVec 32) : Prop :=
  (∀ a, (k0_off58 v420) a + S1x80.size a ≤ S800x80.size a)
theorem k0_off58_inb : ∀ (v420 : BitVec 32) (k0_hw29 : k0_chk29 v420), ∀ a, (k0_off58 v420) a + S1x80.size a ≤ S800x80.size a := fun v420 k0_hw29 => k0_hw29

def k0_off59 (i : grid0.Coords) : Fin 1 → Nat :=
  let c16_i32_201 : BitVec 32 := 16#32
  let arg0 : BitVec 32 := BitVec.ofNat 32 (i 0).val
  let v424 : BitVec 32 := Scalar.muli c16_i32_201 arg0
  let c13_i32_202 : BitVec 32 := 13#32
  let v425 : BitVec 32 := Scalar.addi v424 c13_i32_202
  let v426 : Index := Scalar.indexCast v425
  ![v426.toNat]
def k0_off60 (v427 : BitVec 32) : Fin 2 → Nat :=
  let v428 : Index := Scalar.indexCast v427
  let c0_203 : Index := 0#32
  ![v428.toNat, 0]

def k0_chk30 (v427 : BitVec 32) : Prop :=
  (∀ a, (k0_off60 v427) a + S1x80.size a ≤ S800x80.size a)
theorem k0_off60_inb : ∀ (v427 : BitVec 32) (k0_hw30 : k0_chk30 v427), ∀ a, (k0_off60 v427) a + S1x80.size a ≤ S800x80.size a := fun v427 k0_hw30 => k0_hw30

def k0_off61 (i : grid0.Coords) : Fin 1 → Nat :=
  let c16_i32_204 : BitVec 32 := 16#32
  let arg0 : BitVec 32 := BitVec.ofNat 32 (i 0).val
  let v431 : BitVec 32 := Scalar.muli c16_i32_204 arg0
  let c14_i32_205 : BitVec 32 := 14#32
  let v432 : BitVec 32 := Scalar.addi v431 c14_i32_205
  let v433 : Index := Scalar.indexCast v432
  ![v433.toNat]
def k0_off62 (v434 : BitVec 32) : Fin 2 → Nat :=
  let v435 : Index := Scalar.indexCast v434
  let c0_206 : Index := 0#32
  ![v435.toNat, 0]

def k0_chk31 (v434 : BitVec 32) : Prop :=
  (∀ a, (k0_off62 v434) a + S1x80.size a ≤ S800x80.size a)
theorem k0_off62_inb : ∀ (v434 : BitVec 32) (k0_hw31 : k0_chk31 v434), ∀ a, (k0_off62 v434) a + S1x80.size a ≤ S800x80.size a := fun v434 k0_hw31 => k0_hw31

def k0_off63 (i : grid0.Coords) : Fin 1 → Nat :=
  let c16_i32_207 : BitVec 32 := 16#32
  let arg0 : BitVec 32 := BitVec.ofNat 32 (i 0).val
  let v438 : BitVec 32 := Scalar.muli c16_i32_207 arg0
  let c15_i32_208 : BitVec 32 := 15#32
  let v439 : BitVec 32 := Scalar.addi v438 c15_i32_208
  let v440 : Index := Scalar.indexCast v439
  ![v440.toNat]
def k0_off64 (v441 : BitVec 32) : Fin 2 → Nat :=
  let v442 : Index := Scalar.indexCast v441
  let c0_209 : Index := 0#32
  ![v442.toNat, 0]

def k0_chk32 (v441 : BitVec 32) : Prop :=
  (∀ a, (k0_off64 v441) a + S1x80.size a ≤ S800x80.size a)
theorem k0_off64_inb : ∀ (v441 : BitVec 32) (k0_hw32 : k0_chk32 v441), ∀ a, (k0_off64 v441) a + S1x80.size a ≤ S800x80.size a := fun v441 k0_hw32 => k0_hw32

def k0_off65 (i : grid0.Coords) : Fin 1 → Nat :=
  let c16_i32_210 : BitVec 32 := 16#32
  let arg0 : BitVec 32 := BitVec.ofNat 32 (i 0).val
  let v462 : BitVec 32 := Scalar.muli c16_i32_210 arg0
  let c0_i32_211 : BitVec 32 := 0#32
  let v463 : BitVec 32 := Scalar.addi v462 c0_i32_211
  let v464 : Index := Scalar.indexCast v463
  ![v464.toNat]
def k0_off66 (v465 : BitVec 32) : Fin 1 → Nat :=
  let v466 : Index := Scalar.indexCast v465
  ![v466.toNat]

def k0_chk33 (v465 : BitVec 32) : Prop :=
  (∀ a, (k0_off66 v465) a + S1.size a ≤ S80.size a)
theorem k0_off66_inb : ∀ (v465 : BitVec 32) (k0_hw33 : k0_chk33 v465), ∀ a, (k0_off66 v465) a + S1.size a ≤ S80.size a := fun v465 k0_hw33 => k0_hw33

def k0_off67 (i : grid0.Coords) : Fin 1 → Nat :=
  let c16_i32_212 : BitVec 32 := 16#32
  let arg0 : BitVec 32 := BitVec.ofNat 32 (i 0).val
  let v468 : BitVec 32 := Scalar.muli c16_i32_212 arg0
  let c1_i32_213 : BitVec 32 := 1#32
  let v469 : BitVec 32 := Scalar.addi v468 c1_i32_213
  let v470 : Index := Scalar.indexCast v469
  ![v470.toNat]
def k0_off68 (v471 : BitVec 32) : Fin 1 → Nat :=
  let v472 : Index := Scalar.indexCast v471
  ![v472.toNat]

def k0_chk34 (v471 : BitVec 32) : Prop :=
  (∀ a, (k0_off68 v471) a + S1.size a ≤ S80.size a)
theorem k0_off68_inb : ∀ (v471 : BitVec 32) (k0_hw34 : k0_chk34 v471), ∀ a, (k0_off68 v471) a + S1.size a ≤ S80.size a := fun v471 k0_hw34 => k0_hw34

def k0_off69 (i : grid0.Coords) : Fin 1 → Nat :=
  let c16_i32_214 : BitVec 32 := 16#32
  let arg0 : BitVec 32 := BitVec.ofNat 32 (i 0).val
  let v474 : BitVec 32 := Scalar.muli c16_i32_214 arg0
  let c2_i32_215 : BitVec 32 := 2#32
  let v475 : BitVec 32 := Scalar.addi v474 c2_i32_215
  let v476 : Index := Scalar.indexCast v475
  ![v476.toNat]
def k0_off70 (v477 : BitVec 32) : Fin 1 → Nat :=
  let v478 : Index := Scalar.indexCast v477
  ![v478.toNat]

def k0_chk35 (v477 : BitVec 32) : Prop :=
  (∀ a, (k0_off70 v477) a + S1.size a ≤ S80.size a)
theorem k0_off70_inb : ∀ (v477 : BitVec 32) (k0_hw35 : k0_chk35 v477), ∀ a, (k0_off70 v477) a + S1.size a ≤ S80.size a := fun v477 k0_hw35 => k0_hw35

def k0_off71 (i : grid0.Coords) : Fin 1 → Nat :=
  let c16_i32_216 : BitVec 32 := 16#32
  let arg0 : BitVec 32 := BitVec.ofNat 32 (i 0).val
  let v480 : BitVec 32 := Scalar.muli c16_i32_216 arg0
  let c3_i32_217 : BitVec 32 := 3#32
  let v481 : BitVec 32 := Scalar.addi v480 c3_i32_217
  let v482 : Index := Scalar.indexCast v481
  ![v482.toNat]
def k0_off72 (v483 : BitVec 32) : Fin 1 → Nat :=
  let v484 : Index := Scalar.indexCast v483
  ![v484.toNat]

def k0_chk36 (v483 : BitVec 32) : Prop :=
  (∀ a, (k0_off72 v483) a + S1.size a ≤ S80.size a)
theorem k0_off72_inb : ∀ (v483 : BitVec 32) (k0_hw36 : k0_chk36 v483), ∀ a, (k0_off72 v483) a + S1.size a ≤ S80.size a := fun v483 k0_hw36 => k0_hw36

def k0_off73 (i : grid0.Coords) : Fin 1 → Nat :=
  let c16_i32_218 : BitVec 32 := 16#32
  let arg0 : BitVec 32 := BitVec.ofNat 32 (i 0).val
  let v486 : BitVec 32 := Scalar.muli c16_i32_218 arg0
  let c4_i32_219 : BitVec 32 := 4#32
  let v487 : BitVec 32 := Scalar.addi v486 c4_i32_219
  let v488 : Index := Scalar.indexCast v487
  ![v488.toNat]
def k0_off74 (v489 : BitVec 32) : Fin 1 → Nat :=
  let v490 : Index := Scalar.indexCast v489
  ![v490.toNat]

def k0_chk37 (v489 : BitVec 32) : Prop :=
  (∀ a, (k0_off74 v489) a + S1.size a ≤ S80.size a)
theorem k0_off74_inb : ∀ (v489 : BitVec 32) (k0_hw37 : k0_chk37 v489), ∀ a, (k0_off74 v489) a + S1.size a ≤ S80.size a := fun v489 k0_hw37 => k0_hw37

def k0_off75 (i : grid0.Coords) : Fin 1 → Nat :=
  let c16_i32_220 : BitVec 32 := 16#32
  let arg0 : BitVec 32 := BitVec.ofNat 32 (i 0).val
  let v492 : BitVec 32 := Scalar.muli c16_i32_220 arg0
  let c5_i32_221 : BitVec 32 := 5#32
  let v493 : BitVec 32 := Scalar.addi v492 c5_i32_221
  let v494 : Index := Scalar.indexCast v493
  ![v494.toNat]
def k0_off76 (v495 : BitVec 32) : Fin 1 → Nat :=
  let v496 : Index := Scalar.indexCast v495
  ![v496.toNat]

def k0_chk38 (v495 : BitVec 32) : Prop :=
  (∀ a, (k0_off76 v495) a + S1.size a ≤ S80.size a)
theorem k0_off76_inb : ∀ (v495 : BitVec 32) (k0_hw38 : k0_chk38 v495), ∀ a, (k0_off76 v495) a + S1.size a ≤ S80.size a := fun v495 k0_hw38 => k0_hw38

def k0_off77 (i : grid0.Coords) : Fin 1 → Nat :=
  let c16_i32_222 : BitVec 32 := 16#32
  let arg0 : BitVec 32 := BitVec.ofNat 32 (i 0).val
  let v498 : BitVec 32 := Scalar.muli c16_i32_222 arg0
  let c6_i32_223 : BitVec 32 := 6#32
  let v499 : BitVec 32 := Scalar.addi v498 c6_i32_223
  let v500 : Index := Scalar.indexCast v499
  ![v500.toNat]
def k0_off78 (v501 : BitVec 32) : Fin 1 → Nat :=
  let v502 : Index := Scalar.indexCast v501
  ![v502.toNat]

def k0_chk39 (v501 : BitVec 32) : Prop :=
  (∀ a, (k0_off78 v501) a + S1.size a ≤ S80.size a)
theorem k0_off78_inb : ∀ (v501 : BitVec 32) (k0_hw39 : k0_chk39 v501), ∀ a, (k0_off78 v501) a + S1.size a ≤ S80.size a := fun v501 k0_hw39 => k0_hw39

def k0_off79 (i : grid0.Coords) : Fin 1 → Nat :=
  let c16_i32_224 : BitVec 32 := 16#32
  let arg0 : BitVec 32 := BitVec.ofNat 32 (i 0).val
  let v504 : BitVec 32 := Scalar.muli c16_i32_224 arg0
  let c7_i32_225 : BitVec 32 := 7#32
  let v505 : BitVec 32 := Scalar.addi v504 c7_i32_225
  let v506 : Index := Scalar.indexCast v505
  ![v506.toNat]
def k0_off80 (v507 : BitVec 32) : Fin 1 → Nat :=
  let v508 : Index := Scalar.indexCast v507
  ![v508.toNat]

def k0_chk40 (v507 : BitVec 32) : Prop :=
  (∀ a, (k0_off80 v507) a + S1.size a ≤ S80.size a)
theorem k0_off80_inb : ∀ (v507 : BitVec 32) (k0_hw40 : k0_chk40 v507), ∀ a, (k0_off80 v507) a + S1.size a ≤ S80.size a := fun v507 k0_hw40 => k0_hw40

def k0_off81 (i : grid0.Coords) : Fin 1 → Nat :=
  let c16_i32_226 : BitVec 32 := 16#32
  let arg0 : BitVec 32 := BitVec.ofNat 32 (i 0).val
  let v510 : BitVec 32 := Scalar.muli c16_i32_226 arg0
  let c8_i32_227 : BitVec 32 := 8#32
  let v511 : BitVec 32 := Scalar.addi v510 c8_i32_227
  let v512 : Index := Scalar.indexCast v511
  ![v512.toNat]
def k0_off82 (v513 : BitVec 32) : Fin 1 → Nat :=
  let v514 : Index := Scalar.indexCast v513
  ![v514.toNat]

def k0_chk41 (v513 : BitVec 32) : Prop :=
  (∀ a, (k0_off82 v513) a + S1.size a ≤ S80.size a)
theorem k0_off82_inb : ∀ (v513 : BitVec 32) (k0_hw41 : k0_chk41 v513), ∀ a, (k0_off82 v513) a + S1.size a ≤ S80.size a := fun v513 k0_hw41 => k0_hw41

def k0_off83 (i : grid0.Coords) : Fin 1 → Nat :=
  let c16_i32_228 : BitVec 32 := 16#32
  let arg0 : BitVec 32 := BitVec.ofNat 32 (i 0).val
  let v516 : BitVec 32 := Scalar.muli c16_i32_228 arg0
  let c9_i32_229 : BitVec 32 := 9#32
  let v517 : BitVec 32 := Scalar.addi v516 c9_i32_229
  let v518 : Index := Scalar.indexCast v517
  ![v518.toNat]
def k0_off84 (v519 : BitVec 32) : Fin 1 → Nat :=
  let v520 : Index := Scalar.indexCast v519
  ![v520.toNat]

def k0_chk42 (v519 : BitVec 32) : Prop :=
  (∀ a, (k0_off84 v519) a + S1.size a ≤ S80.size a)
theorem k0_off84_inb : ∀ (v519 : BitVec 32) (k0_hw42 : k0_chk42 v519), ∀ a, (k0_off84 v519) a + S1.size a ≤ S80.size a := fun v519 k0_hw42 => k0_hw42

def k0_off85 (i : grid0.Coords) : Fin 1 → Nat :=
  let c16_i32_230 : BitVec 32 := 16#32
  let arg0 : BitVec 32 := BitVec.ofNat 32 (i 0).val
  let v522 : BitVec 32 := Scalar.muli c16_i32_230 arg0
  let c10_i32_231 : BitVec 32 := 10#32
  let v523 : BitVec 32 := Scalar.addi v522 c10_i32_231
  let v524 : Index := Scalar.indexCast v523
  ![v524.toNat]
def k0_off86 (v525 : BitVec 32) : Fin 1 → Nat :=
  let v526 : Index := Scalar.indexCast v525
  ![v526.toNat]

def k0_chk43 (v525 : BitVec 32) : Prop :=
  (∀ a, (k0_off86 v525) a + S1.size a ≤ S80.size a)
theorem k0_off86_inb : ∀ (v525 : BitVec 32) (k0_hw43 : k0_chk43 v525), ∀ a, (k0_off86 v525) a + S1.size a ≤ S80.size a := fun v525 k0_hw43 => k0_hw43

def k0_off87 (i : grid0.Coords) : Fin 1 → Nat :=
  let c16_i32_232 : BitVec 32 := 16#32
  let arg0 : BitVec 32 := BitVec.ofNat 32 (i 0).val
  let v528 : BitVec 32 := Scalar.muli c16_i32_232 arg0
  let c11_i32_233 : BitVec 32 := 11#32
  let v529 : BitVec 32 := Scalar.addi v528 c11_i32_233
  let v530 : Index := Scalar.indexCast v529
  ![v530.toNat]
def k0_off88 (v531 : BitVec 32) : Fin 1 → Nat :=
  let v532 : Index := Scalar.indexCast v531
  ![v532.toNat]

def k0_chk44 (v531 : BitVec 32) : Prop :=
  (∀ a, (k0_off88 v531) a + S1.size a ≤ S80.size a)
theorem k0_off88_inb : ∀ (v531 : BitVec 32) (k0_hw44 : k0_chk44 v531), ∀ a, (k0_off88 v531) a + S1.size a ≤ S80.size a := fun v531 k0_hw44 => k0_hw44

def k0_off89 (i : grid0.Coords) : Fin 1 → Nat :=
  let c16_i32_234 : BitVec 32 := 16#32
  let arg0 : BitVec 32 := BitVec.ofNat 32 (i 0).val
  let v534 : BitVec 32 := Scalar.muli c16_i32_234 arg0
  let c12_i32_235 : BitVec 32 := 12#32
  let v535 : BitVec 32 := Scalar.addi v534 c12_i32_235
  let v536 : Index := Scalar.indexCast v535
  ![v536.toNat]
def k0_off90 (v537 : BitVec 32) : Fin 1 → Nat :=
  let v538 : Index := Scalar.indexCast v537
  ![v538.toNat]

def k0_chk45 (v537 : BitVec 32) : Prop :=
  (∀ a, (k0_off90 v537) a + S1.size a ≤ S80.size a)
theorem k0_off90_inb : ∀ (v537 : BitVec 32) (k0_hw45 : k0_chk45 v537), ∀ a, (k0_off90 v537) a + S1.size a ≤ S80.size a := fun v537 k0_hw45 => k0_hw45

def k0_off91 (i : grid0.Coords) : Fin 1 → Nat :=
  let c16_i32_236 : BitVec 32 := 16#32
  let arg0 : BitVec 32 := BitVec.ofNat 32 (i 0).val
  let v540 : BitVec 32 := Scalar.muli c16_i32_236 arg0
  let c13_i32_237 : BitVec 32 := 13#32
  let v541 : BitVec 32 := Scalar.addi v540 c13_i32_237
  let v542 : Index := Scalar.indexCast v541
  ![v542.toNat]
def k0_off92 (v543 : BitVec 32) : Fin 1 → Nat :=
  let v544 : Index := Scalar.indexCast v543
  ![v544.toNat]

def k0_chk46 (v543 : BitVec 32) : Prop :=
  (∀ a, (k0_off92 v543) a + S1.size a ≤ S80.size a)
theorem k0_off92_inb : ∀ (v543 : BitVec 32) (k0_hw46 : k0_chk46 v543), ∀ a, (k0_off92 v543) a + S1.size a ≤ S80.size a := fun v543 k0_hw46 => k0_hw46

def k0_off93 (i : grid0.Coords) : Fin 1 → Nat :=
  let c16_i32_238 : BitVec 32 := 16#32
  let arg0 : BitVec 32 := BitVec.ofNat 32 (i 0).val
  let v546 : BitVec 32 := Scalar.muli c16_i32_238 arg0
  let c14_i32_239 : BitVec 32 := 14#32
  let v547 : BitVec 32 := Scalar.addi v546 c14_i32_239
  let v548 : Index := Scalar.indexCast v547
  ![v548.toNat]
def k0_off94 (v549 : BitVec 32) : Fin 1 → Nat :=
  let v550 : Index := Scalar.indexCast v549
  ![v550.toNat]

def k0_chk47 (v549 : BitVec 32) : Prop :=
  (∀ a, (k0_off94 v549) a + S1.size a ≤ S80.size a)
theorem k0_off94_inb : ∀ (v549 : BitVec 32) (k0_hw47 : k0_chk47 v549), ∀ a, (k0_off94 v549) a + S1.size a ≤ S80.size a := fun v549 k0_hw47 => k0_hw47

def k0_off95 (i : grid0.Coords) : Fin 1 → Nat :=
  let c16_i32_240 : BitVec 32 := 16#32
  let arg0 : BitVec 32 := BitVec.ofNat 32 (i 0).val
  let v552 : BitVec 32 := Scalar.muli c16_i32_240 arg0
  let c15_i32_241 : BitVec 32 := 15#32
  let v553 : BitVec 32 := Scalar.addi v552 c15_i32_241
  let v554 : Index := Scalar.indexCast v553
  ![v554.toNat]
def k0_off96 (v555 : BitVec 32) : Fin 1 → Nat :=
  let v556 : Index := Scalar.indexCast v555
  ![v556.toNat]

def k0_chk48 (v555 : BitVec 32) : Prop :=
  (∀ a, (k0_off96 v555) a + S1.size a ≤ S80.size a)
theorem k0_off96_inb : ∀ (v555 : BitVec 32) (k0_hw48 : k0_chk48 v555), ∀ a, (k0_off96 v555) a + S1.size a ≤ S80.size a := fun v555 k0_hw48 => k0_hw48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c0_i32 : BitVec 32 := 0#32
  let v1 : BitVec 32 := Scalar.addi v0 c0_i32
  let v2 : Index := Scalar.indexCast v1
  let v3 : BitVec 32 := pf.at 0 (Rect.unit (s := S80) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c1_i32 : BitVec 32 := 1#32
  let v1 : BitVec 32 := Scalar.addi v0 c1_i32
  let v2 : Index := Scalar.indexCast v1
  let v3 : BitVec 32 := pf.at 0 (Rect.unit (s := S80) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c2_i32 : BitVec 32 := 2#32
  let v1 : BitVec 32 := Scalar.addi v0 c2_i32
  let v2 : Index := Scalar.indexCast v1
  let v3 : BitVec 32 := pf.at 0 (Rect.unit (s := S80) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c3_i32 : BitVec 32 := 3#32
  let v1 : BitVec 32 := Scalar.addi v0 c3_i32
  let v2 : Index := Scalar.indexCast v1
  let v3 : BitVec 32 := pf.at 0 (Rect.unit (s := S80) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c4_i32 : BitVec 32 := 4#32
  let v1 : BitVec 32 := Scalar.addi v0 c4_i32
  let v2 : Index := Scalar.indexCast v1
  let v3 : BitVec 32 := pf.at 0 (Rect.unit (s := S80) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c5_i32 : BitVec 32 := 5#32
  let v1 : BitVec 32 := Scalar.addi v0 c5_i32
  let v2 : Index := Scalar.indexCast v1
  let v3 : BitVec 32 := pf.at 0 (Rect.unit (s := S80) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c6_i32 : BitVec 32 := 6#32
  let v1 : BitVec 32 := Scalar.addi v0 c6_i32
  let v2 : Index := Scalar.indexCast v1
  let v3 : BitVec 32 := pf.at 0 (Rect.unit (s := S80) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c7_i32 : BitVec 32 := 7#32
  let v1 : BitVec 32 := Scalar.addi v0 c7_i32
  let v2 : Index := Scalar.indexCast v1
  let v3 : BitVec 32 := pf.at 0 (Rect.unit (s := S80) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c8_i32 : BitVec 32 := 8#32
  let v1 : BitVec 32 := Scalar.addi v0 c8_i32
  let v2 : Index := Scalar.indexCast v1
  let v3 : BitVec 32 := pf.at 0 (Rect.unit (s := S80) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c9_i32 : BitVec 32 := 9#32
  let v1 : BitVec 32 := Scalar.addi v0 c9_i32
  let v2 : Index := Scalar.indexCast v1
  let v3 : BitVec 32 := pf.at 0 (Rect.unit (s := S80) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c10_i32 : BitVec 32 := 10#32
  let v1 : BitVec 32 := Scalar.addi v0 c10_i32
  let v2 : Index := Scalar.indexCast v1
  let v3 : BitVec 32 := pf.at 0 (Rect.unit (s := S80) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c11_i32 : BitVec 32 := 11#32
  let v1 : BitVec 32 := Scalar.addi v0 c11_i32
  let v2 : Index := Scalar.indexCast v1
  let v3 : BitVec 32 := pf.at 0 (Rect.unit (s := S80) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c12_i32 : BitVec 32 := 12#32
  let v1 : BitVec 32 := Scalar.addi v0 c12_i32
  let v2 : Index := Scalar.indexCast v1
  let v3 : BitVec 32 := pf.at 0 (Rect.unit (s := S80) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c13_i32 : BitVec 32 := 13#32
  let v1 : BitVec 32 := Scalar.addi v0 c13_i32
  let v2 : Index := Scalar.indexCast v1
  let v3 : BitVec 32 := pf.at 0 (Rect.unit (s := S80) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c14_i32 : BitVec 32 := 14#32
  let v1 : BitVec 32 := Scalar.addi v0 c14_i32
  let v2 : Index := Scalar.indexCast v1
  let v3 : BitVec 32 := pf.at 0 (Rect.unit (s := S80) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 16), ∀ a, (k0_off1 i (BitVec.ofNat 32 r.val)) a + S1.size a ≤ S80.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli c16_i32 arg0
  let c15_i32 : BitVec 32 := 15#32
  let v1 : BitVec 32 := Scalar.addi v0 c15_i32
  let v2 : Index := Scalar.indexCast v1
  let v3 : BitVec 32 := pf.at 0 (Rect.unit (s := S80) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x160x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S800x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S800x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S512x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .smem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .smem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .smem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .smem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S8x100x80 : Shape := ⟨3, ![8, 100, 80]⟩
abbrev S8x100x128x128 : Shape := ⟨4, ![8, 100, 128, 128]⟩
abbrev S8x100x1 : Shape := ⟨3, ![8, 100, 1]⟩
abbrev S8x10x512x512 : Shape := ⟨4, ![8, 10, 512, 512]⟩
abbrev S8x10 : Shape := ⟨2, ![8, 10]⟩
abbrev S_ : Shape := ⟨0, ![]⟩
abbrev S8 : Shape := ⟨1, ![8]⟩
abbrev S80 : Shape := ⟨1, ![80]⟩
abbrev S8x10x1 : Shape := ⟨3, ![8, 10, 1]⟩
abbrev S1 : Shape := ⟨1, ![1]⟩
abbrev S1x1x1 : Shape := ⟨3, ![1, 1, 1]⟩
abbrev S8x100 : Shape := ⟨2, ![8, 100]⟩
abbrev S80x1 : Shape := ⟨2, ![80, 1]⟩
abbrev S80x2 : Shape := ⟨2, ![80, 2]⟩
abbrev S800 : Shape := ⟨1, ![800]⟩
abbrev S800x80 : Shape := ⟨2, ![800, 80]⟩
abbrev S800x1 : Shape := ⟨2, ![800, 1]⟩
abbrev S1x80 : Shape := ⟨2, ![1, 80]⟩
abbrev S80x128x128 : Shape := ⟨3, ![80, 128, 128]⟩
abbrev S80x16384 : Shape := ⟨2, ![80, 16384]⟩
abbrev S80x512x512 : Shape := ⟨3, ![80, 512, 512]⟩
abbrev S128 : Shape := ⟨1, ![128]⟩
abbrev S512 : Shape := ⟨1, ![512]⟩
abbrev S1x128 : Shape := ⟨2, ![1, 128]⟩
abbrev S512x1 : Shape := ⟨2, ![512, 1]⟩
abbrev S512x128 : Shape := ⟨2, ![512, 128]⟩
abbrev S128x80x512 : Shape := ⟨3, ![128, 80, 512]⟩
abbrev S128x80x128 : Shape := ⟨3, ![128, 80, 128]⟩

abbrev nBuf : Space → Nat
  | .hbm => 396
  | .vmem => 0
  | .smem => 0
  | _ => 0

abbrev hbmTy0_0 (i : Nat) : BufTy := match i % 128 with
  | 0 => ⟨S8x100x80, .f32⟩
  | 1 => ⟨S8x100x128x128, .f32⟩
  | 2 => ⟨S8x100x1, .f32⟩
  | 3 => ⟨S8x10x512x512, .f32⟩
  | 4 => ⟨S8x10, .i32⟩
  | 5 => ⟨S8x10, .i32⟩
  | 6 => ⟨S8x10, .i32⟩
  | 7 => ⟨S_, .f32⟩
  | 8 => ⟨S_, .f32⟩
  | 9 => ⟨S_, .f32⟩
  | 10 => ⟨S8, .i32⟩
  | 11 => ⟨S8x10, .i32⟩
  | 12 => ⟨S80, .i32⟩
  | 13 => ⟨S80, .i32⟩
  | 14 => ⟨S_, .i32⟩
  | 15 => ⟨S8x10, .i32⟩
  | 16 => ⟨S8x10, .i1⟩
  | 17 => ⟨S_, .i32⟩
  | 18 => ⟨S8x10, .i32⟩
  | 19 => ⟨S8x10, .i32⟩
  | 20 => ⟨S8x10, .i32⟩
  | 21 => ⟨S8x10x1, .i32⟩
  | 22 => ⟨S1, .i32⟩
  | 23 => ⟨S_, .i32⟩
  | 24 => ⟨S8x10x1, .i32⟩
  | 25 => ⟨S8x10x1, .i1⟩
  | 26 => ⟨S1x1x1, .i32⟩
  | 27 => ⟨S8x10x1, .i32⟩
  | 28 => ⟨S8x10x1, .i1⟩
  | 29 => ⟨S8x10x1, .i1⟩
  | 30 => ⟨S_, .i1⟩
  | 31 => ⟨S8x10, .i1⟩
  | 32 => ⟨S8x10, .i32⟩
  | 33 => ⟨S_, .i32⟩
  | 34 => ⟨S8x10, .i32⟩
  | 35 => ⟨S8x10, .i32⟩
  | 36 => ⟨S80, .i32⟩
  | 37 => ⟨S_, .i32⟩
  | 38 => ⟨S8x100, .i32⟩
  | 39 => ⟨S_, .i32⟩
  | 40 => ⟨S80, .i32⟩
  | 41 => ⟨S80, .i1⟩
  | 42 => ⟨S_, .i32⟩
  | 43 => ⟨S80, .i32⟩
  | 44 => ⟨S80, .i32⟩
  | 45 => ⟨S80, .i32⟩
  | 46 => ⟨S_, .i32⟩
  | 47 => ⟨S80, .i32⟩
  | 48 => ⟨S80, .i1⟩
  | 49 => ⟨S_, .i32⟩
  | 50 => ⟨S80, .i32⟩
  | 51 => ⟨S80, .i32⟩
  | 52 => ⟨S80, .i32⟩
  | 53 => ⟨S80x1, .i32⟩
  | 54 => ⟨S80x1, .i32⟩
  | 55 => ⟨S80x2, .i32⟩
  | 56 => ⟨S8x100, .i32⟩
  | 57 => ⟨S800, .i32⟩
  | 58 => ⟨S800x80, .f32⟩
  | 59 => ⟨S800x1, .i32⟩
  | 60 => ⟨S1x80, .i32⟩
  | 61 => ⟨S800x80, .i32⟩
  | 62 => ⟨S800x80, .i32⟩
  | 63 => ⟨S800x80, .i1⟩
  | 64 => ⟨S800x80, .f32⟩
  | 65 => ⟨S800x80, .f32⟩
  | 66 => ⟨S800x80, .f32⟩
  | 67 => ⟨S_, .f32⟩
  | 68 => ⟨S800x80, .f32⟩
  | 69 => ⟨S800x80, .f32⟩
  | 70 => ⟨S_, .f32⟩
  | 71 => ⟨S800x80, .f32⟩
  | 72 => ⟨S800x80, .f32⟩
  | 73 => ⟨S_, .f32⟩
  | 74 => ⟨S800x80, .f32⟩
  | 75 => ⟨S800x80, .f32⟩
  | 76 => ⟨S800x80, .f32⟩
  | 77 => ⟨S800x80, .f32⟩
  | 78 => ⟨S800x80, .f32⟩
  | 79 => ⟨S800x80, .f32⟩
  | 80 => ⟨S800x80, .f32⟩
  | 81 => ⟨S800x80, .f32⟩
  | 82 => ⟨S800x80, .f32⟩
  | 83 => ⟨S_, .f32⟩
  | 84 => ⟨S800x80, .f32⟩
  | 85 => ⟨S800x80, .f32⟩
  | 86 => ⟨S800x80, .f32⟩
  | 87 => ⟨S_, .f32⟩
  | 88 => ⟨S800x80, .f32⟩
  | 89 => ⟨S800x80, .f32⟩
  | 90 => ⟨S800x80, .f32⟩
  | 91 => ⟨S800x80, .f32⟩
  | 92 => ⟨S_, .f32⟩
  | 93 => ⟨S800x80, .f32⟩
  | 94 => ⟨S800x80, .f32⟩
  | 95 => ⟨S_, .f32⟩
  | 96 => ⟨S800x80, .f32⟩
  | 97 => ⟨S800x80, .f32⟩
  | 98 => ⟨S_, .f32⟩
  | 99 => ⟨S800x80, .f32⟩
  | 100 => ⟨S800x80, .f32⟩
  | 101 => ⟨S800x80, .f32⟩
  | 102 => ⟨S_, .f32⟩
  | 103 => ⟨S800x80, .f32⟩
  | 104 => ⟨S800x80, .f32⟩
  | 105 => ⟨S800x80, .f32⟩
  | 106 => ⟨S800x80, .f32⟩
  | 107 => ⟨S_, .f32⟩
  | 108 => ⟨S_, .f32⟩
  | 109 => ⟨S_, .f32⟩
  | 110 => ⟨S_, .f32⟩
  | 111 => ⟨S_, .f32⟩
  | 112 => ⟨S_, .i32⟩
  | 113 => ⟨S80, .i32⟩
  | 114 => ⟨S80, .i1⟩
  | 115 => ⟨S_, .i32⟩
  | 116 => ⟨S80, .i32⟩
  | 117 => ⟨S80, .i32⟩
  | 118 => ⟨S80, .i32⟩
  | 119 => ⟨S_, .i32⟩
  | 120 => ⟨S80, .i32⟩
  | 121 => ⟨S80, .i1⟩
  | 122 => ⟨S_, .i32⟩
  | 123 => ⟨S80, .i32⟩
  | 124 => ⟨S80, .i32⟩
  | 125 => ⟨S80, .i32⟩
  | 126 => ⟨S80x1, .i32⟩
  | 127 => ⟨S80x1, .i32⟩
  | _ => ⟨S8x100x80, .f32⟩

abbrev hbmTy0_1 (i : Nat) : BufTy := match i % 128 with
  | 0 => ⟨S80x2, .i32⟩
  | 1 => ⟨S80x128x128, .f32⟩
  | 2 => ⟨S80x16384, .f32⟩
  | 3 => ⟨S_, .f32⟩
  | 4 => ⟨S8x10x512x512, .f32⟩
  | 5 => ⟨S8x10x512x512, .i1⟩
  | 6 => ⟨S8x10x512x512, .f32⟩
  | 7 => ⟨S_, .i32⟩
  | 8 => ⟨S80, .i32⟩
  | 9 => ⟨S80, .i32⟩
  | 10 => ⟨S80, .i32⟩
  | 11 => ⟨S80, .i32⟩
  | 12 => ⟨S80x512x512, .f32⟩
  | 13 => ⟨S_, .i32⟩
  | 14 => ⟨S80, .i32⟩
  | 15 => ⟨S80, .i1⟩
  | 16 => ⟨S_, .i32⟩
  | 17 => ⟨S80, .i32⟩
  | 18 => ⟨S80, .i32⟩
  | 19 => ⟨S80, .i32⟩
  | 20 => ⟨S80x1, .i32⟩
  | 21 => ⟨S80x512x512, .f32⟩
  | 22 => ⟨S_, .f32⟩
  | 23 => ⟨S_, .f32⟩
  | 24 => ⟨S_, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S512, .f32⟩
  | 39 => ⟨S1x128, .f32⟩
  | 40 => ⟨S512x1, .f32⟩
  | 41 => ⟨S512x128, .f32⟩
  | 42 => ⟨S512x128, .f32⟩
  | 43 => ⟨S512x128, .f32⟩
  | 44 => ⟨S512x128, .f32⟩
  | 45 => ⟨S_, .f32⟩
  | 46 => ⟨S512x128, .f32⟩
  | 47 => ⟨S512x128, .f32⟩
  | 48 => ⟨S512x128, .f32⟩
  | 49 => ⟨S_, .f32⟩
  | 50 => ⟨S512x128, .f32⟩
  | 51 => ⟨S512x128, .f32⟩
  | 52 => ⟨S_, .f32⟩
  | 53 => ⟨S512x128, .f32⟩
  | 54 => ⟨S512x128, .f32⟩
  | 55 => ⟨S_, .f32⟩
  | 56 => ⟨S128, .f32⟩
  | 57 => ⟨S1x128, .f32⟩
  | 58 => ⟨S1x128, .f32⟩
  | 59 => ⟨S_, .f32⟩
  | 60 => ⟨S1x128, .f32⟩
  | 61 => ⟨S1x128, .i1⟩
  | 62 => ⟨S_, .f32⟩
  | 63 => ⟨S1x128, .f32⟩
  | 64 => ⟨S1x128, .i1⟩
  | 65 => ⟨S_, .i32⟩
  | 66 => ⟨S_, .f32⟩
  | 67 => ⟨S1x128, .f32⟩
  | 68 => ⟨S1x128, .f32⟩
  | 69 => ⟨S512x128, .f32⟩
  | 70 => ⟨S512x128, .f32⟩
  | 71 => ⟨S_, .i32⟩
  | 72 => ⟨S_, .f32⟩
  | 73 => ⟨S512x128, .i1⟩
  | 74 => ⟨S512x128, .f32⟩
  | 75 => ⟨S512x128, .f32⟩
  | 76 => ⟨S_, .f32⟩
  | 77 => ⟨S128, .f32⟩
  | 78 => ⟨S128, .i1⟩
  | 79 => ⟨S_, .f32⟩
  | 80 => ⟨S128, .f32⟩
  | 81 => ⟨S128, .i1⟩
  | 82 => ⟨S128, .i1⟩
  | 83 => ⟨S1x128, .i1⟩
  | 84 => ⟨S_, .i32⟩
  | 85 => ⟨S_, .f32⟩
  | 86 => ⟨S512x128, .i1⟩
  | 87 => ⟨S512x128, .f32⟩
  | 88 => ⟨S512x128, .f32⟩
  | 89 => ⟨S_, .f32⟩
  | 90 => ⟨S_, .f32⟩
  | 91 => ⟨S_, .f32⟩
  | 92 => ⟨S128, .f32⟩
  | 93 => ⟨S_, .f32⟩
  | 94 => ⟨S128, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S128, .f32⟩
  | 104 => ⟨S128, .f32⟩
  | 105 => ⟨S512, .f32⟩
  | 106 => ⟨S1x128, .f32⟩
  | 107 => ⟨S512x1, .f32⟩
  | 108 => ⟨S512x128, .f32⟩
  | 109 => ⟨S512x128, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S512x128, .f32⟩
  | 116 => ⟨S_, .f32⟩
  | 117 => ⟨S512x128, .f32⟩
  | 118 => ⟨S512x128, .f32⟩
  | 119 => ⟨S_, .f32⟩
  | 120 => ⟨S512x128, .f32⟩
  | 121 => ⟨S512x128, .f32⟩
  | 122 => ⟨S_, .f32⟩
  | 123 => ⟨S128, .f32⟩
  | 124 => ⟨S1x128, .f32⟩
  | 125 => ⟨S1x128, .f32⟩
  | 126 => ⟨S_, .f32⟩
  | 127 => ⟨S1x128, .f32⟩
  | _ => ⟨S8x100x80, .f32⟩

abbrev hbmTy0_2 (i : Nat) : BufTy := match i % 128 with
  | 0 => ⟨S1x128, .i1⟩
  | 1 => ⟨S_, .f32⟩
  | 2 => ⟨S1x128, .f32⟩
  | 3 => ⟨S1x128, .i1⟩
  | 4 => ⟨S_, .i32⟩
  | 5 => ⟨S_, .f32⟩
  | 6 => ⟨S1x128, .f32⟩
  | 7 => ⟨S1x128, .f32⟩
  | 8 => ⟨S512x128, .f32⟩
  | 9 => ⟨S512x128, .f32⟩
  | 10 => ⟨S_, .i32⟩
  | 11 => ⟨S_, .f32⟩
  | 12 => ⟨S512x128, .i1⟩
  | 13 => ⟨S512x128, .f32⟩
  | 14 => ⟨S512x128, .f32⟩
  | 15 => ⟨S_, .f32⟩
  | 16 => ⟨S128, .f32⟩
  | 17 => ⟨S128, .i1⟩
  | 18 => ⟨S_, .f32⟩
  | 19 => ⟨S128, .f32⟩
  | 20 => ⟨S128, .i1⟩
  | 21 => ⟨S128, .i1⟩
  | 22 => ⟨S1x128, .i1⟩
  | 23 => ⟨S_, .i32⟩
  | 24 => ⟨S_, .f32⟩
  | 25 => ⟨S512x128, .i1⟩
  | 26 => ⟨S512x128, .f32⟩
  | 27 => ⟨S512x128, .f32⟩
  | 28 => ⟨S128x80x512, .f32⟩
  | 29 => ⟨S128x80x128, .f32⟩
  | 30 => ⟨S80x128x128, .f32⟩
  | 31 => ⟨S80x16384, .f32⟩
  | 32 => ⟨S80x16384, .f32⟩
  | 33 => ⟨S80x16384, .f32⟩
  | 34 => ⟨S_, .f32⟩
  | 35 => ⟨S80x16384, .f32⟩
  | 36 => ⟨S80x16384, .f32⟩
  | 37 => ⟨S_, .f32⟩
  | 38 => ⟨S80x16384, .f32⟩
  | 39 => ⟨S80x16384, .f32⟩
  | 40 => ⟨S_, .f32⟩
  | 41 => ⟨S80x16384, .f32⟩
  | 42 => ⟨S80x16384, .i1⟩
  | 43 => ⟨S80x16384, .f32⟩
  | 44 => ⟨S_, .f32⟩
  | 45 => ⟨S80x16384, .f32⟩
  | 46 => ⟨S80x16384, .i1⟩
  | 47 => ⟨S80x16384, .f32⟩
  | 48 => ⟨S80x16384, .f32⟩
  | 49 => ⟨S_, .f32⟩
  | 50 => ⟨S80, .f32⟩
  | 51 => ⟨S_, .f32⟩
  | 52 => ⟨S80, .f32⟩
  | 53 => ⟨S_, .f32⟩
  | 54 => ⟨S80, .f32⟩
  | 55 => ⟨S80, .f32⟩
  | 56 => ⟨S80, .f32⟩
  | 57 => ⟨S_, .f32⟩
  | 58 => ⟨S80, .f32⟩
  | 59 => ⟨S80, .f32⟩
  | 60 => ⟨S80, .f32⟩
  | 61 => ⟨S_, .i32⟩
  | 62 => ⟨S80, .i32⟩
  | 63 => ⟨S80, .i1⟩
  | 64 => ⟨S_, .i32⟩
  | 65 => ⟨S80, .i32⟩
  | 66 => ⟨S80, .i32⟩
  | 67 => ⟨S80, .i32⟩
  | 68 => ⟨S_, .i32⟩
  | 69 => ⟨S80, .i32⟩
  | 70 => ⟨S80, .i1⟩
  | 71 => ⟨S_, .i32⟩
  | 72 => ⟨S80, .i32⟩
  | 73 => ⟨S80, .i32⟩
  | 74 => ⟨S80, .i32⟩
  | 75 => ⟨S80x1, .i32⟩
  | 76 => ⟨S80x1, .i32⟩
  | 77 => ⟨S80x2, .i32⟩
  | 78 => ⟨S80x1, .f32⟩
  | 79 => ⟨S80, .f32⟩
  | 80 => ⟨S_, .f32⟩
  | 81 => ⟨S80, .f32⟩
  | 82 => ⟨S80, .f32⟩
  | 83 => ⟨S80, .f32⟩
  | 84 => ⟨S80, .f32⟩
  | 85 => ⟨S80, .f32⟩
  | 86 => ⟨S80, .f32⟩
  | 87 => ⟨S80, .f32⟩
  | 88 => ⟨S80, .f32⟩
  | 89 => ⟨S80, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S80x16384, .f32⟩
  | 97 => ⟨S_, .f32⟩
  | 98 => ⟨S80, .f32⟩
  | 99 => ⟨S80x16384, .f32⟩
  | 100 => ⟨S_, .f32⟩
  | 101 => ⟨S80, .f32⟩
  | 102 => ⟨S_, .f32⟩
  | 103 => ⟨S80, .f32⟩
  | 104 => ⟨S80, .f32⟩
  | 105 => ⟨S80x16384, .f32⟩
  | 106 => ⟨S_, .f32⟩
  | 107 => ⟨S80, .f32⟩
  | 108 => ⟨S_, .f32⟩
  | 109 => ⟨S80, .f32⟩
  | 110 => ⟨S80, .f32⟩
  | 111 => ⟨S_, .f32⟩
  | 112 => ⟨S80, .f32⟩
  | 113 => ⟨S80, .f32⟩
  | 114 => ⟨S80, .f32⟩
  | 115 => ⟨S80, .f32⟩
  | 116 => ⟨S_, .f32⟩
  | 117 => ⟨S80, .f32⟩
  | 118 => ⟨S80, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S80x16384, .f32⟩
  | 126 => ⟨S80x16384, .f32⟩
  | 127 => ⟨S80x16384, .f32⟩
  | _ => ⟨S8x100x80, .f32⟩

abbrev hbmTy0_3 (i : Nat) : BufTy := match i % 128 with
  | 0 => ⟨S80x16384, .f32⟩
  | 1 => ⟨S80x16384, .f32⟩
  | 2 => ⟨S80x16384, .f32⟩
  | 3 => ⟨S80x16384, .f32⟩
  | 4 => ⟨S80x16384, .f32⟩
  | 5 => ⟨S80x16384, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S8x100x80, .f32⟩

abbrev hbmTy (i : Nat) : BufTy := match i / 128 with
  | 0 => hbmTy0_0 i
  | 1 => hbmTy0_1 i
  | 2 => hbmTy0_2 i
  | 3 => hbmTy0_3 i
  | _ => ⟨S8x100x80, .f32⟩

abbrev bufTy : (tb : Table) → Fin (tcTables nBuf tb) → BufTy
  | .hbm, ⟨i, _⟩ => hbmTy i
  | _, _ => ⟨S8x100x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_c_4 : Ref sig .tc := ⟨.hbm, 33, rfl⟩
abbrev main_call0_v14 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_v7 : Ref sig .tc := ⟨.hbm, 38, rfl⟩
abbrev main_c_1 : Ref sig .tc := ⟨.hbm, 39, rfl⟩
abbrev main_v8 : Ref sig .tc := ⟨.hbm, 40, rfl⟩
abbrev main_v9 : Ref sig .tc := ⟨.hbm, 41, rfl⟩
abbrev main_c_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_3 : Ref sig .tc := ⟨.hbm, 46, rfl⟩
abbrev main_v13 : Ref sig .tc := ⟨.hbm, 47, rfl⟩
abbrev main_v14 : Ref sig .tc := ⟨.hbm, 48, rfl⟩
abbrev main_c_4 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_5 : Ref sig .tc := ⟨.hbm, 67, rfl⟩
abbrev main_v27 : Ref sig .tc := ⟨.hbm, 68, rfl⟩
abbrev main_v28 : Ref sig .tc := ⟨.hbm, 69, rfl⟩
abbrev main_cst_6 : Ref sig .tc := ⟨.hbm, 70, rfl⟩
abbrev main_v29 : Ref sig .tc := ⟨.hbm, 71, rfl⟩
abbrev main_v30 : Ref sig .tc := ⟨.hbm, 72, rfl⟩
abbrev main_cst_7 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_10 : Ref sig .tc := ⟨.hbm, 92, rfl⟩
abbrev main_v47 : Ref sig .tc := ⟨.hbm, 93, rfl⟩
abbrev main_v48 : Ref sig .tc := ⟨.hbm, 94, rfl⟩
abbrev main_cst_11 : Ref sig .tc := ⟨.hbm, 95, rfl⟩
abbrev main_v49 : Ref sig .tc := ⟨.hbm, 96, rfl⟩
abbrev main_v50 : Ref sig .tc := ⟨.hbm, 97, rfl⟩
abbrev main_cst_12 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_13 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_14 : Ref sig .tc := ⟨.hbm, 107, rfl⟩
abbrev main_v58 : Ref sig .tc := ⟨.hbm, 108, rfl⟩
abbrev main_cst_15 : Ref sig .tc := ⟨.hbm, 109, rfl⟩
abbrev main_v59 : Ref sig .tc := ⟨.hbm, 110, rfl⟩
abbrev main_v60 : Ref sig .tc := ⟨.hbm, 111, rfl⟩
abbrev main_c_16 : Ref sig .tc := ⟨.hbm, 112, rfl⟩
abbrev main_v61 : Ref sig .tc := ⟨.hbm, 113, rfl⟩
abbrev main_v62 : Ref sig .tc := ⟨.hbm, 114, rfl⟩
abbrev main_c_17 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_18 : Ref sig .tc := ⟨.hbm, 119, rfl⟩
abbrev main_v66 : Ref sig .tc := ⟨.hbm, 120, rfl⟩
abbrev main_v67 : Ref sig .tc := ⟨.hbm, 121, rfl⟩
abbrev main_c_19 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_20 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_c_21 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_c_22 : Ref sig .tc := ⟨.hbm, 141, rfl⟩
abbrev main_v84 : Ref sig .tc := ⟨.hbm, 142, rfl⟩
abbrev main_v85 : Ref sig .tc := ⟨.hbm, 143, rfl⟩
abbrev main_c_23 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_call2_cst : Ref sig .tc := ⟨.hbm, 150, rfl⟩
abbrev main_call2_cst_0 : Ref sig .tc := ⟨.hbm, 151, rfl⟩
abbrev main_call2_v0 : Ref sig .tc := ⟨.hbm, 152, rfl⟩
abbrev main_call2_v1 : Ref sig .tc := ⟨.hbm, 153, rfl⟩
abbrev main_call2_cst_1 : Ref sig .tc := ⟨.hbm, 154, rfl⟩
abbrev main_call2_v2 : Ref sig .tc := ⟨.hbm, 155, rfl⟩
abbrev main_call2_v3 : Ref sig .tc := ⟨.hbm, 156, rfl⟩
abbrev main_call2_cst_2 : Ref sig .tc := ⟨.hbm, 157, rfl⟩
abbrev main_call2_v4 : Ref sig .tc := ⟨.hbm, 158, rfl⟩
abbrev main_call2_v5 : Ref sig .tc := ⟨.hbm, 159, rfl⟩
abbrev main_call2_cst_3 : Ref sig .tc := ⟨.hbm, 160, rfl⟩
abbrev main_call2_v6 : Ref sig .tc := ⟨.hbm, 161, rfl⟩
abbrev main_call2_v7 : Ref sig .tc := ⟨.hbm, 162, rfl⟩
abbrev main_call2_cst_4 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_v12 : Ref sig .tc := ⟨.hbm, 168, rfl⟩
abbrev main_call2_v13 : Ref sig .tc := ⟨.hbm, 169, rfl⟩
abbrev main_call2_v14 : Ref sig .tc := ⟨.hbm, 170, rfl⟩
abbrev main_call2_v15 : Ref sig .tc := ⟨.hbm, 171, rfl⟩
abbrev main_call2_v16 : Ref sig .tc := ⟨.hbm, 172, rfl⟩
abbrev main_call2_v17 : Ref sig .tc := ⟨.hbm, 173, rfl⟩
abbrev main_call2_v18 : Ref sig .tc := ⟨.hbm, 174, rfl⟩
abbrev main_call2_v19 : Ref sig .tc := ⟨.hbm, 175, rfl⟩
abbrev main_call2_v20 : Ref sig .tc := ⟨.hbm, 176, rfl⟩
abbrev main_call2_cst_5 : Ref sig .tc := ⟨.hbm, 177, rfl⟩
abbrev main_call2_v21 : Ref sig .tc := ⟨.hbm, 178, rfl⟩
abbrev main_call2_v22 : Ref sig .tc := ⟨.hbm, 179, rfl⟩
abbrev main_call2_cst_6 : Ref sig .tc := ⟨.hbm, 180, rfl⟩
abbrev main_call2_v23 : Ref sig .tc := ⟨.hbm, 181, rfl⟩
abbrev main_call2_v24 : Ref sig .tc := ⟨.hbm, 182, rfl⟩
abbrev main_call2_cst_7 : Ref sig .tc := ⟨.hbm, 183, rfl⟩
abbrev main_call2_v25 : Ref sig .tc := ⟨.hbm, 184, rfl⟩
abbrev main_call2_v26 : Ref sig .tc := ⟨.hbm, 185, rfl⟩
abbrev main_call2_v27 : Ref sig .tc := ⟨.hbm, 186, rfl⟩
abbrev main_call2_cst_8 : Ref sig .tc := ⟨.hbm, 187, rfl⟩
abbrev main_call2_v28 : Ref sig .tc := ⟨.hbm, 188, rfl⟩
abbrev main_call2_v29 : Ref sig .tc := ⟨.hbm, 189, rfl⟩
abbrev main_call2_cst_9 : Ref sig .tc := ⟨.hbm, 190, rfl⟩
abbrev main_call2_v30 : Ref sig .tc := ⟨.hbm, 191, rfl⟩
abbrev main_call2_v31 : Ref sig .tc := ⟨.hbm, 192, rfl⟩
abbrev main_call2_c : Ref sig .tc := ⟨.hbm, 193, rfl⟩
abbrev main_call2_call0_v0 : Ref sig .tc := ⟨.hbm, 194, rfl⟩
abbrev main_call2_call0_v1 : Ref sig .tc := ⟨.hbm, 195, rfl⟩
abbrev main_call2_v32 : Ref sig .tc := ⟨.hbm, 196, rfl⟩
abbrev main_call2_v33 : Ref sig .tc := ⟨.hbm, 197, rfl⟩
abbrev main_call2_v34 : Ref sig .tc := ⟨.hbm, 198, rfl⟩
abbrev main_call2_c_10 : Ref sig .tc := ⟨.hbm, 199, rfl⟩
abbrev main_call2_call1_v0 : Ref sig .tc := ⟨.hbm, 200, rfl⟩
abbrev main_call2_call1_v1 : Ref sig .tc := ⟨.hbm, 201, rfl⟩
abbrev main_call2_call1_v2 : Ref sig .tc := ⟨.hbm, 202, rfl⟩
abbrev main_call2_v35 : Ref sig .tc := ⟨.hbm, 203, rfl⟩
abbrev main_call2_cst_11 : Ref sig .tc := ⟨.hbm, 204, rfl⟩
abbrev main_call2_v36 : Ref sig .tc := ⟨.hbm, 205, rfl⟩
abbrev main_call2_v37 : Ref sig .tc := ⟨.hbm, 206, rfl⟩
abbrev main_call2_cst_12 : Ref sig .tc := ⟨.hbm, 207, rfl⟩
abbrev main_call2_v38 : Ref sig .tc := ⟨.hbm, 208, rfl⟩
abbrev main_call2_v39 : Ref sig .tc := ⟨.hbm, 209, rfl⟩
abbrev main_call2_v40 : Ref sig .tc := ⟨.hbm, 210, rfl⟩
abbrev main_call2_v41 : Ref sig .tc := ⟨.hbm, 211, rfl⟩
abbrev main_call2_c_13 : Ref sig .tc := ⟨.hbm, 212, rfl⟩
abbrev main_call2_call2_v0 : Ref sig .tc := ⟨.hbm, 213, rfl⟩
abbrev main_call2_call2_v1 : Ref sig .tc := ⟨.hbm, 214, rfl⟩
abbrev main_call2_call2_v2 : Ref sig .tc := ⟨.hbm, 215, rfl⟩
abbrev main_call2_v42 : Ref sig .tc := ⟨.hbm, 216, rfl⟩
abbrev main_call2_cst_14 : Ref sig .tc := ⟨.hbm, 217, rfl⟩
abbrev main_call2_cst_15 : Ref sig .tc := ⟨.hbm, 218, rfl⟩
abbrev main_call2_v43 : Ref sig .tc := ⟨.hbm, 219, rfl⟩
abbrev main_call2_v44 : Ref sig .tc := ⟨.hbm, 220, rfl⟩
abbrev main_call2_cst_16 : Ref sig .tc := ⟨.hbm, 221, rfl⟩
abbrev main_call2_v45 : Ref sig .tc := ⟨.hbm, 222, rfl⟩
abbrev main_call2_v46 : Ref sig .tc := ⟨.hbm, 223, rfl⟩
abbrev main_call2_cst_17 : Ref sig .tc := ⟨.hbm, 224, rfl⟩
abbrev main_call2_v47 : Ref sig .tc := ⟨.hbm, 225, rfl⟩
abbrev main_call2_v48 : Ref sig .tc := ⟨.hbm, 226, rfl⟩
abbrev main_call2_cst_18 : Ref sig .tc := ⟨.hbm, 227, rfl⟩
abbrev main_call2_v49 : Ref sig .tc := ⟨.hbm, 228, rfl⟩
abbrev main_call2_v50 : Ref sig .tc := ⟨.hbm, 229, rfl⟩
abbrev main_call2_cst_19 : Ref sig .tc := ⟨.hbm, 230, rfl⟩
abbrev main_call2_v51 : Ref sig .tc := ⟨.hbm, 231, rfl⟩
abbrev main_call2_v52 : Ref sig .tc := ⟨.hbm, 232, rfl⟩
abbrev main_call2_v53 : Ref sig .tc := ⟨.hbm, 233, rfl⟩
abbrev main_call2_v54 : Ref sig .tc := ⟨.hbm, 234, rfl⟩
abbrev main_call2_v55 : Ref sig .tc := ⟨.hbm, 235, rfl⟩
abbrev main_call2_v56 : Ref sig .tc := ⟨.hbm, 236, rfl⟩
abbrev main_call2_v57 : Ref sig .tc := ⟨.hbm, 237, rfl⟩
abbrev main_call2_v58 : Ref sig .tc := ⟨.hbm, 238, rfl⟩
abbrev main_call2_v59 : Ref sig .tc := ⟨.hbm, 239, rfl⟩
abbrev main_call2_v60 : Ref sig .tc := ⟨.hbm, 240, rfl⟩
abbrev main_call2_v61 : Ref sig .tc := ⟨.hbm, 241, rfl⟩
abbrev main_call2_v62 : Ref sig .tc := ⟨.hbm, 242, rfl⟩
abbrev main_call2_v63 : Ref sig .tc := ⟨.hbm, 243, rfl⟩
abbrev main_call2_cst_20 : Ref sig .tc := ⟨.hbm, 244, rfl⟩
abbrev main_call2_v64 : Ref sig .tc := ⟨.hbm, 245, rfl⟩
abbrev main_call2_v65 : Ref sig .tc := ⟨.hbm, 246, rfl⟩
abbrev main_call2_cst_21 : Ref sig .tc := ⟨.hbm, 247, rfl⟩
abbrev main_call2_v66 : Ref sig .tc := ⟨.hbm, 248, rfl⟩
abbrev main_call2_v67 : Ref sig .tc := ⟨.hbm, 249, rfl⟩
abbrev main_call2_cst_22 : Ref sig .tc := ⟨.hbm, 250, rfl⟩
abbrev main_call2_v68 : Ref sig .tc := ⟨.hbm, 251, rfl⟩
abbrev main_call2_v69 : Ref sig .tc := ⟨.hbm, 252, rfl⟩
abbrev main_call2_v70 : Ref sig .tc := ⟨.hbm, 253, rfl⟩
abbrev main_call2_cst_23 : Ref sig .tc := ⟨.hbm, 254, rfl⟩
abbrev main_call2_v71 : Ref sig .tc := ⟨.hbm, 255, rfl⟩
abbrev main_call2_v72 : Ref sig .tc := ⟨.hbm, 256, rfl⟩
abbrev main_call2_cst_24 : Ref sig .tc := ⟨.hbm, 257, rfl⟩
abbrev main_call2_v73 : Ref sig .tc := ⟨.hbm, 258, rfl⟩
abbrev main_call2_v74 : Ref sig .tc := ⟨.hbm, 259, rfl⟩
abbrev main_call2_c_25 : Ref sig .tc := ⟨.hbm, 260, rfl⟩
abbrev main_call2_call3_v0 : Ref sig .tc := ⟨.hbm, 261, rfl⟩
abbrev main_call2_call3_v1 : Ref sig .tc := ⟨.hbm, 262, rfl⟩
abbrev main_call2_v75 : Ref sig .tc := ⟨.hbm, 263, rfl⟩
abbrev main_call2_v76 : Ref sig .tc := ⟨.hbm, 264, rfl⟩
abbrev main_call2_v77 : Ref sig .tc := ⟨.hbm, 265, rfl⟩
abbrev main_call2_c_26 : Ref sig .tc := ⟨.hbm, 266, rfl⟩
abbrev main_call2_call4_v0 : Ref sig .tc := ⟨.hbm, 267, rfl⟩
abbrev main_call2_call4_v1 : Ref sig .tc := ⟨.hbm, 268, rfl⟩
abbrev main_call2_call4_v2 : Ref sig .tc := ⟨.hbm, 269, rfl⟩
abbrev main_call2_v78 : Ref sig .tc := ⟨.hbm, 270, rfl⟩
abbrev main_call2_cst_27 : Ref sig .tc := ⟨.hbm, 271, rfl⟩
abbrev main_call2_v79 : Ref sig .tc := ⟨.hbm, 272, rfl⟩
abbrev main_call2_v80 : Ref sig .tc := ⟨.hbm, 273, rfl⟩
abbrev main_call2_cst_28 : Ref sig .tc := ⟨.hbm, 274, rfl⟩
abbrev main_call2_v81 : Ref sig .tc := ⟨.hbm, 275, rfl⟩
abbrev main_call2_v82 : Ref sig .tc := ⟨.hbm, 276, rfl⟩
abbrev main_call2_v83 : Ref sig .tc := ⟨.hbm, 277, rfl⟩
abbrev main_call2_v84 : Ref sig .tc := ⟨.hbm, 278, rfl⟩
abbrev main_call2_c_29 : Ref sig .tc := ⟨.hbm, 279, rfl⟩
abbrev main_call2_call5_v0 : Ref sig .tc := ⟨.hbm, 280, rfl⟩
abbrev main_call2_call5_v1 : Ref sig .tc := ⟨.hbm, 281, rfl⟩
abbrev main_call2_call5_v2 : Ref sig .tc := ⟨.hbm, 282, rfl⟩
abbrev main_call2_v85 : Ref sig .tc := ⟨.hbm, 283, rfl⟩
abbrev main_call2_v86 : Ref sig .tc := ⟨.hbm, 284, rfl⟩
abbrev main_call2_v87 : Ref sig .tc := ⟨.hbm, 285, rfl⟩
abbrev main_v91 : Ref sig .tc := ⟨.hbm, 286, rfl⟩
abbrev main_v92 : Ref sig .tc := ⟨.hbm, 287, rfl⟩
abbrev main_v93 : Ref sig .tc := ⟨.hbm, 288, rfl⟩
abbrev main_v94 : Ref sig .tc := ⟨.hbm, 289, rfl⟩
abbrev main_cst_24 : Ref sig .tc := ⟨.hbm, 290, rfl⟩
abbrev main_v95 : Ref sig .tc := ⟨.hbm, 291, rfl⟩
abbrev main_v96 : Ref sig .tc := ⟨.hbm, 292, rfl⟩
abbrev main_cst_25 : Ref sig .tc := ⟨.hbm, 293, rfl⟩
abbrev main_v97 : Ref sig .tc := ⟨.hbm, 294, rfl⟩
abbrev main_v98 : Ref sig .tc := ⟨.hbm, 295, rfl⟩
abbrev main_cst_26 : Ref sig .tc := ⟨.hbm, 296, rfl⟩
abbrev main_v99 : Ref sig .tc := ⟨.hbm, 297, rfl⟩
abbrev main_v100 : Ref sig .tc := ⟨.hbm, 298, rfl⟩
abbrev main_v101 : Ref sig .tc := ⟨.hbm, 299, rfl⟩
abbrev main_cst_27 : Ref sig .tc := ⟨.hbm, 300, rfl⟩
abbrev main_v102 : Ref sig .tc := ⟨.hbm, 301, rfl⟩
abbrev main_v103 : Ref sig .tc := ⟨.hbm, 302, rfl⟩
abbrev main_v104 : Ref sig .tc := ⟨.hbm, 303, rfl⟩
abbrev main_v105 : Ref sig .tc := ⟨.hbm, 304, rfl⟩
abbrev main_cst_28 : Ref sig .tc := ⟨.hbm, 305, rfl⟩
abbrev main_v106 : Ref sig .tc := ⟨.hbm, 306, rfl⟩
abbrev main_cst_29 : Ref sig .tc := ⟨.hbm, 307, rfl⟩
abbrev main_v107 : Ref sig .tc := ⟨.hbm, 308, rfl⟩
abbrev main_cst_30 : Ref sig .tc := ⟨.hbm, 309, rfl⟩
abbrev main_v108 : Ref sig .tc := ⟨.hbm, 310, rfl⟩
abbrev main_v109 : Ref sig .tc := ⟨.hbm, 311, rfl⟩
abbrev main_v110 : Ref sig .tc := ⟨.hbm, 312, rfl⟩
abbrev main_cst_31 : Ref sig .tc := ⟨.hbm, 313, rfl⟩
abbrev main_v111 : Ref sig .tc := ⟨.hbm, 314, rfl⟩
abbrev main_v112 : Ref sig .tc := ⟨.hbm, 315, rfl⟩
abbrev main_v113 : Ref sig .tc := ⟨.hbm, 316, rfl⟩
abbrev main_c_32 : Ref sig .tc := ⟨.hbm, 317, rfl⟩
abbrev main_v114 : Ref sig .tc := ⟨.hbm, 318, rfl⟩
abbrev main_v115 : Ref sig .tc := ⟨.hbm, 319, rfl⟩
abbrev main_c_33 : Ref sig .tc := ⟨.hbm, 320, rfl⟩
abbrev main_v116 : Ref sig .tc := ⟨.hbm, 321, rfl⟩
abbrev main_v117 : Ref sig .tc := ⟨.hbm, 322, rfl⟩
abbrev main_v118 : Ref sig .tc := ⟨.hbm, 323, rfl⟩
abbrev main_c_34 : Ref sig .tc := ⟨.hbm, 324, rfl⟩
abbrev main_v119 : Ref sig .tc := ⟨.hbm, 325, rfl⟩
abbrev main_v120 : Ref sig .tc := ⟨.hbm, 326, rfl⟩
abbrev main_c_35 : Ref sig .tc := ⟨.hbm, 327, rfl⟩
abbrev main_v121 : Ref sig .tc := ⟨.hbm, 328, rfl⟩
abbrev main_v122 : Ref sig .tc := ⟨.hbm, 329, rfl⟩
abbrev main_v123 : Ref sig .tc := ⟨.hbm, 330, rfl⟩
abbrev main_v124 : Ref sig .tc := ⟨.hbm, 331, rfl⟩
abbrev main_v125 : Ref sig .tc := ⟨.hbm, 332, rfl⟩
abbrev main_v126 : Ref sig .tc := ⟨.hbm, 333, rfl⟩
abbrev main_v127 : Ref sig .tc := ⟨.hbm, 334, rfl⟩
abbrev main_v128 : Ref sig .tc := ⟨.hbm, 335, rfl⟩
abbrev main_cst_36 : Ref sig .tc := ⟨.hbm, 336, rfl⟩
abbrev main_v129 : Ref sig .tc := ⟨.hbm, 337, rfl⟩
abbrev main_v130 : Ref sig .tc := ⟨.hbm, 338, rfl⟩
abbrev main_v131 : Ref sig .tc := ⟨.hbm, 339, rfl⟩
abbrev main_v132 : Ref sig .tc := ⟨.hbm, 340, rfl⟩
abbrev main_v133 : Ref sig .tc := ⟨.hbm, 341, rfl⟩
abbrev main_v134 : Ref sig .tc := ⟨.hbm, 342, rfl⟩
abbrev main_v135 : Ref sig .tc := ⟨.hbm, 343, rfl⟩
abbrev main_v136 : Ref sig .tc := ⟨.hbm, 344, rfl⟩
abbrev main_v137 : Ref sig .tc := ⟨.hbm, 345, rfl⟩
abbrev main_cst_37 : Ref sig .tc := ⟨.hbm, 346, rfl⟩
abbrev main_v138 : Ref sig .tc := ⟨.hbm, 347, rfl⟩
abbrev main_cst_38 : Ref sig .tc := ⟨.hbm, 348, rfl⟩
abbrev main_v139 : Ref sig .tc := ⟨.hbm, 349, rfl⟩
abbrev main_cst_39 : Ref sig .tc := ⟨.hbm, 350, rfl⟩
abbrev main_v140 : Ref sig .tc := ⟨.hbm, 351, rfl⟩
abbrev main_v141 : Ref sig .tc := ⟨.hbm, 352, rfl⟩
abbrev main_cst_40 : Ref sig .tc := ⟨.hbm, 353, rfl⟩
abbrev main_v142 : Ref sig .tc := ⟨.hbm, 354, rfl⟩
abbrev main_v143 : Ref sig .tc := ⟨.hbm, 355, rfl⟩
abbrev main_cst_41 : Ref sig .tc := ⟨.hbm, 356, rfl⟩
abbrev main_v144 : Ref sig .tc := ⟨.hbm, 357, rfl⟩
abbrev main_cst_42 : Ref sig .tc := ⟨.hbm, 358, rfl⟩
abbrev main_v145 : Ref sig .tc := ⟨.hbm, 359, rfl⟩
abbrev main_v146 : Ref sig .tc := ⟨.hbm, 360, rfl⟩
abbrev main_v147 : Ref sig .tc := ⟨.hbm, 361, rfl⟩
abbrev main_cst_43 : Ref sig .tc := ⟨.hbm, 362, rfl⟩
abbrev main_v148 : Ref sig .tc := ⟨.hbm, 363, rfl⟩
abbrev main_cst_44 : Ref sig .tc := ⟨.hbm, 364, rfl⟩
abbrev main_v149 : Ref sig .tc := ⟨.hbm, 365, rfl⟩
abbrev main_v150 : Ref sig .tc := ⟨.hbm, 366, rfl⟩
abbrev main_cst_45 : Ref sig .tc := ⟨.hbm, 367, rfl⟩
abbrev main_v151 : Ref sig .tc := ⟨.hbm, 368, rfl⟩
abbrev main_v152 : Ref sig .tc := ⟨.hbm, 369, rfl⟩
abbrev main_v153 : Ref sig .tc := ⟨.hbm, 370, rfl⟩
abbrev main_v154 : Ref sig .tc := ⟨.hbm, 371, rfl⟩
abbrev main_cst_46 : Ref sig .tc := ⟨.hbm, 372, rfl⟩
abbrev main_v155 : Ref sig .tc := ⟨.hbm, 373, rfl⟩
abbrev main_v156 : Ref sig .tc := ⟨.hbm, 374, rfl⟩
abbrev main_cst_47 : Ref sig .tc := ⟨.hbm, 375, rfl⟩
abbrev main_v157 : Ref sig .tc := ⟨.hbm, 376, rfl⟩
abbrev main_cst_48 : Ref sig .tc := ⟨.hbm, 377, rfl⟩
abbrev main_v158 : Ref sig .tc := ⟨.hbm, 378, rfl⟩
abbrev main_v159 : Ref sig .tc := ⟨.hbm, 379, rfl⟩
abbrev main_cst_49 : Ref sig .tc := ⟨.hbm, 380, rfl⟩
abbrev main_v160 : Ref sig .tc := ⟨.hbm, 381, rfl⟩
abbrev main_v161 : Ref sig .tc := ⟨.hbm, 382, rfl⟩
abbrev main_v162 : Ref sig .tc := ⟨.hbm, 383, rfl⟩
abbrev main_v163 : Ref sig .tc := ⟨.hbm, 384, rfl⟩
abbrev main_v164 : Ref sig .tc := ⟨.hbm, 385, rfl⟩
abbrev main_v165 : Ref sig .tc := ⟨.hbm, 386, rfl⟩
abbrev main_v166 : Ref sig .tc := ⟨.hbm, 387, rfl⟩
abbrev main_v167 : Ref sig .tc := ⟨.hbm, 388, rfl⟩
abbrev main_v168 : Ref sig .tc := ⟨.hbm, 389, rfl⟩
abbrev main_cst_50 : Ref sig .tc := ⟨.hbm, 390, rfl⟩
abbrev main_v169 : Ref sig .tc := ⟨.hbm, 391, rfl⟩
abbrev main_cst_51 : Ref sig .tc := ⟨.hbm, 392, rfl⟩
abbrev main_v170 : Ref sig .tc := ⟨.hbm, 393, rfl⟩
abbrev main_cst_52 : Ref sig .tc := ⟨.hbm, 394, rfl⟩
abbrev main_v171 : Ref sig .tc := ⟨.hbm, 395, rfl⟩

abbrev nD : Nat := 1
abbrev τ : Topo := Topo.v7x

variable {F : FTy → Type} [FloatOps F]
-- ==== Proof.Matched.lean ====
/- What the precondition says of the integer arguments and of the logits, read at an index. -/
module

public import proofs.«01_k».proof.Defs
public import proofs.«01_k».proof.Proof.Gen.Pre_matched
public import Idealize.ShloMosaic.Lib.Pointwise

@[expose] public section

set_option maxRecDepth 16384

noncomputable section

namespace Cert.Matched

open Idealize.ShloMosaic Idealize.ShloMosaic.TcCoe
open Cert.Pre_matched

variable {F : FTy → Type} [FloatOps F]

/-- The precondition of the labels `a4`, the matched queries `a5` and the matched targets `a6`: labels are below 80,
    queries are below 100 and an image's are pairwise different, and an image's targets are matched in order. -/
structure Ints (a4 a5 a6 : IVec S8x10 32) : Prop where
  label_lt : ∀ (b : Fin 8) (t : Fin 10), (a4 (ix2 b t)).toNat < 80
  query_lt : ∀ (b : Fin 8) (t : Fin 10), (a5 (ix2 b t)).toNat < 100
  query_ne : ∀ (b : Fin 8) (t u : Fin 10), t ≠ u → a5 (ix2 b t) ≠ a5 (ix2 b u)
  target_eq : ∀ (b : Fin 8) (t : Fin 10), a6 (ix2 b t) = BitVec.ofNat 32 t.val

/-- A bit made of a test is one just when the test holds. -/
theorem ofBool_one (p : Bool) : (BitVec.ofBool p = 1#1) ↔ p = true := by cases p <;> decide
/-- The and of two bits is one just when both are. -/
theorem andi_one (a b : BitVec 1) : IntOp.andi a b = 1#1 ↔ a = 1#1 ∧ b = 1#1 := by revert a b; decide
/-- The or of two bits is one just when either is. -/
theorem ori_one (a b : BitVec 1) : IntOp.ori a b = 1#1 ↔ a = 1#1 ∨ b = 1#1 := by revert a b; decide

/-- A word that is at least 0 and below `n`, both signed, is below `n` as a natural number. -/
theorem toNat_lt_of (w : BitVec 32) (n : ℕ) (hn : n < 2 ^ 31)
    (h : IntOp.andi (IntOp.cmpi .sge w 0#32) (IntOp.cmpi .slt w (BitVec.ofNat 32 n)) = 1#1) : w.toNat < n := by
  rw [andi_one] at h
  simp only [IntOp.cmpi, ofBool_one, BitVec.sle, BitVec.slt, decide_eq_true_eq] at h
  have e : (BitVec.ofNat 32 n).toInt = n := by
    rw [BitVec.toInt_eq_toNat_of_lt] <;> simp only [BitVec.toNat_ofNat] <;> omega
  rw [e] at h
  have h0 : (0#32).toInt = 0 := by decide
  rw [h0] at h
  have := BitVec.toInt_eq_toNat_cond w
  split at this <;> omega

/-- The integer part of the precondition. -/
theorem ints_of (a0 : FVec F S8x100x80 .f32) (a1 : FVec F S8x100x128x128 .f32) (a2 : FVec F S8x100x1 .f32)
    (a3 : FVec F S8x10x512x512 .f32) (a4 a5 a6 : IVec S8x10 32)
    (h1 : (fn (F := F) a0 a1 a2 a3 a4 a5 a6).1 = fun _ => 1#1)
    (h2 : (fn (F := F) a0 a1 a2 a3 a4 a5 a6).2.1 = fun _ => 1#1)
    (h3 : (fn (F := F) a0 a1 a2 a3 a4 a5 a6).2.2.1 = fun _ => 1#1)
    (h4 : (fn (F := F) a0 a1 a2 a3 a4 a5 a6).2.2.2.1 = fun _ => 1#1) : Ints a4 a5 a6 where
  label_lt b t := toNat_lt_of _ 80 (by norm_num) (congrFun h4 (ix2 b t))
  query_lt b t := toNat_lt_of _ 100 (by norm_num) (congrFun h1 (ix2 b t))
  query_ne b t u htu := by
    have h := congrFun h2 (ix3 b t u)
    simp only [fn, fn_part1] at h
    pointwise at h
    intro e
    rw [e] at h
    simp only [ori_one, IntOp.cmpi, ofBool_one] at h
    rcases h with h | h
    · simp at h
    · apply htu
      have := congrArg BitVec.toNat (beq_iff_eq.mp h)
      simp only [BitVec.toNat_ofNat] at this
      omega
  target_eq b t := by
    have h := congrFun h3 (ix2 b t)
    simp only [fn, fn_part1] at h
    pointwise at h
    simp only [IntOp.cmpi, ofBool_one, beq_iff_eq] at h
    exact h

/-- The logits' part of the precondition, at the extended reals: no logit is infinite. -/
theorem finite_of (a0 : FVec Ideal S8x100x80 .f32) (a1 : FVec Ideal S8x100x128x128 .f32) (a2 : FVec Ideal S8x100x1 .f32)
    (a3 : FVec Ideal S8x10x512x512 .f32) (a4 a5 a6 : IVec S8x10 32)
    (h5 : (fn (F := Ideal) a0 a1 a2 a3 a4 a5 a6).2.2.2.2 = fun _ => 1#1) (b : Fin 8) (n : Fin 100) (k : Fin 80) :
    (show EReal from a0 (ix3 b n k)) ≠ ⊤ ∧ (show EReal from a0 (ix3 b n k)) ≠ ⊥ := by
  have h := congrFun h5 (ix3 b n k)
  simp only [fn, fn_part1] at h
  pointwise at h
  rw [ofBool_one, decide_eq_true_eq] at h
  have htop : Ideal.ofBits .f32 0x7F800000#32 = ⊤ := by simp [Ideal.ofBits, Ideal.ieee]
  rw [htop] at h
  change max (show EReal from a0 (ix3 b n k)) (-(show EReal from a0 (ix3 b n k))) < ⊤ at h
  generalize (show EReal from a0 (ix3 b n k)) = v at h ⊢
  constructor
  · rintro rfl; simp at h
  · rintro rfl; simp at h

end Cert.Matched

end
-- ==== Proof.Ideal.Schedule.lean ====
/- When the region fetches each input window and writes each output window back, and the body as the region calls it at a grid point. -/
module

public import proofs.«01_k».proof.Proof.Gen.KernelIdeal
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%40)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 4 (%41)) is fetched at the first point only, at any contents of the tables (its index map reads none). -/
theorem fetch0_1 (a : (pcfg0 (F := F)).Adm) : ∀ t : Fin (cfg0 a).N, ((cfg0 a).win 1).fetch t = true ↔ t.val % 5 = 0 :=
  (fun t => Pipeline.Window.fetchOf_const cc0_transform_1 (fun _ _ => rfl) (n := 5) (by decide) t : ∀ t : Fin grid0.N, Pipeline.Window.fetchOf grid0 false cc0_transform_1 t = true ↔ t.val % 5 = 0)
/-- Window 2 (operand 5 (%42)) is fetched at the first point only, at any contents of the tables (its index map reads none). -/
theorem fetch0_2 (a : (pcfg0 (F := F)).Adm) : ∀ t : Fin (cfg0 a).N, ((cfg0 a).win 2).fetch t = true ↔ t.val % 5 = 0 :=
  (fun t => Pipeline.Window.fetchOf_const cc0_transform_2 (fun _ _ => rfl) (n := 5) (by decide) t : ∀ t : Fin grid0.N, Pipeline.Window.fetchOf grid0 false cc0_transform_2 t = true ↔ t.val % 5 = 0)
/-- Window 3 (operand 6 (%38)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 20 (operand 23 (%36)) is fetched at the first point only, at any contents of the tables (its index map reads none). -/
theorem fetch0_20 (a : (pcfg0 (F := F)).Adm) : ∀ t : Fin (cfg0 a).N, ((cfg0 a).win 20).fetch t = true ↔ t.val % 5 = 0 :=
  (fun t => Pipeline.Window.fetchOf_const cc0_transform_20 (fun _ _ => rfl) (n := 5) (by decide) t : ∀ t : Fin grid0.N, Pipeline.Window.fetchOf grid0 false cc0_transform_20 t = true ↔ t.val % 5 = 0)
/-- Window 21 (operand 24 (%37)) is fetched at the first point only, at any contents of the tables (its index map reads none). -/
theorem fetch0_21 (a : (pcfg0 (F := F)).Adm) : ∀ t : Fin (cfg0 a).N, ((cfg0 a).win 21).fetch t = true ↔ t.val % 5 = 0 :=
  (fun t => Pipeline.Window.fetchOf_const cc0_transform_21 (fun _ _ => rfl) (n := 5) (by decide) t : ∀ t : Fin grid0.N, Pipeline.Window.fetchOf grid0 false cc0_transform_21 t = true ↔ t.val % 5 = 0)
/-- Window 22 (result 0 (%43#0)) is written back at the last point only, at any contents of the tables (its index map reads none). -/
theorem flush0_22 (a : (pcfg0 (F := F)).Adm) : ∀ t : Fin (cfg0 a).N, ((cfg0 a).win 22).flush t = true ↔ t.val % 5 = 4 :=
  (fun t => Pipeline.Window.flushOf_const cc0_transform_22 (fun _ _ => rfl) (n := 5) (by decide) rfl t : ∀ t : Fin grid0.N, Pipeline.Window.flushOf grid0 true cc0_transform_22 t = true ↔ t.val % 5 = 4)
/-- Window 23 (result 1 (%43#1)) is written back at the last point only, at any contents of the tables (its index map reads none). -/
theorem flush0_23 (a : (pcfg0 (F := F)).Adm) : ∀ t : Fin (cfg0 a).N, ((cfg0 a).win 23).flush t = true ↔ t.val % 5 = 4 :=
  (fun t => Pipeline.Window.flushOf_const cc0_transform_23 (fun _ _ => rfl) (n := 5) (by decide) rfl t : ∀ t : Fin grid0.N, Pipeline.Window.flushOf grid0 true cc0_transform_23 t = true ↔ t.val % 5 = 4)
/-- Window 24 (result 2 (%43#2)) is written back at the last point only, at any contents of the tables (its index map reads none). -/
theorem flush0_24 (a : (pcfg0 (F := F)).Adm) : ∀ t : Fin (cfg0 a).N, ((cfg0 a).win 24).flush t = true ↔ t.val % 5 = 4 :=
  (fun t => Pipeline.Window.flushOf_const cc0_transform_24 (fun _ _ => rfl) (n := 5) (by decide) rfl t : ∀ t : Fin grid0.N, Pipeline.Window.flushOf grid0 true cc0_transform_24 t = true ↔ t.val % 5 = 4)
/-- Window 25 (result 3 (%43#3)) is written back at the last point only, at any contents of the tables (its index map reads none). -/
theorem flush0_25 (a : (pcfg0 (F := F)).Adm) : ∀ t : Fin (cfg0 a).N, ((cfg0 a).win 25).flush t = true ↔ t.val % 5 = 4 :=
  (fun t => Pipeline.Window.flushOf_const cc0_transform_25 (fun _ _ => rfl) (n := 5) (by decide) rfl t : ∀ t : Fin grid0.N, Pipeline.Window.flushOf grid0 true cc0_transform_25 t = true ↔ t.val % 5 = 4)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)
abbrev st0_19 (a : (pcfg0 (F := F)).Adm) (t : Fin (cfg0 a).N) := ((cfg0 a).win 19).stage ((cfg0 a).slots t 19)
abbrev st0_20 (a : (pcfg0 (F := F)).Adm) (t : Fin (cfg0 a).N) := ((cfg0 a).win 20).stage ((cfg0 a).slots t 20)
abbrev st0_21 (a : (pcfg0 (F := F)).Adm) (t : Fin (cfg0 a).N) := ((cfg0 a).win 21).stage ((cfg0 a).slots t 21)
abbrev st0_22 (a : (pcfg0 (F := F)).Adm) (t : Fin (cfg0 a).N) := ((cfg0 a).win 22).stage ((cfg0 a).slots t 22)
abbrev st0_23 (a : (pcfg0 (F := F)).Adm) (t : Fin (cfg0 a).N) := ((cfg0 a).win 23).stage ((cfg0 a).slots t 23)
abbrev st0_24 (a : (pcfg0 (F := F)).Adm) (t : Fin (cfg0 a).N) := ((cfg0 a).win 24).stage ((cfg0 a).slots t 24)
abbrev st0_25 (a : (pcfg0 (F := F)).Adm) (t : Fin (cfg0 a).N) := ((cfg0 a).win 25).stage ((cfg0 a).slots t 25)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__loss_kernel (grid0.coords t) (Memref.whole main_v6) (Memref.isWhole_whole _) (Memref.whole main_v10) (Memref.isWhole_whole _) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (spec0_23.stage ((cfg0 a).slots t 23)) (hstage0_23 (((cfg0 a).slots t 23).cast nbuf0_23)) (spec0_24.stage ((cfg0 a).slots t 24)) (hstage0_24 (((cfg0 a).slots t 24).cast nbuf0_24)) (spec0_25.stage ((cfg0 a).slots t 25)) (hstage0_25 (((cfg0 a).slots t 25).cast nbuf0_25))

end Cert.KernelIdeal.Gen

end
-- ==== Proof.Ideal.Entry.lean ====
/- The kernel program around its region: the host lines before and after, what the arrays and tables hold at its entry, the blocks each window stages, and the frame read off a run of the region. -/
module

public import proofs.«01_k».proof.Proof.Gen.KernelIdeal.Launch
public import proofs.«01_k».proof.Proof.Gen.KernelIdeal.Skeleton
public import proofs.«01_k».proof.Proof.Ideal.Schedule
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1040000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S80 .i32 := Memref.whole main_v6
abbrev htbM0_0 : tbM0_0.IsWhole := Memref.isWhole_whole _
abbrev tbM0_1 : Memref sig .tc .smem S80 .i32 := Memref.whole main_v10
abbrev htbM0_1 : tbM0_1.IsWhole := Memref.isWhole_whole _
abbrev tbM0_2 : Memref sig .tc .smem S80 .i32 := Memref.whole main_v11
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of (hO : Ok m) {c : Dev nD} (dat : Dat τ (Elt F) Unit ℕ (UR sig nD τ) ℕ (cfgM m hO) c) (hA : dat.A 19 = V m c (Pipeline.arrRef spec0 19))
    (hafter : ∀ t, dat.after 19 t = iblk m hO c 19 t) (t : Fin (cfgM m hO).N) (d) : dat.before 19 t d = iblk m hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of (hO : Ok m) {c : Dev nD} (dat : Dat τ (Elt F) Unit ℕ (UR sig nD τ) ℕ (cfgM m hO) c) (hA : dat.A 20 = V m c (Pipeline.arrRef spec0 20))
    (hafter : ∀ t, dat.after 20 t = iblk m hO c 20 t) (t : Fin (cfgM m hO).N) (d) : dat.before 20 t d = iblk m hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of (hO : Ok m) {c : Dev nD} (dat : Dat τ (Elt F) Unit ℕ (UR sig nD τ) ℕ (cfgM m hO) c) (hA : dat.A 21 = V m c (Pipeline.arrRef spec0 21))
    (hafter : ∀ t, dat.after 21 t = iblk m hO c 21 t) (t : Fin (cfgM m hO).N) (d) : dat.before 21 t d = iblk m hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c)),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## The kernel body on any staging memrefs: a subtype the run finds -/

/-- One staging buffer of output window 22, through which its contents are stated (`View.read_writes_of_cover`: the
    choice does not matter). -/
abbrev VO0_22 : View sig .tc .smem S1x1 .f32 := (Memref.whole cc0_stg22_0 : Memref sig .tc .smem S1x1 .f32).view
/-- One staging buffer of output window 23, through which its contents are stated (`View.read_writes_of_cover`: the
    choice does not matter). -/
abbrev VO0_23 : View sig .tc .smem S1x1 .f32 := (Memref.whole cc0_stg23_0 : Memref sig .tc .smem S1x1 .f32).view
/-- One staging buffer of output window 24, through which its contents are stated (`View.read_writes_of_cover`: the
    choice does not matter). -/
abbrev VO0_24 : View sig .tc .smem S1x1 .f32 := (Memref.whole cc0_stg24_0 : Memref sig .tc .smem S1x1 .f32).view
/-- One staging buffer of output window 25, through which its contents are stated (`View.read_writes_of_cover`: the
    choice does not matter). -/
abbrev VO0_25 : View sig .tc .smem S1x1 .f32 := (Memref.whole cc0_stg25_0 : Memref sig .tc .smem S1x1 .f32).view
/-- Each window's current staging memref at point `t`, spelled as the pipeline passes it (`bodyAt0`), and its wholeness. -/
abbrev ms0_0 (hO : Ok m) (t : Fin (cfgM m hO).N) : Memref sig .tc .vmem S1x160x80 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S800x80 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S800x1 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8192x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x128x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x128x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x128x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x128x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x128x128 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x128x128 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x128x128 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x128x128 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x128x128 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x128x128 .f32 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S512x128 .bf16 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S128x512 .bf16 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .smem S1x1 .f32 := spec0_22.stage ((cfgM m hO).slots t 22)
abbrev hs0_22 (hO : Ok m) (t : Fin (cfgM m hO).N) : (ms0_22 m hO t).IsWhole := hstage0_22 (((cfgM m hO).slots t 22).cast nbuf0_22)
abbrev ms0_23 (hO : Ok m) (t : Fin (cfgM m hO).N) : Memref sig .tc .smem S1x1 .f32 := spec0_23.stage ((cfgM m hO).slots t 23)
abbrev hs0_23 (hO : Ok m) (t : Fin (cfgM m hO).N) : (ms0_23 m hO t).IsWhole := hstage0_23 (((cfgM m hO).slots t 23).cast nbuf0_23)
abbrev ms0_24 (hO : Ok m) (t : Fin (cfgM m hO).N) : Memref sig .tc .smem S1x1 .f32 := spec0_24.stage ((cfgM m hO).slots t 24)
abbrev hs0_24 (hO : Ok m) (t : Fin (cfgM m hO).N) : (ms0_24 m hO t).IsWhole := hstage0_24 (((cfgM m hO).slots t 24).cast nbuf0_24)
abbrev ms0_25 (hO : Ok m) (t : Fin (cfgM m hO).N) : Memref sig .tc .smem S1x1 .f32 := spec0_25.stage ((cfgM m hO).slots t 25)
abbrev hs0_25 (hO : Ok m) (t : Fin (cfgM m hO).N) : (ms0_25 m hO t).IsWhole := hstage0_25 (((cfgM m hO).slots t 25).cast nbuf0_25)

end Cert.KernelIdeal.Gen

end
-- ==== Proof.Ideal.Checks.lean ====
/- The side conditions the body asserts of the table words it reads: each holds of a word in the range the tables have. -/
module

public import proofs.«01_k».proof.Proof.Ideal.Entry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row number below 800 addresses one score. -/
theorem chk_score (v : BitVec 32) (h : v.toNat < 800) : k0_chk1 v := by
  unfold k0_chk1 k0_off2
  intro a; fin_cases a <;> simp [Scalar.indexCast] <;> omega
/-- A row number below 800 addresses one row of the logits. -/
theorem chk_row (v : BitVec 32) (h : v.toNat < 800) : k0_chk17 v := by
  unfold k0_chk17 k0_off34
  intro a; fin_cases a <;> simp [Scalar.indexCast] <;> omega
/-- A target number below 80 addresses one label. -/
theorem chk_label (v : BitVec 32) (h : v.toNat < 80) : k0_chk33 v := by
  unfold k0_chk33 k0_off66
  intro a; fin_cases a; simp [Scalar.indexCast]; omega

/-- Every word of the first table, read anywhere, is below 800, and every word of the second is below 80. -/
structure TblOk (c : Dev nD) (xt0 : TbBuf0 (F := F) c tbM0_0) (xt1 : TbBuf0 (F := F) c tbM0_1) : Prop where
  w0 : ∀ (r : LoadRect S80) (x : r.shape.Idx), BitVec.toNat (w := 32) (tbM0_0.view.readAt (Elt F) r xt0 x) < 800
  w1 : ∀ (r : LoadRect S80) (x : r.shape.Idx), BitVec.toNat (w := 32) (tbM0_1.view.readAt (Elt F) r xt1 x) < 80

end Cert.KernelIdeal.Gen

end
-- ==== Proof.Ideal.RunA.lean ====
/- The run of the whole body at the first grid point, where the four accumulators are zeroed. -/
module

public import proofs.«01_k».proof.Proof.Ideal.Checks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : cond0_0 i)
    (x0 : Vec F S1x160x80 .f32) (x1 : Vec F S800x80 .f32) (x2 : Vec F S800x1 .f32) (x3 : Vec F S1x8192x512 .f32) (x4 : Vec F S1x128x128 .f32) (x5 : Vec F S1x128x128 .f32) (x6 : Vec F S1x128x128 .f32) (x7 : Vec F S1x128x128 .f32) (x8 : Vec F S1x128x128 .f32) (x9 : Vec F S1x128x128 .f32) (x10 : Vec F S1x128x128 .f32) (x11 : Vec F S1x128x128 .f32) (x12 : Vec F S1x128x128 .f32) (x13 : Vec F S1x128x128 .f32) (x14 : Vec F S1x128x128 .f32) (x15 : Vec F S1x128x128 .f32) (x16 : Vec F S1x128x128 .f32) (x17 : Vec F S1x128x128 .f32) (x18 : Vec F S1x128x128 .f32) (x19 : Vec F S1x128x128 .f32) (x20 : Vec F S512x128 .bf16) (x21 : Vec F S128x512 .bf16) (xt0 : TbBuf0 (F := F) c tbM0_0) (xt1 : TbBuf0 (F := F) c tbM0_1) (xt2 : TbBuf0 (F := F) c tbM0_2) (hT : TblOk c xt0 xt1) :
    Σ' (L22 : List (View.Piece (Elt F) S1x1 .f32)), Σ' (L23 : List (View.Piece (Elt F) S1x1 .f32)), Σ' (L24 : List (View.Piece (Elt F) S1x1 .f32)), { L25 : List (View.Piece (Elt F) S1x1 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ (∃ f, arg26.view.loc (c : Thread nD τ) ↦[arg26.view.set]{fullShare} arg26.view.writes (Elt F) f L22) ∗ (∃ f, arg27.view.loc (c : Thread nD τ) ↦[arg27.view.set]{fullShare} arg27.view.writes (Elt F) f L23) ∗ (∃ f, arg28.view.loc (c : Thread nD τ) ↦[arg28.view.set]{fullShare} arg28.view.writes (Elt F) f L24) ∗ (∃ f, arg29.view.loc (c : Thread nD τ) ↦[arg29.view.set]{fullShare} arg29.view.writes (Elt F) f L25) ∗ tbPt0 c tbM0_0 xt0 ∗ tbPt0 c tbM0_1 xt1 ∗ tbPt0 c tbM0_2 xt2) -∗ K ⟨⟩))
          ⊢ wp frame (wpE (defs₀ (F := F)) Variants.none c none) E (cc0__loss_kernel i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, fun E K => ?run⟩
  case run =>
    simp only [cc0__loss_kernel_eq_skeleton]; unfold cc0__loss_kernel_skel
    simp only [k0_part10_eq_skeleton, k0_part11_eq_skeleton, k0_part12_eq_skeleton, k0_part13_eq_skeleton, k0_part14_eq_skeleton, k0_part15_eq_skeleton, k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg21.eq_unread hf17; obtain rfl := harg22.eq_unread hf18; obtain rfl := harg23.eq_unread hf19; obtain rfl := harg24.eq_unread hf20; obtain rfl := harg25.eq_unread hf21
    sl_exec (disch := first | sl_exact hc0 | exact chk_score _ (hT.w0 _ _) | exact chk_row _ (hT.w0 _ _) | exact chk_label _ (hT.w1 _ _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]
    · iexists _; isplitr; · ipureintro; exact harg22.read_unread _
      iexact H18
    isplitl [H19]
    · iexists _; isplitr; · ipureintro; exact harg23.read_unread _
      iexact H19
    isplitl [H20]
    · iexists _; isplitr; · ipureintro; exact harg24.read_unread _
      iexact H20
    isplitl [H21]
    · iexists _; isplitr; · ipureintro; exact harg25.read_unread _
      iexact H21
    isplitl [H22]; · iexists _; iexact H22
    isplitl [H23]; · iexists _; iexact H23
    isplitl [H24]; · iexists _; iexact H24
    isplitl [H25]; · iexists _; iexact H25
    isplitl [HT0]; · iexact HT0
    isplitl [HT1]; · iexact HT1
    iexact HT2

end Cert.KernelIdeal.Gen

end
-- ==== Proof.Ideal.RunB.lean ====
/- The run of the whole body at the later grid points, which add to the four accumulators. -/
module

public import proofs.«01_k».proof.Proof.Ideal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken: points 1, 2, 3, 4), WITH the
    proof that on whole staging memrefs — the inputs' at their contents, the outputs it reads before covering (22, 23, 24, 25) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : ¬cond0_0 i)
    (x0 : Vec F S1x160x80 .f32) (x1 : Vec F S800x80 .f32) (x2 : Vec F S800x1 .f32) (x3 : Vec F S1x8192x512 .f32) (x4 : Vec F S1x128x128 .f32) (x5 : Vec F S1x128x128 .f32) (x6 : Vec F S1x128x128 .f32) (x7 : Vec F S1x128x128 .f32) (x8 : Vec F S1x128x128 .f32) (x9 : Vec F S1x128x128 .f32) (x10 : Vec F S1x128x128 .f32) (x11 : Vec F S1x128x128 .f32) (x12 : Vec F S1x128x128 .f32) (x13 : Vec F S1x128x128 .f32) (x14 : Vec F S1x128x128 .f32) (x15 : Vec F S1x128x128 .f32) (x16 : Vec F S1x128x128 .f32) (x17 : Vec F S1x128x128 .f32) (x18 : Vec F S1x128x128 .f32) (x19 : Vec F S1x128x128 .f32) (x20 : Vec F S512x128 .bf16) (x21 : Vec F S128x512 .bf16) (xt0 : TbBuf0 (F := F) c tbM0_0) (xt1 : TbBuf0 (F := F) c tbM0_1) (xt2 : TbBuf0 (F := F) c tbM0_2) (hT : TblOk c xt0 xt1) (xo22 : Vec F S1x1 .f32) (xo23 : Vec F S1x1 .f32) (xo24 : Vec F S1x1 .f32) (xo25 : Vec F S1x1 .f32) :
    Σ' (L22 : List (View.Piece (Elt F) S1x1 .f32)), Σ' (L23 : List (View.Piece (Elt F) S1x1 .f32)), Σ' (L24 : List (View.Piece (Elt F) S1x1 .f32)), { L25 : List (View.Piece (Elt F) S1x1 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare xo22 ∗ owns (c : Thread nD τ) arg27 fullShare xo23 ∗ owns (c : Thread nD τ) arg28 fullShare xo24 ∗ owns (c : Thread nD τ) arg29 fullShare xo25 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ (∃ f, arg26.view.loc (c : Thread nD τ) ↦[arg26.view.set]{fullShare} arg26.view.writes (Elt F) f L22) ∗ (∃ f, arg27.view.loc (c : Thread nD τ) ↦[arg27.view.set]{fullShare} arg27.view.writes (Elt F) f L23) ∗ (∃ f, arg28.view.loc (c : Thread nD τ) ↦[arg28.view.set]{fullShare} arg28.view.writes (Elt F) f L24) ∗ (∃ f, arg29.view.loc (c : Thread nD τ) ↦[arg29.view.set]{fullShare} arg29.view.writes (Elt F) f L25) ∗ tbPt0 c tbM0_0 xt0 ∗ tbPt0 c tbM0_1 xt1 ∗ tbPt0 c tbM0_2 xt2) -∗ K ⟨⟩))
          ⊢ wp frame (wpE (defs₀ (F := F)) Variants.none c none) E (cc0__loss_kernel i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, fun E K => ?run⟩
  case run =>
    simp only [cc0__loss_kernel_eq_skeleton]; unfold cc0__loss_kernel_skel
    simp only [k0_part10_eq_skeleton, k0_part11_eq_skeleton, k0_part12_eq_skeleton, k0_part13_eq_skeleton, k0_part14_eq_skeleton, k0_part15_eq_skeleton, k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg21.eq_unread hf17; obtain rfl := harg22.eq_unread hf18; obtain rfl := harg23.eq_unread hf19; obtain rfl := harg24.eq_unread hf20; obtain rfl := harg25.eq_unread hf21; obtain rfl := harg26.eq_unread hf22; obtain rfl := harg27.eq_unread hf23; obtain rfl := harg28.eq_unread hf24; obtain rfl := harg29.eq_unread hf25
    sl_exec (disch := first | sl_exact hc0 | exact chk_score _ (hT.w0 _ _) | exact chk_row _ (hT.w0 _ _) | exact chk_label _ (hT.w1 _ _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]
    · iexists _; isplitr; · ipureintro; exact harg22.read_unread _
      iexact H18
    isplitl [H19]
    · iexists _; isplitr; · ipureintro; exact harg23.read_unread _
      iexact H19
    isplitl [H20]
    · iexists _; isplitr; · ipureintro; exact harg24.read_unread _
      iexact H20
    isplitl [H21]
    · iexists _; isplitr; · ipureintro; exact harg25.read_unread _
      iexact H21
    isplitl [H22]; · iexists _; iexact H22
    isplitl [H23]; · iexists _; iexact H23
    isplitl [H24]; · iexists _; iexact H24
    isplitl [H25]; · iexists _; iexact H25
    isplitl [HT0]; · iexact HT0
    isplitl [HT1]; · iexact HT1
    iexact HT2

end Cert.KernelIdeal.Gen

end
-- ==== Proof.Ideal.Frame.lean ====
/- The frame of the program: what the four accumulators hold point by point, the proof data of the pipeline, the obligation of the body, the run and the frame. -/
module

public import proofs.«01_k».proof.Proof.Ideal.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point of case A, at the memrefs and the input blocks the point has. -/
def runA (hO : Ok m) (hT : ∀ c : Dev nD, TblOk c (tbl m 0) (tbl m 1)) (c : Dev nD) (t : Fin (cfgM m hO).N) (h0 : t.val % 5 = 0) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0) (tbl m 1) (tbl m 2) (hT c)

/-- The run of the body at a point of case B, over what the accumulators hold there. -/
def runB (hO : Ok m) (hT : ∀ c : Dev nD, TblOk c (tbl m 0) (tbl m 1)) (c : Dev nD) (t : Fin (cfgM m hO).N) (h0 : ¬t.val % 5 = 0)
    (a22 a23 a24 a25 : Vec F S1x1 .f32) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (tbl m 0) (tbl m 1) (tbl m 2) (hT c) a22 a23 a24 a25

/-- The stores of case A to output 22 cover its block. -/
theorem coverA_22 (hO : Ok m) (hT : ∀ c : Dev nD, TblOk c (tbl m 0) (tbl m 1)) (c : Dev nD) (t : Fin (cfgM m hO).N) (h0 : t.val % 5 = 0) (y : S1x1.Idx) :
    ∃ pc ∈ (runA m hO hT c t h0).1, y ∈ pc.1.set :=
  View.cover_of_tiledL (runA m hO hT c t h0).1 S1x1.size (by sl_kernel_rfl) y

/-- What case A leaves in output 22's staging buffer. -/
def outA_22 (hO : Ok m) (hT : ∀ c : Dev nD, TblOk c (tbl m 0) (tbl m 1)) (c : Dev nD) (t : Fin (cfgM m hO).N) (h0 : t.val % 5 = 0) : Vec F S1x1 .f32 :=
  VO0_22.read (Elt F) (VO0_22.writes (Elt F) VO0_22.junk (runA m hO hT c t h0).1)

/-- The stores of case A to output 23 cover its block. -/
theorem coverA_23 (hO : Ok m) (hT : ∀ c : Dev nD, TblOk c (tbl m 0) (tbl m 1)) (c : Dev nD) (t : Fin (cfgM m hO).N) (h0 : t.val % 5 = 0) (y : S1x1.Idx) :
    ∃ pc ∈ (runA m hO hT c t h0).2.1, y ∈ pc.1.set :=
  View.cover_of_tiledL (runA m hO hT c t h0).2.1 S1x1.size (by sl_kernel_rfl) y

/-- What case A leaves in output 23's staging buffer. -/
def outA_23 (hO : Ok m) (hT : ∀ c : Dev nD, TblOk c (tbl m 0) (tbl m 1)) (c : Dev nD) (t : Fin (cfgM m hO).N) (h0 : t.val % 5 = 0) : Vec F S1x1 .f32 :=
  VO0_23.read (Elt F) (VO0_23.writes (Elt F) VO0_23.junk (runA m hO hT c t h0).2.1)

/-- The stores of case A to output 24 cover its block. -/
theorem coverA_24 (hO : Ok m) (hT : ∀ c : Dev nD, TblOk c (tbl m 0) (tbl m 1)) (c : Dev nD) (t : Fin (cfgM m hO).N) (h0 : t.val % 5 = 0) (y : S1x1.Idx) :
    ∃ pc ∈ (runA m hO hT c t h0).2.2.1, y ∈ pc.1.set :=
  View.cover_of_tiledL (runA m hO hT c t h0).2.2.1 S1x1.size (by sl_kernel_rfl) y

/-- What case A leaves in output 24's staging buffer. -/
def outA_24 (hO : Ok m) (hT : ∀ c : Dev nD, TblOk c (tbl m 0) (tbl m 1)) (c : Dev nD) (t : Fin (cfgM m hO).N) (h0 : t.val % 5 = 0) : Vec F S1x1 .f32 :=
  VO0_24.read (Elt F) (VO0_24.writes (Elt F) VO0_24.junk (runA m hO hT c t h0).2.2.1)

/-- The stores of case A to output 25 cover its block. -/
theorem coverA_25 (hO : Ok m) (hT : ∀ c : Dev nD, TblOk c (tbl m 0) (tbl m 1)) (c : Dev nD) (t : Fin (cfgM m hO).N) (h0 : t.val % 5 = 0) (y : S1x1.Idx) :
    ∃ pc ∈ (runA m hO hT c t h0).2.2.2.1, y ∈ pc.1.set :=
  View.cover_of_tiledL (runA m hO hT c t h0).2.2.2.1 S1x1.size (by sl_kernel_rfl) y

/-- What case A leaves in output 25's staging buffer. -/
def outA_25 (hO : Ok m) (hT : ∀ c : Dev nD, TblOk c (tbl m 0) (tbl m 1)) (c : Dev nD) (t : Fin (cfgM m hO).N) (h0 : t.val % 5 = 0) : Vec F S1x1 .f32 :=
  VO0_25.read (Elt F) (VO0_25.writes (Elt F) VO0_25.junk (runA m hO hT c t h0).2.2.2.1)

/-- The stores of case B to output 22 cover its block. -/
theorem coverB_22 (hO : Ok m) (hT : ∀ c : Dev nD, TblOk c (tbl m 0) (tbl m 1)) (c : Dev nD) (t : Fin (cfgM m hO).N) (h0 : ¬t.val % 5 = 0) (a22 a23 a24 a25 : Vec F S1x1 .f32) (y : S1x1.Idx) :
    ∃ pc ∈ (runB m hO hT c t h0 a22 a23 a24 a25).1, y ∈ pc.1.set :=
  View.cover_of_tiledL (runB m hO hT c t h0 a22 a23 a24 a25).1 S1x1.size (by sl_kernel_rfl) y

/-- What case B leaves in output 22's staging buffer. -/
def outB_22 (hO : Ok m) (hT : ∀ c : Dev nD, TblOk c (tbl m 0) (tbl m 1)) (c : Dev nD) (t : Fin (cfgM m hO).N) (h0 : ¬t.val % 5 = 0) (a22 a23 a24 a25 : Vec F S1x1 .f32) : Vec F S1x1 .f32 :=
  VO0_22.read (Elt F) (VO0_22.writes (Elt F) VO0_22.junk (runB m hO hT c t h0 a22 a23 a24 a25).1)

/-- The stores of case B to output 23 cover its block. -/
theorem coverB_23 (hO : Ok m) (hT : ∀ c : Dev nD, TblOk c (tbl m 0) (tbl m 1)) (c : Dev nD) (t : Fin (cfgM m hO).N) (h0 : ¬t.val % 5 = 0) (a22 a23 a24 a25 : Vec F S1x1 .f32) (y : S1x1.Idx) :
    ∃ pc ∈ (runB m hO hT c t h0 a22 a23 a24 a25).2.1, y ∈ pc.1.set :=
  View.cover_of_tiledL (runB m hO hT c t h0 a22 a23 a24 a25).2.1 S1x1.size (by sl_kernel_rfl) y

/-- What case B leaves in output 23's staging buffer. -/
def outB_23 (hO : Ok m) (hT : ∀ c : Dev nD, TblOk c (tbl m 0) (tbl m 1)) (c : Dev nD) (t : Fin (cfgM m hO).N) (h0 : ¬t.val % 5 = 0) (a22 a23 a24 a25 : Vec F S1x1 .f32) : Vec F S1x1 .f32 :=
  VO0_23.read (Elt F) (VO0_23.writes (Elt F) VO0_23.junk (runB m hO hT c t h0 a22 a23 a24 a25).2.1)

/-- The stores of case B to output 24 cover its block. -/
theorem coverB_24 (hO : Ok m) (hT : ∀ c : Dev nD, TblOk c (tbl m 0) (tbl m 1)) (c : Dev nD) (t : Fin (cfgM m hO).N) (h0 : ¬t.val % 5 = 0) (a22 a23 a24 a25 : Vec F S1x1 .f32) (y : S1x1.Idx) :
    ∃ pc ∈ (runB m hO hT c t h0 a22 a23 a24 a25).2.2.1, y ∈ pc.1.set :=
  View.cover_of_tiledL (runB m hO hT c t h0 a22 a23 a24 a25).2.2.1 S1x1.size (by sl_kernel_rfl) y

/-- What case B leaves in output 24's staging buffer. -/
def outB_24 (hO : Ok m) (hT : ∀ c : Dev nD, TblOk c (tbl m 0) (tbl m 1)) (c : Dev nD) (t : Fin (cfgM m hO).N) (h0 : ¬t.val % 5 = 0) (a22 a23 a24 a25 : Vec F S1x1 .f32) : Vec F S1x1 .f32 :=
  VO0_24.read (Elt F) (VO0_24.writes (Elt F) VO0_24.junk (runB m hO hT c t h0 a22 a23 a24 a25).2.2.1)

/-- The stores of case B to output 25 cover its block. -/
theorem coverB_25 (hO : Ok m) (hT : ∀ c : Dev nD, TblOk c (tbl m 0) (tbl m 1)) (c : Dev nD) (t : Fin (cfgM m hO).N) (h0 : ¬t.val % 5 = 0) (a22 a23 a24 a25 : Vec F S1x1 .f32) (y : S1x1.Idx) :
    ∃ pc ∈ (runB m hO hT c t h0 a22 a23 a24 a25).2.2.2.1, y ∈ pc.1.set :=
  View.cover_of_tiledL (runB m hO hT c t h0 a22 a23 a24 a25).2.2.2.1 S1x1.size (by sl_kernel_rfl) y

/-- What case B leaves in output 25's staging buffer. -/
def outB_25 (hO : Ok m) (hT : ∀ c : Dev nD, TblOk c (tbl m 0) (tbl m 1)) (c : Dev nD) (t : Fin (cfgM m hO).N) (h0 : ¬t.val % 5 = 0) (a22 a23 a24 a25 : Vec F S1x1 .f32) : Vec F S1x1 .f32 :=
  VO0_25.read (Elt F) (VO0_25.writes (Elt F) VO0_25.junk (runB m hO hT c t h0 a22 a23 a24 a25).2.2.2.1)

/-- What the accumulators hold after the body at each point: the first point's run, then each later run over what the
    point before left. -/
def outsAt0 (hO : Ok m) (hT : ∀ c : Dev nD, TblOk c (tbl m 0) (tbl m 1)) (c : Dev nD) : (n : ℕ) → n < (cfgM m hO).N → Vec F S1x1 .f32 × Vec F S1x1 .f32 × Vec F S1x1 .f32 × Vec F S1x1 .f32
  | 0, hn => (outA_22 m hO hT c ⟨0, hn⟩ (Nat.zero_mod _), outA_23 m hO hT c ⟨0, hn⟩ (Nat.zero_mod _), outA_24 m hO hT c ⟨0, hn⟩ (Nat.zero_mod _), outA_25 m hO hT c ⟨0, hn⟩ (Nat.zero_mod _))
  | n + 1, hn =>
    if h0 : (n + 1) % 5 = 0 then
      (outA_22 m hO hT c ⟨n + 1, hn⟩ h0, outA_23 m hO hT c ⟨n + 1, hn⟩ h0, outA_24 m hO hT c ⟨n + 1, hn⟩ h0, outA_25 m hO hT c ⟨n + 1, hn⟩ h0)
    else
      (outB_22 m hO hT c ⟨n + 1, hn⟩ h0 (outsAt0 hO hT c n (Nat.lt_of_succ_lt hn)).1 (outsAt0 hO hT c n (Nat.lt_of_succ_lt hn)).2.1 (outsAt0 hO hT c n (Nat.lt_of_succ_lt hn)).2.2.1 (outsAt0 hO hT c n (Nat.lt_of_succ_lt hn)).2.2.2, outB_23 m hO hT c ⟨n + 1, hn⟩ h0 (outsAt0 hO hT c n (Nat.lt_of_succ_lt hn)).1 (outsAt0 hO hT c n (Nat.lt_of_succ_lt hn)).2.1 (outsAt0 hO hT c n (Nat.lt_of_succ_lt hn)).2.2.1 (outsAt0 hO hT c n (Nat.lt_of_succ_lt hn)).2.2.2, outB_24 m hO hT c ⟨n + 1, hn⟩ h0 (outsAt0 hO hT c n (Nat.lt_of_succ_lt hn)).1 (outsAt0 hO hT c n (Nat.lt_of_succ_lt hn)).2.1 (outsAt0 hO hT c n (Nat.lt_of_succ_lt hn)).2.2.1 (outsAt0 hO hT c n (Nat.lt_of_succ_lt hn)).2.2.2, outB_25 m hO hT c ⟨n + 1, hn⟩ h0 (outsAt0 hO hT c n (Nat.lt_of_succ_lt hn)).1 (outsAt0 hO hT c n (Nat.lt_of_succ_lt hn)).2.1 (outsAt0 hO hT c n (Nat.lt_of_succ_lt hn)).2.2.1 (outsAt0 hO hT c n (Nat.lt_of_succ_lt hn)).2.2.2)

/-- `outsAt0` at a point of case A. -/
theorem outsAt0_A (hO : Ok m) (hT : ∀ c : Dev nD, TblOk c (tbl m 0) (tbl m 1)) (c : Dev nD) (t : Fin (cfgM m hO).N) (h0 : t.val % 5 = 0) :
    outsAt0 m hO hT c t.val t.isLt = (outA_22 m hO hT c t h0, outA_23 m hO hT c t h0, outA_24 m hO hT c t h0, outA_25 m hO hT c t h0) := by
  obtain ⟨n, hn⟩ := t
  cases n with
  | zero => exact rfl
  | succ n => exact (dif_pos h0).trans rfl

/-- `outsAt0` at a point of case B, over what the point before left. -/
theorem outsAt0_B (hO : Ok m) (hT : ∀ c : Dev nD, TblOk c (tbl m 0) (tbl m 1)) (c : Dev nD) (t : Fin (cfgM m hO).N) (h0 : ¬t.val % 5 = 0) :
    outsAt0 m hO hT c t.val t.isLt = (outB_22 m hO hT c t h0 (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2, outB_23 m hO hT c t h0 (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2, outB_24 m hO hT c t h0 (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2, outB_25 m hO hT c t h0 (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl
/-! ## The pipeline's proof data -/

/-- The proof data of the pipeline on core `c`: the arrays as the region finds them; after the body at a point each input's buffer at its block and the outputs' at `outsAt0`. -/
def dats (hO : Ok m) (hT : ∀ c : Dev nD, TblOk c (tbl m 0) (tbl m 1)) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => (outsAt0 m hO hT c t.val t.isLt).1
    | ⟨23, _⟩ => (outsAt0 m hO hT c t.val t.isLt).2.1
    | ⟨24, _⟩ => (outsAt0 m hO hT c t.val t.isLt).2.2.1
    | ⟨25, _⟩ => (outsAt0 m hO hT c t.val t.isLt).2.2.2
    | ⟨_ + 26, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the contents the region is entered with. -/
theorem A_eq (hO : Ok m) (hT : ∀ c : Dev nD, TblOk c (tbl m 0) (tbl m 1)) (c : Dev nD) (w : Fin (cfgM m hO).W) : (dats m hO hT 0 c).A w = V m c (Pipeline.arrRef spec0 w) := by
  dsimp only [dats]

/-- What the body leaves, window by window (the proof data's `match` reduced by `dsimp`). -/
theorem after0_0 (hO : Ok m) (hT : ∀ c : Dev nD, TblOk c (tbl m 0) (tbl m 1)) (c : Dev nD) (t : Fin (cfgM m hO).N) : (dats m hO hT 0 c).after 0 t = iblk m hO c 0 t := by dsimp only [dats]; try rfl
theorem after0_1 (hO : Ok m) (hT : ∀ c : Dev nD, TblOk c (tbl m 0) (tbl m 1)) (c : Dev nD) (t : Fin (cfgM m hO).N) : (dats m hO hT 0 c).after 1 t = iblk m hO c 1 t := by dsimp only [dats]; try rfl
theorem after0_2 (hO : Ok m) (hT : ∀ c : Dev nD, TblOk c (tbl m 0) (tbl m 1)) (c : Dev nD) (t : Fin (cfgM m hO).N) : (dats m hO hT 0 c).after 2 t = iblk m hO c 2 t := by dsimp only [dats]; try rfl
theorem after0_3 (hO : Ok m) (hT : ∀ c : Dev nD, TblOk c (tbl m 0) (tbl m 1)) (c : Dev nD) (t : Fin (cfgM m hO).N) : (dats m hO hT 0 c).after 3 t = iblk m hO c 3 t := by dsimp only [dats]; try rfl
theorem after0_4 (hO : Ok m) (hT : ∀ c : Dev nD, TblOk c (tbl m 0) (tbl m 1)) (c : Dev nD) (t : Fin (cfgM m hO).N) : (dats m hO hT 0 c).after 4 t = iblk m hO c 4 t := by dsimp only [dats]; try rfl
theorem after0_5 (hO : Ok m) (hT : ∀ c : Dev nD, TblOk c (tbl m 0) (tbl m 1)) (c : Dev nD) (t : Fin (cfgM m hO).N) : (dats m hO hT 0 c).after 5 t = iblk m hO c 5 t := by dsimp only [dats]; try rfl
theorem after0_6 (hO : Ok m) (hT : ∀ c : Dev nD, TblOk c (tbl m 0) (tbl m 1)) (c : Dev nD) (t : Fin (cfgM m hO).N) : (dats m hO hT 0 c).after 6 t = iblk m hO c 6 t := by dsimp only [dats]; try rfl
theorem after0_7 (hO : Ok m) (hT : ∀ c : Dev nD, TblOk c (tbl m 0) (tbl m 1)) (c : Dev nD) (t : Fin (cfgM m hO).N) : (dats m hO hT 0 c).after 7 t = iblk m hO c 7 t := by dsimp only [dats]; try rfl
theorem after0_8 (hO : Ok m) (hT : ∀ c : Dev nD, TblOk c (tbl m 0) (tbl m 1)) (c : Dev nD) (t : Fin (cfgM m hO).N) : (dats m hO hT 0 c).after 8 t = iblk m hO c 8 t := by dsimp only [dats]; try rfl
theorem after0_9 (hO : Ok m) (hT : ∀ c : Dev nD, TblOk c (tbl m 0) (tbl m 1)) (c : Dev nD) (t : Fin (cfgM m hO).N) : (dats m hO hT 0 c).after 9 t = iblk m hO c 9 t := by dsimp only [dats]; try rfl
theorem after0_10 (hO : Ok m) (hT : ∀ c : Dev nD, TblOk c (tbl m 0) (tbl m 1)) (c : Dev nD) (t : Fin (cfgM m hO).N) : (dats m hO hT 0 c).after 10 t = iblk m hO c 10 t := by dsimp only [dats]; try rfl
theorem after0_11 (hO : Ok m) (hT : ∀ c : Dev nD, TblOk c (tbl m 0) (tbl m 1)) (c : Dev nD) (t : Fin (cfgM m hO).N) : (dats m hO hT 0 c).after 11 t = iblk m hO c 11 t := by dsimp only [dats]; try rfl
theorem after0_12 (hO : Ok m) (hT : ∀ c : Dev nD, TblOk c (tbl m 0) (tbl m 1)) (c : Dev nD) (t : Fin (cfgM m hO).N) : (dats m hO hT 0 c).after 12 t = iblk m hO c 12 t := by dsimp only [dats]; try rfl
theorem after0_13 (hO : Ok m) (hT : ∀ c : Dev nD, TblOk c (tbl m 0) (tbl m 1)) (c : Dev nD) (t : Fin (cfgM m hO).N) : (dats m hO hT 0 c).after 13 t = iblk m hO c 13 t := by dsimp only [dats]; try rfl
theorem after0_14 (hO : Ok m) (hT : ∀ c : Dev nD, TblOk c (tbl m 0) (tbl m 1)) (c : Dev nD) (t : Fin (cfgM m hO).N) : (dats m hO hT 0 c).after 14 t = iblk m hO c 14 t := by dsimp only [dats]; try rfl
theorem after0_15 (hO : Ok m) (hT : ∀ c : Dev nD, TblOk c (tbl m 0) (tbl m 1)) (c : Dev nD) (t : Fin (cfgM m hO).N) : (dats m hO hT 0 c).after 15 t = iblk m hO c 15 t := by dsimp only [dats]; try rfl
theorem after0_16 (hO : Ok m) (hT : ∀ c : Dev nD, TblOk c (tbl m 0) (tbl m 1)) (c : Dev nD) (t : Fin (cfgM m hO).N) : (dats m hO hT 0 c).after 16 t = iblk m hO c 16 t := by dsimp only [dats]; try rfl
theorem after0_17 (hO : Ok m) (hT : ∀ c : Dev nD, TblOk c (tbl m 0) (tbl m 1)) (c : Dev nD) (t : Fin (cfgM m hO).N) : (dats m hO hT 0 c).after 17 t = iblk m hO c 17 t := by dsimp only [dats]; try rfl
theorem after0_18 (hO : Ok m) (hT : ∀ c : Dev nD, TblOk c (tbl m 0) (tbl m 1)) (c : Dev nD) (t : Fin (cfgM m hO).N) : (dats m hO hT 0 c).after 18 t = iblk m hO c 18 t := by dsimp only [dats]; try rfl
theorem after0_19 (hO : Ok m) (hT : ∀ c : Dev nD, TblOk c (tbl m 0) (tbl m 1)) (c : Dev nD) (t : Fin (cfgM m hO).N) : (dats m hO hT 0 c).after 19 t = iblk m hO c 19 t := by dsimp only [dats]; try rfl
theorem after0_20 (hO : Ok m) (hT : ∀ c : Dev nD, TblOk c (tbl m 0) (tbl m 1)) (c : Dev nD) (t : Fin (cfgM m hO).N) : (dats m hO hT 0 c).after 20 t = iblk m hO c 20 t := by dsimp only [dats]; try rfl
theorem after0_21 (hO : Ok m) (hT : ∀ c : Dev nD, TblOk c (tbl m 0) (tbl m 1)) (c : Dev nD) (t : Fin (cfgM m hO).N) : (dats m hO hT 0 c).after 21 t = iblk m hO c 21 t := by dsimp only [dats]; try rfl
theorem after0_22 (hO : Ok m) (hT : ∀ c : Dev nD, TblOk c (tbl m 0) (tbl m 1)) (c : Dev nD) (t : Fin (cfgM m hO).N) : (dats m hO hT 0 c).after 22 t = (outsAt0 m hO hT c t.val t.isLt).1 := by dsimp only [dats]; try rfl
theorem after0_23 (hO : Ok m) (hT : ∀ c : Dev nD, TblOk c (tbl m 0) (tbl m 1)) (c : Dev nD) (t : Fin (cfgM m hO).N) : (dats m hO hT 0 c).after 23 t = (outsAt0 m hO hT c t.val t.isLt).2.1 := by dsimp only [dats]; try rfl
theorem after0_24 (hO : Ok m) (hT : ∀ c : Dev nD, TblOk c (tbl m 0) (tbl m 1)) (c : Dev nD) (t : Fin (cfgM m hO).N) : (dats m hO hT 0 c).after 24 t = (outsAt0 m hO hT c t.val t.isLt).2.2.1 := by dsimp only [dats]; try rfl
theorem after0_25 (hO : Ok m) (hT : ∀ c : Dev nD, TblOk c (tbl m 0) (tbl m 1)) (c : Dev nD) (t : Fin (cfgM m hO).N) : (dats m hO hT 0 c).after 25 t = (outsAt0 m hO hT c t.val t.isLt).2.2.2 := by dsimp only [dats]; try rfl

/-- Each input's staging buffer holds its block at every point. -/
theorem before0_0 (hO : Ok m) (hT : ∀ c : Dev nD, TblOk c (tbl m 0) (tbl m 1)) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : ∀ c : Dev nD, TblOk c (tbl m 0) (tbl m 1)) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : ∀ c : Dev nD, TblOk c (tbl m 0) (tbl m 1)) (c : Dev nD) (t : Fin (cfgM m hO).N) (d) : (dats m hO hT 0 c).before 2 t d = iblk m hO c 2 t :=
  before0_2_of m hO (dats m hO hT 0 c) (A_eq m hO hT c 2) (after0_2 m hO hT c) t d
theorem before0_3 (hO : Ok m) (hT : ∀ c : Dev nD, TblOk c (tbl m 0) (tbl m 1)) (c : Dev nD) (t : Fin (cfgM m hO).N) (d) : (dats m hO hT 0 c).before 3 t d = iblk m hO c 3 t :=
  before0_3_of m hO (dats m hO hT 0 c) (A_eq m hO hT c 3) (after0_3 m hO hT c) t d
theorem before0_4 (hO : Ok m) (hT : ∀ c : Dev nD, TblOk c (tbl m 0) (tbl m 1)) (c : Dev nD) (t : Fin (cfgM m hO).N) (d) : (dats m hO hT 0 c).before 4 t d = iblk m hO c 4 t :=
  before0_4_of m hO (dats m hO hT 0 c) (A_eq m hO hT c 4) (after0_4 m hO hT c) t d
theorem before0_5 (hO : Ok m) (hT : ∀ c : Dev nD, TblOk c (tbl m 0) (tbl m 1)) (c : Dev nD) (t : Fin (cfgM m hO).N) (d) : (dats m hO hT 0 c).before 5 t d = iblk m hO c 5 t :=
  before0_5_of m hO (dats m hO hT 0 c) (A_eq m hO hT c 5) (after0_5 m hO hT c) t d
theorem before0_6 (hO : Ok m) (hT : ∀ c : Dev nD, TblOk c (tbl m 0) (tbl m 1)) (c : Dev nD) (t : Fin (cfgM m hO).N) (d) : (dats m hO hT 0 c).before 6 t d = iblk m hO c 6 t :=
  before0_6_of m hO (dats m hO hT 0 c) (A_eq m hO hT c 6) (after0_6 m hO hT c) t d
theorem before0_7 (hO : Ok m) (hT : ∀ c : Dev nD, TblOk c (tbl m 0) (tbl m 1)) (c : Dev nD) (t : Fin (cfgM m hO).N) (d) : (dats m hO hT 0 c).before 7 t d = iblk m hO c 7 t :=
  before0_7_of m hO (dats m hO hT 0 c) (A_eq m hO hT c 7) (after0_7 m hO hT c) t d
theorem before0_8 (hO : Ok m) (hT : ∀ c : Dev nD, TblOk c (tbl m 0) (tbl m 1)) (c : Dev nD) (t : Fin (cfgM m hO).N) (d) : (dats m hO hT 0 c).before 8 t d = iblk m hO c 8 t :=
  before0_8_of m hO (dats m hO hT 0 c) (A_eq m hO hT c 8) (after0_8 m hO hT c) t d
theorem before0_9 (hO : Ok m) (hT : ∀ c : Dev nD, TblOk c (tbl m 0) (tbl m 1)) (c : Dev nD) (t : Fin (cfgM m hO).N) (d) : (dats m hO hT 0 c).before 9 t d = iblk m hO c 9 t :=
  before0_9_of m hO (dats m hO hT 0 c) (A_eq m hO hT c 9) (after0_9 m hO hT c) t d
theorem before0_10 (hO : Ok m) (hT : ∀ c : Dev nD, TblOk c (tbl m 0) (tbl m 1)) (c : Dev nD) (t : Fin (cfgM m hO).N) (d) : (dats m hO hT 0 c).before 10 t d = iblk m hO c 10 t :=
  before0_10_of m hO (dats m hO hT 0 c) (A_eq m hO hT c 10) (after0_10 m hO hT c) t d
theorem before0_11 (hO : Ok m) (hT : ∀ c : Dev nD, TblOk c (tbl m 0) (tbl m 1)) (c : Dev nD) (t : Fin (cfgM m hO).N) (d) : (dats m hO hT 0 c).before 11 t d = iblk m hO c 11 t :=
  before0_11_of m hO (dats m hO hT 0 c) (A_eq m hO hT c 11) (after0_11 m hO hT c) t d
theorem before0_12 (hO : Ok m) (hT : ∀ c : Dev nD, TblOk c (tbl m 0) (tbl m 1)) (c : Dev nD) (t : Fin (cfgM m hO).N) (d) : (dats m hO hT 0 c).before 12 t d = iblk m hO c 12 t :=
  before0_12_of m hO (dats m hO hT 0 c) (A_eq m hO hT c 12) (after0_12 m hO hT c) t d
theorem before0_13 (hO : Ok m) (hT : ∀ c : Dev nD, TblOk c (tbl m 0) (tbl m 1)) (c : Dev nD) (t : Fin (cfgM m hO).N) (d) : (dats m hO hT 0 c).before 13 t d = iblk m hO c 13 t :=
  before0_13_of m hO (dats m hO hT 0 c) (A_eq m hO hT c 13) (after0_13 m hO hT c) t d
theorem before0_14 (hO : Ok m) (hT : ∀ c : Dev nD, TblOk c (tbl m 0) (tbl m 1)) (c : Dev nD) (t : Fin (cfgM m hO).N) (d) : (dats m hO hT 0 c).before 14 t d = iblk m hO c 14 t :=
  before0_14_of m hO (dats m hO hT 0 c) (A_eq m hO hT c 14) (after0_14 m hO hT c) t d
theorem before0_15 (hO : Ok m) (hT : ∀ c : Dev nD, TblOk c (tbl m 0) (tbl m 1)) (c : Dev nD) (t : Fin (cfgM m hO).N) (d) : (dats m hO hT 0 c).before 15 t d = iblk m hO c 15 t :=
  before0_15_of m hO (dats m hO hT 0 c) (A_eq m hO hT c 15) (after0_15 m hO hT c) t d
theorem before0_16 (hO : Ok m) (hT : ∀ c : Dev nD, TblOk c (tbl m 0) (tbl m 1)) (c : Dev nD) (t : Fin (cfgM m hO).N) (d) : (dats m hO hT 0 c).before 16 t d = iblk m hO c 16 t :=
  before0_16_of m hO (dats m hO hT 0 c) (A_eq m hO hT c 16) (after0_16 m hO hT c) t d
theorem before0_17 (hO : Ok m) (hT : ∀ c : Dev nD, TblOk c (tbl m 0) (tbl m 1)) (c : Dev nD) (t : Fin (cfgM m hO).N) (d) : (dats m hO hT 0 c).before 17 t d = iblk m hO c 17 t :=
  before0_17_of m hO (dats m hO hT 0 c) (A_eq m hO hT c 17) (after0_17 m hO hT c) t d
theorem before0_18 (hO : Ok m) (hT : ∀ c : Dev nD, TblOk c (tbl m 0) (tbl m 1)) (c : Dev nD) (t : Fin (cfgM m hO).N) (d) : (dats m hO hT 0 c).before 18 t d = iblk m hO c 18 t :=
  before0_18_of m hO (dats m hO hT 0 c) (A_eq m hO hT c 18) (after0_18 m hO hT c) t d
theorem before0_19 (hO : Ok m) (hT : ∀ c : Dev nD, TblOk c (tbl m 0) (tbl m 1)) (c : Dev nD) (t : Fin (cfgM m hO).N) (d) : (dats m hO hT 0 c).before 19 t d = iblk m hO c 19 t :=
  before0_19_of m hO (dats m hO hT 0 c) (A_eq m hO hT c 19) (after0_19 m hO hT c) t d
theorem before0_20 (hO : Ok m) (hT : ∀ c : Dev nD, TblOk c (tbl m 0) (tbl m 1)) (c : Dev nD) (t : Fin (cfgM m hO).N) (d) : (dats m hO hT 0 c).before 20 t d = iblk m hO c 20 t :=
  before0_20_of m hO (dats m hO hT 0 c) (A_eq m hO hT c 20) (after0_20 m hO hT c) t d
theorem before0_21 (hO : Ok m) (hT : ∀ c : Dev nD, TblOk c (tbl m 0) (tbl m 1)) (c : Dev nD) (t : Fin (cfgM m hO).N) (d) : (dats m hO hT 0 c).before 21 t d = iblk m hO c 21 t :=
  before0_21_of m hO (dats m hO hT 0 c) (A_eq m hO hT c 21) (after0_21 m hO hT c) t d
/-- At a point of case B output 22's staging buffer holds what the body left at the point before. -/
theorem before0_22_B (hO : Ok m) (hT : ∀ c : Dev nD, TblOk c (tbl m 0) (tbl m 1)) (c : Dev nD) (t : Fin (cfgM m hO).N) (h0 : ¬t.val % 5 = 0) (d) :
    (dats m hO hT 0 c).before 22 t d = (outsAt0 m hO hT c (t.val - 1) (Nat.lt_of_le_of_lt (Nat.sub_le _ _) t.isLt)).1 := by
  have hN : t.val < 5 := lt_of_lt_of_eq t.isLt (show (cfgM m hO).N = 5 from N_0)
  rw [Dat.before_out_kept _ 22 rfl t (by omega) (Bool.eq_false_iff.mpr fun h => by have := (flush0_22 (adm m hO) _).mp h; dsimp only at this; omega)
    (fun _ => rfl) (fun _ _ => rfl)]
  dsimp only [dats]
  try rfl
/-- At a point of case B output 23's staging buffer holds what the body left at the point before. -/
theorem before0_23_B (hO : Ok m) (hT : ∀ c : Dev nD, TblOk c (tbl m 0) (tbl m 1)) (c : Dev nD) (t : Fin (cfgM m hO).N) (h0 : ¬t.val % 5 = 0) (d) :
    (dats m hO hT 0 c).before 23 t d = (outsAt0 m hO hT c (t.val - 1) (Nat.lt_of_le_of_lt (Nat.sub_le _ _) t.isLt)).2.1 := by
  have hN : t.val < 5 := lt_of_lt_of_eq t.isLt (show (cfgM m hO).N = 5 from N_0)
  rw [Dat.before_out_kept _ 23 rfl t (by omega) (Bool.eq_false_iff.mpr fun h => by have := (flush0_23 (adm m hO) _).mp h; dsimp only at this; omega)
    (fun _ => rfl) (fun _ _ => rfl)]
  dsimp only [dats]
  try rfl
/-- At a point of case B output 24's staging buffer holds what the body left at the point before. -/
theorem before0_24_B (hO : Ok m) (hT : ∀ c : Dev nD, TblOk c (tbl m 0) (tbl m 1)) (c : Dev nD) (t : Fin (cfgM m hO).N) (h0 : ¬t.val % 5 = 0) (d) :
    (dats m hO hT 0 c).before 24 t d = (outsAt0 m hO hT c (t.val - 1) (Nat.lt_of_le_of_lt (Nat.sub_le _ _) t.isLt)).2.2.1 := by
  have hN : t.val < 5 := lt_of_lt_of_eq t.isLt (show (cfgM m hO).N = 5 from N_0)
  rw [Dat.before_out_kept _ 24 rfl t (by omega) (Bool.eq_false_iff.mpr fun h => by have := (flush0_24 (adm m hO) _).mp h; dsimp only at this; omega)
    (fun _ => rfl) (fun _ _ => rfl)]
  dsimp only [dats]
  try rfl
/-- At a point of case B output 25's staging buffer holds what the body left at the point before. -/
theorem before0_25_B (hO : Ok m) (hT : ∀ c : Dev nD, TblOk c (tbl m 0) (tbl m 1)) (c : Dev nD) (t : Fin (cfgM m hO).N) (h0 : ¬t.val % 5 = 0) (d) :
    (dats m hO hT 0 c).before 25 t d = (outsAt0 m hO hT c (t.val - 1) (Nat.lt_of_le_of_lt (Nat.sub_le _ _) t.isLt)).2.2.2 := by
  have hN : t.val < 5 := lt_of_lt_of_eq t.isLt (show (cfgM m hO).N = 5 from N_0)
  rw [Dat.before_out_kept _ 25 rfl t (by omega) (Bool.eq_false_iff.mpr fun h => by have := (flush0_25 (adm m hO) _).mp h; dsimp only at this; omega)
    (fun _ => rfl) (fun _ _ => rfl)]
  dsimp only [dats]
  try rfl

/-! ## The body obligation, at a generic point -/

/-- What the body is called with at point `t`. -/
def bodyPre (hO : Ok m) (hT : ∀ c : Dev nD, TblOk c (tbl m 0) (tbl m 1)) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d))
    ∗ (∃ d, owns (c : Thread nD τ) (ms0_4 m hO t) fullShare ((dats m hO hT 0 c).before 4 t d))
    ∗ (∃ d, owns (c : Thread nD τ) (ms0_5 m hO t) fullShare ((dats m hO hT 0 c).before 5 t d))
    ∗ (∃ d, owns (c : Thread nD τ) (ms0_6 m hO t) fullShare ((dats m hO hT 0 c).before 6 t d))
    ∗ (∃ d, owns (c : Thread nD τ) (ms0_7 m hO t) fullShare ((dats m hO hT 0 c).before 7 t d))
    ∗ (∃ d, owns (c : Thread nD τ) (ms0_8 m hO t) fullShare ((dats m hO hT 0 c).before 8 t d))
    ∗ (∃ d, owns (c : Thread nD τ) (ms0_9 m hO t) fullShare ((dats m hO hT 0 c).before 9 t d))
    ∗ (∃ d, owns (c : Thread nD τ) (ms0_10 m hO t) fullShare ((dats m hO hT 0 c).before 10 t d))
    ∗ (∃ d, owns (c : Thread nD τ) (ms0_11 m hO t) fullShare ((dats m hO hT 0 c).before 11 t d))
    ∗ (∃ d, owns (c : Thread nD τ) (ms0_12 m hO t) fullShare ((dats m hO hT 0 c).before 12 t d))
    ∗ (∃ d, owns (c : Thread nD τ) (ms0_13 m hO t) fullShare ((dats m hO hT 0 c).before 13 t d))
    ∗ (∃ d, owns (c : Thread nD τ) (ms0_14 m hO t) fullShare ((dats m hO hT 0 c).before 14 t d))
    ∗ (∃ d, owns (c : Thread nD τ) (ms0_15 m hO t) fullShare ((dats m hO hT 0 c).before 15 t d))
    ∗ (∃ d, owns (c : Thread nD τ) (ms0_16 m hO t) fullShare ((dats m hO hT 0 c).before 16 t d))
    ∗ (∃ d, owns (c : Thread nD τ) (ms0_17 m hO t) fullShare ((dats m hO hT 0 c).before 17 t d))
    ∗ (∃ d, owns (c : Thread nD τ) (ms0_18 m hO t) fullShare ((dats m hO hT 0 c).before 18 t d))
    ∗ (∃ d, owns (c : Thread nD τ) (ms0_19 m hO t) fullShare ((dats m hO hT 0 c).before 19 t d))
    ∗ (∃ d, owns (c : Thread nD τ) (ms0_20 m hO t) fullShare ((dats m hO hT 0 c).before 20 t d))
    ∗ (∃ d, owns (c : Thread nD τ) (ms0_21 m hO t) fullShare ((dats m hO hT 0 c).before 21 t d))
    ∗ (∃ d, owns (c : Thread nD τ) (ms0_22 m hO t) fullShare ((dats m hO hT 0 c).before 22 t d))
    ∗ (∃ d, owns (c : Thread nD τ) (ms0_23 m hO t) fullShare ((dats m hO hT 0 c).before 23 t d))
    ∗ (∃ d, owns (c : Thread nD τ) (ms0_24 m hO t) fullShare ((dats m hO hT 0 c).before 24 t d))
    ∗ (∃ d, owns (c : Thread nD τ) (ms0_25 m hO t) fullShare ((dats m hO hT 0 c).before 25 t d)))

/-- and what it returns. -/
def bodyPost (hO : Ok m) (hT : ∀ c : Dev nD, TblOk c (tbl m 0) (tbl m 1)) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t)
    ∗ owns (c : Thread nD τ) (ms0_4 m hO t) fullShare ((dats m hO hT 0 c).after 4 t)
    ∗ owns (c : Thread nD τ) (ms0_5 m hO t) fullShare ((dats m hO hT 0 c).after 5 t)
    ∗ owns (c : Thread nD τ) (ms0_6 m hO t) fullShare ((dats m hO hT 0 c).after 6 t)
    ∗ owns (c : Thread nD τ) (ms0_7 m hO t) fullShare ((dats m hO hT 0 c).after 7 t)
    ∗ owns (c : Thread nD τ) (ms0_8 m hO t) fullShare ((dats m hO hT 0 c).after 8 t)
    ∗ owns (c : Thread nD τ) (ms0_9 m hO t) fullShare ((dats m hO hT 0 c).after 9 t)
    ∗ owns (c : Thread nD τ) (ms0_10 m hO t) fullShare ((dats m hO hT 0 c).after 10 t)
    ∗ owns (c : Thread nD τ) (ms0_11 m hO t) fullShare ((dats m hO hT 0 c).after 11 t)
    ∗ owns (c : Thread nD τ) (ms0_12 m hO t) fullShare ((dats m hO hT 0 c).after 12 t)
    ∗ owns (c : Thread nD τ) (ms0_13 m hO t) fullShare ((dats m hO hT 0 c).after 13 t)
    ∗ owns (c : Thread nD τ) (ms0_14 m hO t) fullShare ((dats m hO hT 0 c).after 14 t)
    ∗ owns (c : Thread nD τ) (ms0_15 m hO t) fullShare ((dats m hO hT 0 c).after 15 t)
    ∗ owns (c : Thread nD τ) (ms0_16 m hO t) fullShare ((dats m hO hT 0 c).after 16 t)
    ∗ owns (c : Thread nD τ) (ms0_17 m hO t) fullShare ((dats m hO hT 0 c).after 17 t)
    ∗ owns (c : Thread nD τ) (ms0_18 m hO t) fullShare ((dats m hO hT 0 c).after 18 t)
    ∗ owns (c : Thread nD τ) (ms0_19 m hO t) fullShare ((dats m hO hT 0 c).after 19 t)
    ∗ owns (c : Thread nD τ) (ms0_20 m hO t) fullShare ((dats m hO hT 0 c).after 20 t)
    ∗ owns (c : Thread nD τ) (ms0_21 m hO t) fullShare ((dats m hO hT 0 c).after 21 t)
    ∗ owns (c : Thread nD τ) (ms0_22 m hO t) fullShare ((dats m hO hT 0 c).after 22 t)
    ∗ owns (c : Thread nD τ) (ms0_23 m hO t) fullShare ((dats m hO hT 0 c).after 23 t)
    ∗ owns (c : Thread nD τ) (ms0_24 m hO t) fullShare ((dats m hO hT 0 c).after 24 t)
    ∗ owns (c : Thread nD τ) (ms0_25 m hO t) fullShare ((dats m hO hT 0 c).after 25 t))

set_option maxHeartbeats 4800000 in
/-- The body at any point: the case the point is in applies, over the blocks staged there. -/
theorem sound_body (hO : Ok m) (hT : ∀ c : Dev nD, TblOk c (tbl m 0) (tbl m 1)) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m hO hT 0 c).Φ t.succ = (dats m hO hT 0 c).Φ t.castSucc from rfl,
    show (dats m hO hT 0 c).owesAt () t.succ = (dats m hO hT 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m hO hT 0 c).Φ t.castSucc = iprop(Pipeline.ΦA spec0 c ∗ Pipeline.ΦT pre0 (tbl m) c) from rfl, PhiT0_eq]
  have hN : t.val < 5 := lt_of_lt_of_eq t.isLt (show (cfgM m hO).N = 5 from N_0)
  by_cases h0 : t.val % 5 = 0
  · rw [outsAt0_A m hO hT c t h0]
    unfold outA_22 outA_23 outA_24 outA_25; (try dsimp only)
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runA m hO hT c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [H23]; · iexists _; iexact H23
    isplitl [H24]; · iexists _; iexact H24
    isplitl [H25]; · iexists _; iexact H25
    isplitl [HT0]; · iexact HT0
    isplitl [HT1]; · iexact HT1
    isplitl [HT2]; · iexact HT2
    iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]
    · unfold owns; iexists _; isplitr
      swap; · iexact H22
      ipureintro; exact View.read_writes_of_cover _ _ _ _ _ (coverA_22 m hO hT c t h0)
    isplitl [H23]
    · unfold owns; iexists _; isplitr
      swap; · iexact H23
      ipureintro; exact View.read_writes_of_cover _ _ _ _ _ (coverA_23 m hO hT c t h0)
    isplitl [H24]
    · unfold owns; iexists _; isplitr
      swap; · iexact H24
      ipureintro; exact View.read_writes_of_cover _ _ _ _ _ (coverA_24 m hO hT c t h0)
    unfold owns; iexists _; isplitr
    swap; · iexact H25
    ipureintro; exact View.read_writes_of_cover _ _ _ _ _ (coverA_25 m hO hT c t h0)
  · rw [outsAt0_B m hO hT c t h0]
    simp only [before0_22_B m hO hT c t h0, before0_23_B m hO hT c t h0, before0_24_B m hO hT c t h0, before0_25_B m hO hT c t h0]
    unfold outB_22 outB_23 outB_24 outB_25; (try dsimp only)
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runB m hO hT c t h0 _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [HT0]; · iexact HT0
    isplitl [HT1]; · iexact HT1
    isplitl [HT2]; · iexact HT2
    iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]
    · unfold owns; iexists _; isplitr
      swap; · iexact H22
      ipureintro; exact View.read_writes_of_cover _ _ _ _ _ (coverB_22 m hO hT c t h0 _ _ _ _)
    isplitl [H23]
    · unfold owns; iexists _; isplitr
      swap; · iexact H23
      ipureintro; exact View.read_writes_of_cover _ _ _ _ _ (coverB_23 m hO hT c t h0 _ _ _ _)
    isplitl [H24]
    · unfold owns; iexists _; isplitr
      swap; · iexact H24
      ipureintro; exact View.read_writes_of_cover _ _ _ _ _ (coverB_24 m hO hT c t h0 _ _ _ _)
    unfold owns; iexists _; isplitr
    swap; · iexact H25
    ipureintro; exact View.read_writes_of_cover _ _ _ _ _ (coverB_25 m hO hT c t h0 _ _ _ _)

/-- The body table's row at the slots of point `t` is the body there. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 3200000 in
/-- The body's obligation at every point. -/
theorem body_obligation (hO : Ok m) (hT : ∀ c : Dev nD, TblOk c (tbl m 0) (tbl m 1)) (c : Dev nD) : BodyObligation (dats (F := F) m hO hT 0 c) (defs₀ (F := F)) Variants.none () Set.univ := fun t => by
  rw [bigSep_W0, bigSep_W0, defs₀_row m hO]
  exact triple_restated (sound_body m hO hT c t) rfl .rfl fun _ => .rfl

/-! ## The run and the frame -/

set_option backward.isDefEq.respectTransparency.types false in
set_option maxHeartbeats 800000 in
/-- `run_main`, and every semaphore counter at zero at the end. -/
theorem run_main_quiescent (hO : Ok m) (hT : ∀ c : Dev nD, TblOk c (tbl m 0) (tbl m 1)) : θ_run defs (onTc (τ := τ) (main (F := F))) (s₀ m ρ) (fun r => (Pipeline.FramePost (Pipeline.pin pcfgs fun _ => adm m hO) (dats m hO hT) 0 (Pipeline.afterTail pcfgs (fun _ => adm m hO) (dats m hO hT) 0 (V0 m) [hostOps1])) r ∧ r.2.sem = fun _ => 0) :=
  Pipeline.θ_run_frameP_around_shared (Q' := _) pcfgs (fun _ => adm m hO) (dats m hO hT) (0 : Fin 1) launch₀0 defs₀ Variants.none m ρ main
    (hbody := fun c => (body_obligation m hO hT c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO hT) (hpf := V_pre m) (hΦ := fun _ _ => rfl)

/-- Every run ends with the arrays of the pipeline at what the proof data says and the other buffers as the lines after the region leave them. -/
theorem run_main (hO : Ok m) (hT : ∀ c : Dev nD, TblOk c (tbl m 0) (tbl m 1)) : θ_run defs (onTc (τ := τ) (main (F := F))) (s₀ m ρ) (Pipeline.FramePost (Pipeline.pin pcfgs fun _ => adm m hO) (dats m hO hT) 0 (Pipeline.afterTail pcfgs (fun _ => adm m hO) (dats m hO hT) 0 (V0 m) [hostOps1])) :=
  (θ_run defs _ _).mono (fun _ h => h.1) (run_main_quiescent m ρ hO hT)

/-- `frame` without the counters: the argument arrays end unchanged. -/
theorem unchanged (hO : Ok m) (hT : ∀ c : Dev nD, TblOk c (tbl m 0) (tbl m 1)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO hT) (A_eq m hO hT) (run_main m ρ hO hT)

/-- Every run ends, with the arguments unchanged and every semaphore counter at zero, whenever the tables are in range. -/
theorem frame (hO : Ok m) (hT : ∀ c : Dev nD, TblOk c (tbl m 0) (tbl m 1)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hT) ((θ_run defs _ _).mono (fun _ h => h.2) (run_main_quiescent m ρ hO hT))

end Cert.KernelIdeal.Gen

end
-- ==== Proof.Ideal.Tables.lean ====
/- What the three prefetched tables hold, and that their words are in range: the rows of the matched queries, the matched
   targets, and the labels. -/
module

public import proofs.«01_k».proof.Proof.Ideal.Checks
public import proofs.«01_k».proof.Proof.Matched
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic Idealize.ShloMosaic.Pipeline

variable {F : FTy → Type} [FloatOps F]
variable (m : (ℓ : Loc nD τ sig) → Buf (Elt F) ℓ)

/-- The launched labels, matched queries and matched targets of a device meet the precondition. -/
abbrev IntsAt (c : Dev nD) : Prop :=
  Cert.Matched.Ints (m ((c : Thread nD τ).loc main_arg4)) (m ((c : Thread nD τ).loc main_arg5)) (m ((c : Thread nD τ).loc main_arg6))

/-- The image of the `k`-th match. -/
abbrev img (k : Fin 80) : Fin 8 := ⟨k.val / 10, by omega⟩
/-- The place of the `k`-th match within its image. -/
abbrev slot (k : Fin 80) : Fin 10 := ⟨k.val % 10, by omega⟩

set_option maxHeartbeats 1600000 in
/-- The first table at `k`: 100 times the image plus the matched query. -/
theorem V_rows (c : Dev nD) (k : Fin 80) : V m c main_v6 (ix1 k) =
    IntOp.addi (IntOp.muli (BitVec.ofNat 32 (k.val / 10)) 100#32)
      (m ((c : Thread nD τ).loc main_arg5) (ix2 (img k) (slot k))) := by
  unfold V
  after_reads_at

set_option maxHeartbeats 1600000 in
/-- The second table at `k`: 10 times the image plus the matched target. -/
theorem V_targets (c : Dev nD) (k : Fin 80) : V m c main_v10 (ix1 k) =
    IntOp.addi (IntOp.muli (BitVec.ofNat 32 (k.val / 10)) 10#32)
      (m ((c : Thread nD τ).loc main_arg6) (ix2 (img k) (slot k))) := by
  unfold V
  after_reads_at

set_option maxHeartbeats 1600000 in
/-- The third table at `k`: the label of the `k`-th target. -/
theorem V_labels (c : Dev nD) (k : Fin 80) : V m c main_v11 (ix1 k) =
    m ((c : Thread nD τ).loc main_arg4) (ix2 (img k) (slot k)) := by
  unfold V
  after_reads_at

/-- As natural numbers, the first table's words. -/
theorem rows_toNat (c : Dev nD) (h : IntsAt m c) (k : Fin 80) : BitVec.toNat (w := 32) (V m c main_v6 (ix1 k)) =
    100 * (k.val / 10) + (show BitVec 32 from m ((c : Thread nD τ).loc main_arg5) (ix2 (img k) (slot k))).toNat := by
  have hq := h.query_lt (img k) (slot k)
  rw [V_rows]
  generalize m ((c : Thread nD τ).loc main_arg5) (ix2 (img k) (slot k)) = q at hq ⊢
  change BitVec 32 at q
  change BitVec.toNat q < 100 at hq
  show (BitVec.ofNat 32 (k.val / 10) * 100#32 + q).toNat = 100 * (k.val / 10) + q.toNat
  simp only [BitVec.toNat_add, BitVec.toNat_mul, BitVec.toNat_ofNat]
  omega

/-- As natural numbers, the second table's words: the `k`-th target is the `k`-th. -/
theorem targets_toNat (c : Dev nD) (h : IntsAt m c) (k : Fin 80) : BitVec.toNat (w := 32) (V m c main_v10 (ix1 k)) = k.val := by
  have hq := h.target_eq (img k) (slot k)
  rw [V_targets, hq]
  show (BitVec.ofNat 32 (k.val / 10) * 10#32 + BitVec.ofNat 32 (k.val % 10)).toNat = k.val
  simp only [BitVec.toNat_add, BitVec.toNat_mul, BitVec.toNat_ofNat]
  omega

/-- Every word of the first table is below 800. -/
theorem rows_lt (c : Dev nD) (h : IntsAt m c) (i : S80.Idx) : BitVec.toNat (w := 32) (V m c main_v6 i) < 800 := by
  obtain ⟨k, rfl⟩ : ∃ k, i = ix1 k := ⟨i 0, eq_ix1 i⟩
  rw [rows_toNat m c h]
  have := h.query_lt (img k) (slot k)
  have hk := k.isLt
  generalize m ((c : Thread nD τ).loc main_arg5) (ix2 (img k) (slot k)) = q at this ⊢
  change BitVec 32 at q
  change BitVec.toNat q < 100 at this
  show 100 * (k.val / 10) + q.toNat < 800
  omega

/-- Every word of the second table is below 80. -/
theorem targets_lt (c : Dev nD) (h : IntsAt m c) (i : S80.Idx) : BitVec.toNat (w := 32) (V m c main_v10 i) < 80 := by
  obtain ⟨k, rfl⟩ : ∃ k, i = ix1 k := ⟨i 0, eq_ix1 i⟩
  rw [targets_toNat m c h]; exact k.isLt

/-- A block of one mask whose number is below 800 lies inside the masks. -/
theorem block_in (f : Fin 3 → Nat) (w : BitVec 32) (hf : f = ![w.toNat, (0#32).toNat, (0#32).toNat]) (h : w.toNat < 800) (a : Fin 3) :
    (f a + 1) * S1x128x128.size a ≤ S800x128x128.size a := by
  subst hf
  fin_cases a <;> simp <;> omega

/-- Every mask block the pipeline stages lies inside the masks. -/
theorem ok_of (h : IntsAt m (0 : Dev nD)) : Ok m := by
  have hw : ∀ i : S80.Idx, BitVec.toNat (w := 32) (tbl m 0 i) < 800 := rows_lt m 0 h
  refine ⟨fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩,
    fun i => ⟨block_in _ _ rfl (hw _), Or.inl rfl⟩⟩

/-- The words the body reads of the first two tables are in range. -/
theorem tblOk_of (h : IntsAt m (0 : Dev nD)) (c : Dev nD) : TblOk c (tbl m 0) (tbl m 1) where
  w0 r x := rows_lt m 0 h (r.idx x)
  w1 r x := targets_lt m 0 h (r.idx x)

end Cert.KernelIdeal.Gen

end
-- ==== Proof.Ref.Frame.lean ====
/- The reference runs to its end on every input and leaves its arguments unchanged. -/
module

public import proofs.«01_k».proof.Defs
public import proofs.«01_k».proof.Proof.Gen.ReferenceIdeal
public import Idealize.ShloMosaic.Lib.Claim
public import Idealize.ShloMosaic.Lib.Quiescent
public import Idealize.ShloMosaic.Lib.Tactic
public import Idealize.ShloMosaic.Lib.StableHlo.RunHlo

@[expose] public section

set_option maxRecDepth 16384

noncomputable section

namespace Cert.Ref

open Idealize.ShloMosaic Idealize.ShloMosaic.TcCoe Idealize.ShloMosaic.Tactic
open Cert.ReferenceIdeal Cert.ReferenceIdeal.Gen

set_option maxHeartbeats 4000000 in
/-- The idealized reference's run ends, with the arguments unchanged and every semaphore counter at zero. -/
theorem frame_r : Cert.quiescent_ReferenceIdeal := by
  intro m g _
  hlo_run
  · intro c; simp only [and_self]
  · refine sem_eq_zero_of_no_sems ?_ _
    decide

end Cert.Ref

end
-- ==== Proof.Value.Loss.lean ====
/- The four losses' parts, one match at a time, on the extended reals: what both programs compute. -/
module

public import proofs.«01_k».proof.Proof.Gen.ReferenceIdeal
public import Idealize.ShloMosaic.Lib.Tactic
public import Idealize.ShloMosaic.Lib.Claim
public import Idealize.ShloMosaic.Lib.Pointwise
public import Idealize.ShloMosaic.PureOps.Ideal

@[expose] public section

set_option maxRecDepth 16384

noncomputable section

namespace Cert.Loss

open Idealize.ShloMosaic

/-- The sum over a mask's rows and columns. -/
def total (f : Fin 128 → Fin 128 → EReal) : EReal := ∑ i, ∑ j, f i j

/-- The cross entropy of a logit and a target. -/
def bce (x t : EReal) : EReal := max x 0 - x * t + Ideal.log1p (Ideal.exp (-max x (-x)))

/-- The logistic function. -/
def sgm (x : EReal) : EReal := Ideal.div 1 (1 + Ideal.exp (-x))

/-- One where a statement holds, zero elsewhere. -/
def ind (b : Bool) : EReal := if b then 1 else 0

/-- The ratio of intersection to union of a probability mask and a target. -/
def iou (s t : Fin 128 → Fin 128 → EReal) : EReal :=
  Ideal.div (total fun i j => ind (decide (Ideal.ofBits FTy.f32 0x3ECCCCCD#32 ≤ s i j)) * ind (decide (Ideal.ofBits FTy.f32 0x3F000000#32 < t i j)))
    ((total fun i j => ind (decide (Ideal.ofBits FTy.f32 0x3ECCCCCD#32 ≤ s i j)))
      + (total fun i j => ind (decide (Ideal.ofBits FTy.f32 0x3F000000#32 < t i j)))
      - (total fun i j => ind (decide (Ideal.ofBits FTy.f32 0x3ECCCCCD#32 ≤ s i j)) * ind (decide (Ideal.ofBits FTy.f32 0x3F000000#32 < t i j)))
      + Ideal.ofBits FTy.f32 0x358637BD#32)

/-- The dice loss of a probability mask and a target. -/
def dice (s t : Fin 128 → Fin 128 → EReal) : EReal :=
  1 - Ideal.div (Ideal.ofBits FTy.f32 0x40000000#32 * total fun i j => s i j * t i j)
    ((total fun i j => s i j * s i j) + (total fun i j => t i j * t i j) + Ideal.ofBits FTy.f32 0x38D1B717#32)

/-- A one-bit word widened and read as a signed integer is the indicator. -/
theorem sitofp_ind (b : Bool) : FloatOps.sitofp (F := Ideal) FTy.f32 (BitVec.setWidth 32 (BitVec.ofBool b)) = ind b := by
  cases b <;> simp [FloatOps.sitofp, ind]

/-- A one-bit word read as an unsigned integer is the indicator. -/
theorem uitofp_ind (b : Bool) : FloatOps.uitofp (F := Ideal) FTy.f32 (BitVec.ofBool b) = ind b := by
  cases b <;> simp [FloatOps.uitofp, ind]

/-- The logistic function by the exponential of minus the absolute value. -/
theorem sgm_split (x : EReal) :
    (if 0 ≤ x then Ideal.div 1 (1 + Ideal.exp (-max x (-x)))
      else Ideal.exp (-max x (-x)) * Ideal.div 1 (1 + Ideal.exp (-max x (-x)))) = sgm x := by
  unfold sgm
  induction x using EReal.rec with
  | bot =>
    have hb : Ideal.exp ⊥ = 0 := rfl
    have ht : Ideal.exp ⊤ = ⊤ := rfl
    have h1 : (1 : EReal) + ⊤ = ⊤ := EReal.add_top_of_ne_bot (by decide)
    simp [hb, ht, h1, Ideal.div]
  | top =>
    have hb : Ideal.exp ⊥ = 0 := rfl
    have ht : Ideal.exp ⊤ = ⊤ := rfl
    simp [hb, ht, Ideal.div]
  | coe x =>
    have hp : ∀ y : ℝ, (0:ℝ) < 1 + Real.exp y := fun y => by positivity
    have hd : ∀ a y : ℝ, Ideal.div (a : EReal) (((1 : ℝ) : EReal) + Ideal.exp (y : EReal)) = ((a / (1 + Real.exp y) : ℝ) : EReal) := by
      intro a y
      show Ideal.div (a : EReal) ((1 : ℝ) + ((Real.exp y : ℝ) : EReal)) = _
      rw [← EReal.coe_add, Ideal.div_coe (hp y).ne', ← EReal.coe_mul, mul_one_div]
    rw [← EReal.coe_neg, ← EReal.coe_one]
    by_cases h : (0 : ℝ) ≤ x
    · have hm : max (x : EReal) ((-x : ℝ) : EReal) = (x : EReal) := max_eq_left (EReal.coe_le_coe_iff.2 (by linarith))
      rw [if_pos (EReal.coe_nonneg.2 h), hm, ← EReal.coe_neg]
    · have hm : max (x : EReal) ((-x : ℝ) : EReal) = ((-x : ℝ) : EReal) := max_eq_right (EReal.coe_le_coe_iff.2 (by linarith))
      rw [if_neg (fun h' => h (EReal.coe_nonneg.1 h')), hm, ← EReal.coe_neg, neg_neg, hd, hd]
      show ((Real.exp x : ℝ) : EReal) * _ = _
      rw [← EReal.coe_mul]
      congr 1
      rw [Real.exp_neg]
      have := Real.exp_pos x
      field_simp
      try ring

end Cert.Loss

end
-- ==== Proof.Value.Pay.lean ====
/- What a point of the kernel adds to its four sums, as functions of the blocks it reads, on the extended reals. -/
module

public import proofs.«01_k».proof.Proof.Gen.KernelIdeal
public import proofs.«01_k».proof.Proof.Gen.KernelIdeal.Skeleton
public import proofs.«01_k».proof.Proof.Value.Loss
public import Idealize.ShloMosaic.Lib.Tactic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Point

open Idealize.ShloMosaic
open Cert.KernelIdeal Cert.KernelIdeal.Gen

/-- The sixteen resized targets of a point, one below the other. -/
def tgts (x3 : Vec Ideal S1x8192x512 .f32) (x20 : Vec Ideal S512x128 .bf16) (x21 : Vec Ideal S128x512 .bf16) : FVec Ideal S2048x128 .f32 :=
  k0_pay16 (k0_pay5 x3 x20) (k0_pay6 x3 x20 x21) (k0_pay7 (k0_pay5 x3 x20) x21) (k0_pay8 (k0_pay5 x3 x20) x21) (k0_pay9 (k0_pay5 x3 x20) x21) (k0_pay10 (k0_pay5 x3 x20) x21) (k0_pay11 (k0_pay5 x3 x20) x21) (k0_pay12 (k0_pay5 x3 x20) x21) (k0_pay13 (k0_pay5 x3 x20) x21) (k0_pay14 (k0_pay5 x3 x20) x21) (k0_pay15 x21) x21 x21 x21 x21 x21 x21

/-- The sixteen masks of a point, one below the other. -/
def msks (x4 x5 x6 x7 x8 x9 x10 x11 x12 x13 x14 x15 x16 x17 x18 x19 : Vec Ideal S1x128x128 .f32) : FVec Ideal S2048x128 .f32 :=
  k0_pay31 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19

/-- The summed cross entropies of a point. -/
def bceSum (x0 : Vec Ideal S1x160x80 .f32) (T : FVec Ideal S2048x128 .f32) (x4 x5 x6 x7 x8 x9 x10 x11 x12 x13 x14 x15 x16 x17 x18 x19 : Vec Ideal S1x128x128 .f32) : EReal :=
  k0_pay44 (k0_pay4 x0) (k0_pay34 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay37 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay38 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay39 T) (k0_pay40 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay41 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay42 T)

/-- The summed focal terms of the unmatched classes of a point. -/
def f0Sum (x0 : Vec Ideal S1x160x80 .f32) (T : FVec Ideal S2048x128 .f32) (x4 x5 x6 x7 x8 x9 x10 x11 x12 x13 x14 x15 x16 x17 x18 x19 : Vec Ideal S1x128x128 .f32) : EReal :=
  k0_pay45 (k0_pay4 x0) (k0_pay34 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay37 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay38 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay39 T) (k0_pay40 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay41 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay42 T)

/-- The ratios of intersection to union of a point. -/
def ious (x0 : Vec Ideal S1x160x80 .f32) (T : FVec Ideal S2048x128 .f32) (x4 x5 x6 x7 x8 x9 x10 x11 x12 x13 x14 x15 x16 x17 x18 x19 : Vec Ideal S1x128x128 .f32) : FVec Ideal S16 .f32 :=
  k0_pay46 (k0_pay4 x0) (k0_pay34 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay37 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay38 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay39 T) (k0_pay40 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay41 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay42 T)

/-- The dice losses of a point. -/
def dices (x0 : Vec Ideal S1x160x80 .f32) (T : FVec Ideal S2048x128 .f32) (x4 x5 x6 x7 x8 x9 x10 x11 x12 x13 x14 x15 x16 x17 x18 x19 : Vec Ideal S1x128x128 .f32) : FVec Ideal S16 .f32 :=
  k0_pay47 (k0_pay4 x0) (k0_pay34 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay37 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay38 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay39 T) (k0_pay40 T (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay41 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19) (k0_pay42 T)

/-- The row of the `k`-th of sixteen stacked masks. -/
abbrev row (k : Fin 16) (i : Fin 128) : Fin 2048 := ⟨k.val * 128 + i.val, by omega⟩

set_option maxHeartbeats 2000000 in
/-- Sixteen masks stacked, read in the `k`-th at row `i`. -/
theorem cat16 (a0 a1 a2 a3 a4 a5 a6 a7 a8 a9 a10 a11 a12 a13 a14 a15 : FVec Ideal S128x128 .f32) (k : Fin 16) (i j : Fin 128) :
    concatenate S2048x128 0 [⟨S128x128, a0⟩, ⟨S128x128, a1⟩, ⟨S128x128, a2⟩, ⟨S128x128, a3⟩, ⟨S128x128, a4⟩, ⟨S128x128, a5⟩, ⟨S128x128, a6⟩, ⟨S128x128, a7⟩, ⟨S128x128, a8⟩, ⟨S128x128, a9⟩, ⟨S128x128, a10⟩, ⟨S128x128, a11⟩, ⟨S128x128, a12⟩, ⟨S128x128, a13⟩, ⟨S128x128, a14⟩, ⟨S128x128, a15⟩] concatenates_S128x128_S128x128_S128x128_S128x128_S128x128_S128x128_S128x128_S128x128_S128x128_S128x128_S128x128_S128x128_S128x128_S128x128_S128x128_S128x128_S2048x128_d0 (ix2 (row k i) j)
      = (![a0, a1, a2, a3, a4, a5, a6, a7, a8, a9, a10, a11, a12, a13, a14, a15] k) (ix2 i j) := by
  refine concatenate_ofFn_apply (t := S2048x128) (s₁ := S128x128) 0 (![a0, a1, a2, a3, a4, a5, a6, a7, a8, a9, a10, a11, a12, a13, a14, a15]) _ rfl 128 rfl (ix2 (row k i) j) k ?_ (ix2 i j) ?_ ?_
  · show (k.val * 128 + i.val) / 128 = k.val
    omega
  · show i.val = (k.val * 128 + i.val) % 128
    omega
  · intro b hb
    match b with
    | ⟨0, _⟩ => exact absurd rfl hb
    | ⟨1, _⟩ => rfl

/-- The stacked masks at the `k`-th mask's row `i`. -/
theorem msks_apply (x4 x5 x6 x7 x8 x9 x10 x11 x12 x13 x14 x15 x16 x17 x18 x19 : Vec Ideal S1x128x128 .f32) (k : Fin 16) (i j : Fin 128) : msks x4 x5 x6 x7 x8 x9 x10 x11 x12 x13 x14 x15 x16 x17 x18 x19 (ix2 (row k i) j) = (![x4, x5, x6, x7, x8, x9, x10, x11, x12, x13, x14, x15, x16, x17, x18, x19] k) (ix3 0 i j) := by
  unfold msks k0_pay31
  refine (cat16 _ _ _ _ _ _ _ _ _ _ _ _ _ _ _ _ k i j).trans ?_
  match k with
  | ⟨0, _⟩ => show k0_pay17 x4 (ix2 i j) = x4 (ix3 0 i j); pointwise [k0_pay17]
  | ⟨1, _⟩ => show k0_pay18 x5 (ix2 i j) = x5 (ix3 0 i j); pointwise [k0_pay18]
  | ⟨2, _⟩ => show k0_pay19 x6 (ix2 i j) = x6 (ix3 0 i j); pointwise [k0_pay19]
  | ⟨3, _⟩ => show k0_pay20 x7 (ix2 i j) = x7 (ix3 0 i j); pointwise [k0_pay20]
  | ⟨4, _⟩ => show k0_pay21 x8 (ix2 i j) = x8 (ix3 0 i j); pointwise [k0_pay21]
  | ⟨5, _⟩ => show k0_pay22 x9 (ix2 i j) = x9 (ix3 0 i j); pointwise [k0_pay22]
  | ⟨6, _⟩ => show k0_pay23 x10 (ix2 i j) = x10 (ix3 0 i j); pointwise [k0_pay23]
  | ⟨7, _⟩ => show k0_pay24 x11 (ix2 i j) = x11 (ix3 0 i j); pointwise [k0_pay24]
  | ⟨8, _⟩ => show k0_pay25 x12 (ix2 i j) = x12 (ix3 0 i j); pointwise [k0_pay25]
  | ⟨9, _⟩ => show k0_pay26 x13 (ix2 i j) = x13 (ix3 0 i j); pointwise [k0_pay26]
  | ⟨10, _⟩ => show k0_pay27 x14 (ix2 i j) = x14 (ix3 0 i j); pointwise [k0_pay27]
  | ⟨11, _⟩ => show k0_pay28 x15 (ix2 i j) = x15 (ix3 0 i j); pointwise [k0_pay28]
  | ⟨12, _⟩ => show k0_pay29 x16 (ix2 i j) = x16 (ix3 0 i j); pointwise [k0_pay29]
  | ⟨13, _⟩ => show k0_pay30 x17 (ix2 i j) = x17 (ix3 0 i j); pointwise [k0_pay30]
  | ⟨14, _⟩ => show shapeCast S128x128 x18 shapeCasts_S1x128x128_S128x128 (ix2 i j) = x18 (ix3 0 i j); pointwise
  | ⟨15, _⟩ => show shapeCast S128x128 x19 shapeCasts_S1x128x128_S128x128 (ix2 i j) = x19 (ix3 0 i j); pointwise
  | ⟨n + 16, h⟩ => exact absurd h (by omega)

/-- The stacked targets at the `k`-th target's row `i`: its thresholded image resized, columns first. -/
theorem tgts_apply (x3 : Vec Ideal S1x8192x512 .f32) (x20 : Vec Ideal S512x128 .bf16) (x21 : Vec Ideal S128x512 .bf16) (k : Fin 16) (i j : Fin 128) :
    tgts x3 x20 x21 (ix2 (row k i) j) = ∑ h : Fin 512, x21 (ix2 i h) * ∑ w : Fin 512,
      Loss.ind (decide (Ideal.ofBits FTy.f32 0x3F000000#32 < x3 (ix3 0 (⟨k.val * 512 + h.val, by omega⟩ : Fin 8192) w))) * x20 (ix2 w j) := by
  unfold tgts k0_pay16
  refine (cat16 _ _ _ _ _ _ _ _ _ _ _ _ _ _ _ _ k i j).trans ?_
  match k with
  | ⟨0, _⟩ =>
    show matmul dot_S128x512_S512x128_S128x128_1_0_0_1_n_n none (shapeCast S128x512 x21 shapeCasts_S128x512_S128x512) (extractStridedSlice S512x128 ![0, 0] (k0_pay5 x3 x20) slices_S8192x128_o0_0_S512x128) (constant (F := Ideal) S128x128 .f32 0x00000000#32) (ix2 i j) = _
    pointwise [k0_pay5]
    simp only [Loss.sitofp_ind]
  | ⟨1, _⟩ =>
    show matmul dot_S128x512_S512x128_S128x128_1_0_0_1_n_n none (shapeCast S128x512 x21 shapeCasts_S128x512_S128x512) (extractStridedSlice S512x128 ![512, 0] (k0_pay5 x3 x20) slices_S8192x128_o512_0_S512x128) (constant (F := Ideal) S128x128 .f32 0x00000000#32) (ix2 i j) = _
    pointwise [k0_pay5]
    simp only [Loss.sitofp_ind]
  | ⟨2, _⟩ =>
    show matmul dot_S128x512_S512x128_S128x128_1_0_0_1_n_n none (shapeCast S128x512 x21 shapeCasts_S128x512_S128x512) (extractStridedSlice S512x128 ![1024, 0] (k0_pay5 x3 x20) slices_S8192x128_o1024_0_S512x128) (constant (F := Ideal) S128x128 .f32 0x00000000#32) (ix2 i j) = _
    pointwise [k0_pay5]
    simp only [Loss.sitofp_ind]
  | ⟨3, _⟩ =>
    show matmul dot_S128x512_S512x128_S128x128_1_0_0_1_n_n none (shapeCast S128x512 x21 shapeCasts_S128x512_S128x512) (extractStridedSlice S512x128 ![1536, 0] (k0_pay5 x3 x20) slices_S8192x128_o1536_0_S512x128) (constant (F := Ideal) S128x128 .f32 0x00000000#32) (ix2 i j) = _
    pointwise [k0_pay5]
    simp only [Loss.sitofp_ind]
  | ⟨4, _⟩ =>
    show matmul dot_S128x512_S512x128_S128x128_1_0_0_1_n_n none (shapeCast S128x512 x21 shapeCasts_S128x512_S128x512) (extractStridedSlice S512x128 ![2048, 0] (k0_pay5 x3 x20) slices_S8192x128_o2048_0_S512x128) (constant (F := Ideal) S128x128 .f32 0x00000000#32) (ix2 i j) = _
    pointwise [k0_pay5]
    simp only [Loss.sitofp_ind]
  | ⟨5, _⟩ =>
    show matmul dot_S128x512_S512x128_S128x128_1_0_0_1_n_n none (shapeCast S128x512 x21 shapeCasts_S128x512_S128x512) (extractStridedSlice S512x128 ![2560, 0] (k0_pay5 x3 x20) slices_S8192x128_o2560_0_S512x128) (constant (F := Ideal) S128x128 .f32 0x00000000#32) (ix2 i j) = _
    pointwise [k0_pay5]
    simp only [Loss.sitofp_ind]
  | ⟨6, _⟩ =>
    show matmul dot_S128x512_S512x128_S128x128_1_0_0_1_n_n none (shapeCast S128x512 x21 shapeCasts_S128x512_S128x512) (extractStridedSlice S512x128 ![3072, 0] (k0_pay5 x3 x20) slices_S8192x128_o3072_0_S512x128) (constant (F := Ideal) S128x128 .f32 0x00000000#32) (ix2 i j) = _
    pointwise [k0_pay5]
    simp only [Loss.sitofp_ind]
  | ⟨7, _⟩ =>
    show matmul dot_S128x512_S512x128_S128x128_1_0_0_1_n_n none (shapeCast S128x512 x21 shapeCasts_S128x512_S128x512) (extractStridedSlice S512x128 ![3584, 0] (k0_pay5 x3 x20) slices_S8192x128_o3584_0_S512x128) (constant (F := Ideal) S128x128 .f32 0x00000000#32) (ix2 i j) = _
    pointwise [k0_pay5]
    simp only [Loss.sitofp_ind]
  | ⟨8, _⟩ =>
    show matmul dot_S128x512_S512x128_S128x128_1_0_0_1_n_n none (shapeCast S128x512 x21 shapeCasts_S128x512_S128x512) (extractStridedSlice S512x128 ![4096, 0] (k0_pay5 x3 x20) slices_S8192x128_o4096_0_S512x128) (constant (F := Ideal) S128x128 .f32 0x00000000#32) (ix2 i j) = _
    pointwise [k0_pay5]
    simp only [Loss.sitofp_ind]
  | ⟨9, _⟩ =>
    show matmul dot_S128x512_S512x128_S128x128_1_0_0_1_n_n none (shapeCast S128x512 x21 shapeCasts_S128x512_S128x512) (extractStridedSlice S512x128 ![4608, 0] (k0_pay5 x3 x20) slices_S8192x128_o4608_0_S512x128) (constant (F := Ideal) S128x128 .f32 0x00000000#32) (ix2 i j) = _
    pointwise [k0_pay5]
    simp only [Loss.sitofp_ind]
  | ⟨10, _⟩ =>
    show matmul dot_S128x512_S512x128_S128x128_1_0_0_1_n_n none (shapeCast S128x512 x21 shapeCasts_S128x512_S128x512) (extractStridedSlice S512x128 ![5120, 0] (k0_pay5 x3 x20) slices_S8192x128_o5120_0_S512x128) (constant (F := Ideal) S128x128 .f32 0x00000000#32) (ix2 i j) = _
    pointwise [k0_pay5]
    simp only [Loss.sitofp_ind]
  | ⟨11, _⟩ =>
    show matmul dot_S128x512_S512x128_S128x128_1_0_0_1_n_n none (shapeCast S128x512 x21 shapeCasts_S128x512_S128x512) (extractStridedSlice S512x128 ![5632, 0] (k0_pay5 x3 x20) slices_S8192x128_o5632_0_S512x128) (constant (F := Ideal) S128x128 .f32 0x00000000#32) (ix2 i j) = _
    pointwise [k0_pay5]
    simp only [Loss.sitofp_ind]
  | ⟨12, _⟩ =>
    show matmul dot_S128x512_S512x128_S128x128_1_0_0_1_n_n none (shapeCast S128x512 x21 shapeCasts_S128x512_S128x512) (extractStridedSlice S512x128 ![6144, 0] (k0_pay5 x3 x20) slices_S8192x128_o6144_0_S512x128) (constant (F := Ideal) S128x128 .f32 0x00000000#32) (ix2 i j) = _
    pointwise [k0_pay5]
    simp only [Loss.sitofp_ind]
  | ⟨13, _⟩ =>
    show matmul dot_S128x512_S512x128_S128x128_1_0_0_1_n_n none (shapeCast S128x512 x21 shapeCasts_S128x512_S128x512) (extractStridedSlice S512x128 ![6656, 0] (k0_pay5 x3 x20) slices_S8192x128_o6656_0_S512x128) (constant (F := Ideal) S128x128 .f32 0x00000000#32) (ix2 i j) = _
    pointwise [k0_pay5]
    simp only [Loss.sitofp_ind]
  | ⟨14, _⟩ =>
    show matmul dot_S128x512_S512x128_S128x128_1_0_0_1_n_n none (shapeCast S128x512 x21 shapeCasts_S128x512_S128x512) (extractStridedSlice S512x128 ![7168, 0] (k0_pay5 x3 x20) slices_S8192x128_o7168_0_S512x128) (constant (F := Ideal) S128x128 .f32 0x00000000#32) (ix2 i j) = _
    pointwise [k0_pay5]
    simp only [Loss.sitofp_ind]
  | ⟨15, _⟩ =>
    show matmul dot_S128x512_S512x128_S128x128_1_0_0_1_n_n none (shapeCast S128x512 x21 shapeCasts_S128x512_S128x512) (extractStridedSlice S512x128 ![7680, 0] (k0_pay5 x3 x20) slices_S8192x128_o7680_0_S512x128) (constant (F := Ideal) S128x128 .f32 0x00000000#32) (ix2 i j) = _
    pointwise [k0_pay5]
    simp only [Loss.sitofp_ind]
  | ⟨n + 16, h⟩ => exact absurd h (by omega)

/-- The lane sums 0 to 15. -/
theorem tot0 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 0 + k.val) : k0_pay43 v22 v149 v160 v162 v164 v167 v170 v172 (ix1 n) = ∑ j : Fin 128, v160 (ix2 k j) := by
  pointwise [k0_pay43]
  refine Finset.sum_congr rfl fun j _ => ?_
  rw [dif_pos (by omega)]
  exact congrArg v160 (congrArg (fun a => ix2 a j) (Fin.ext (by dsimp only; omega)))

/-- The lane sums 16 to 31. -/
theorem tot1 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 16 + k.val) : k0_pay43 v22 v149 v160 v162 v164 v167 v170 v172 (ix1 n) = ∑ j : Fin 128, v162 (ix2 k j) := by
  pointwise [k0_pay43]
  refine Finset.sum_congr rfl fun j _ => ?_
  rw [dif_neg (by omega), dif_pos (by omega)]
  exact congrArg v162 (congrArg (fun a => ix2 a j) (Fin.ext (by dsimp only; omega)))

/-- The lane sums 32 to 47. -/
theorem tot2 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 32 + k.val) : k0_pay43 v22 v149 v160 v162 v164 v167 v170 v172 (ix1 n) = ∑ j : Fin 128, v164 (ix2 k j) := by
  pointwise [k0_pay43]
  refine Finset.sum_congr rfl fun j _ => ?_
  rw [dif_neg (by omega), dif_neg (by omega), dif_pos (by omega)]
  exact congrArg v164 (congrArg (fun a => ix2 a j) (Fin.ext (by dsimp only; omega)))

/-- The lane sums 48 to 63. -/
theorem tot3 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 48 + k.val) : k0_pay43 v22 v149 v160 v162 v164 v167 v170 v172 (ix1 n) = ∑ j : Fin 128, v167 (ix2 k j) := by
  pointwise [k0_pay43]
  refine Finset.sum_congr rfl fun j _ => ?_
  rw [dif_neg (by omega), dif_neg (by omega), dif_neg (by omega), dif_pos (by omega)]
  exact congrArg v167 (congrArg (fun a => ix2 a j) (Fin.ext (by dsimp only; omega)))

/-- The lane sums 64 to 79. -/
theorem tot4 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 64 + k.val) : k0_pay43 v22 v149 v160 v162 v164 v167 v170 v172 (ix1 n) = ∑ j : Fin 128, v170 (ix2 k j) := by
  pointwise [k0_pay43]
  refine Finset.sum_congr rfl fun j _ => ?_
  rw [dif_neg (by omega), dif_neg (by omega), dif_neg (by omega), dif_neg (by omega), dif_pos (by omega)]
  exact congrArg v170 (congrArg (fun a => ix2 a j) (Fin.ext (by dsimp only; omega)))

/-- The lane sums 80 to 95. -/
theorem tot5 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 80 + k.val) : k0_pay43 v22 v149 v160 v162 v164 v167 v170 v172 (ix1 n) = ∑ j : Fin 128, ∑ i : Fin 128, v172 (ix3 k i j) := by
  pointwise [k0_pay43]
  refine Finset.sum_congr rfl fun j _ => ?_
  rw [dif_neg (by omega), dif_neg (by omega), dif_neg (by omega), dif_neg (by omega), dif_neg (by omega), dif_pos (by omega)]
  exact Finset.sum_congr rfl fun i _ => congrArg v172 (congrArg (fun a => ix3 a i j) (Fin.ext (by dsimp only; omega)))

/-- The lane sums 96 to 111. -/
theorem tot6 (v22 : FVec Ideal S1x128 .f32) (v149 : FVec Ideal S2048x128 .f32) (v160 v162 v164 v167 v170 : FVec Ideal S16x128 .f32) (v172 : FVec Ideal S16x128x128 .f32) (n : Fin 113) (k : Fin 16) (h : n.val = 96 + k.val) : k0_pay43 v22 v149 v160 v162 v164 v167 v170 v172 (ix1 n) = ∑ j : Fin 128, ∑ i : Fin 128, v149 (ix2 (row k i) j) := by
  pointwise [k0_pay43]
  refine Finset.sum_congr rfl fun j _ => ?_
  rw [dif_neg (by omega), dif_neg (by omega), dif_neg (by omega), dif_neg (by omega), dif_neg (by omega), dif_neg (by omega), dif_pos (by omega)]
  exact Finset.sum_congr rfl fun i _ => congrArg v149 (congrArg (fun a => ix2 a j) (Fin.ext (by dsimp only; omega)))

/-- The lane sum 112. -/
theorem tot7 (v22 : FVec Ideal S1x128 .f32) (v149 : FVec Ideal S2048x128 .f32) (v160 v162 v164 v167 v170 : FVec Ideal S16x128 .f32) (v172 : FVec Ideal S16x128x128 .f32) (n : Fin 113) (h : n.val = 112) : k0_pay43 v22 v149 v160 v162 v164 v167 v170 v172 (ix1 n) = ∑ j : Fin 128, v22 (ix2 0 j) := by
  pointwise [k0_pay43]
  refine Finset.sum_congr rfl fun j _ => ?_
  rw [dif_neg (by omega), dif_neg (by omega), dif_neg (by omega), dif_neg (by omega), dif_neg (by omega), dif_neg (by omega), dif_neg (by omega)]
  exact congrArg v22 (congrArg (fun a => ix2 a j) (Fin.ext (by dsimp only; omega)))

/-- The stacked masks, the program's own way. -/
theorem mask_at (x4 x5 x6 x7 x8 x9 x10 x11 x12 x13 x14 x15 x16 x17 x18 x19 : Vec Ideal S1x128x128 .f32) (k : Fin 16) (i j : Fin 128) :
    k0_pay31 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19 (ix2 ⟨k.val * 128 + i.val, by omega⟩ j) = (![x4, x5, x6, x7, x8, x9, x10, x11, x12, x13, x14, x15, x16, x17, x18, x19] k) (ix3 0 i j) := msks_apply x4 x5 x6 x7 x8 x9 x10 x11 x12 x13 x14 x15 x16 x17 x18 x19 k i j

/-- The stacked probabilities. -/
theorem sig_at (x4 x5 x6 x7 x8 x9 x10 x11 x12 x13 x14 x15 x16 x17 x18 x19 : Vec Ideal S1x128x128 .f32) (k : Fin 16) (i j : Fin 128) :
    k0_pay33 (k0_pay17 x4) (k0_pay18 x5) (k0_pay19 x6) (k0_pay20 x7) (k0_pay21 x8) (k0_pay22 x9) (k0_pay23 x10) (k0_pay24 x11) (k0_pay25 x12) (k0_pay26 x13) (k0_pay27 x14) (k0_pay28 x15) (k0_pay29 x16) (k0_pay30 x17) x18 x19 (ix2 ⟨k.val * 128 + i.val, by omega⟩ j) = Loss.sgm ((![x4, x5, x6, x7, x8, x9, x10, x11, x12, x13, x14, x15, x16, x17, x18, x19] k) (ix3 0 i j)) := by
  pointwise [k0_pay33, k0_pay32]
  rw [mask_at x4 x5 x6 x7 x8 x9 x10 x11 x12 x13 x14 x15 x16 x17 x18 x19, zero_sub]
  exact Loss.sgm_split _

/-- The sum over columns, then rows, is the sum over rows, then columns. -/
theorem sum_total (f : Fin 128 → Fin 128 → EReal) : ∑ j, ∑ i, f i j = Loss.total f := Finset.sum_comm

/-- The summed cross entropies of a point: over its sixteen matches. -/
theorem bceSum_eq (x0 : Vec Ideal S1x160x80 .f32) (T : FVec Ideal S2048x128 .f32) (x4 x5 x6 x7 x8 x9 x10 x11 x12 x13 x14 x15 x16 x17 x18 x19 : Vec Ideal S1x128x128 .f32) :
    bceSum x0 T x4 x5 x6 x7 x8 x9 x10 x11 x12 x13 x14 x15 x16 x17 x18 x19 = ∑ k : Fin 16, Loss.total fun i j => Loss.bce ((![x4, x5, x6, x7, x8, x9, x10, x11, x12, x13, x14, x15, x16, x17, x18, x19] k) (ix3 0 i j)) (T (ix2 (row k i) j)) := by
  unfold bceSum
  pointwise [k0_pay44]
  refine Finset.sum_congr rfl fun k _ => ?_
  rw [tot6 _ _ _ _ _ _ _ _ _ k rfl, Finset.sum_comm]
  unfold Loss.total Loss.bce
  refine Finset.sum_congr rfl fun i _ => Finset.sum_congr rfl fun j _ => ?_
  pointwise [k0_pay34, k0_pay32]
  rw [mask_at x4 x5 x6 x7 x8 x9 x10 x11 x12 x13 x14 x15 x16 x17 x18 x19, zero_sub]
  rfl

/-- The dice losses of a point. -/
theorem dices_eq (x0 : Vec Ideal S1x160x80 .f32) (T : FVec Ideal S2048x128 .f32) (x4 x5 x6 x7 x8 x9 x10 x11 x12 x13 x14 x15 x16 x17 x18 x19 : Vec Ideal S1x128x128 .f32) (k : Fin 16) :
    dices x0 T x4 x5 x6 x7 x8 x9 x10 x11 x12 x13 x14 x15 x16 x17 x18 x19 (ix1 k) = Loss.dice (fun i j => Loss.sgm ((![x4, x5, x6, x7, x8, x9, x10, x11, x12, x13, x14, x15, x16, x17, x18, x19] k) (ix3 0 i j))) (fun i j => T (ix2 (row k i) j)) := by
  unfold dices
  pointwise [k0_pay47]
  rw [tot3 _ _ _ _ _ _ _ _ _ k rfl, tot4 _ _ _ _ _ _ _ _ _ k rfl, tot5 _ _ _ _ _ _ _ _ _ k rfl]
  pointwise [k0_pay40, k0_pay41, k0_pay42]
  simp only [sig_at x4 x5 x6 x7 x8 x9 x10 x11 x12 x13 x14 x15 x16 x17 x18 x19, sum_total]
  rfl

/-- The ratios of intersection to union of a point. -/
theorem ious_eq (x0 : Vec Ideal S1x160x80 .f32) (T : FVec Ideal S2048x128 .f32) (x4 x5 x6 x7 x8 x9 x10 x11 x12 x13 x14 x15 x16 x17 x18 x19 : Vec Ideal S1x128x128 .f32) (k : Fin 16) :
    ious x0 T x4 x5 x6 x7 x8 x9 x10 x11 x12 x13 x14 x15 x16 x17 x18 x19 (ix1 k) = Loss.iou (fun i j => Loss.sgm ((![x4, x5, x6, x7, x8, x9, x10, x11, x12, x13, x14, x15, x16, x17, x18, x19] k) (ix3 0 i j))) (fun i j => T (ix2 (row k i) j)) := by
  unfold ious
  pointwise [k0_pay46]
  rw [tot0 _ _ _ _ _ _ _ _ _ k (by simp), tot1 _ _ _ _ _ _ _ _ _ k rfl, tot2 _ _ _ _ _ _ _ _ _ k rfl]
  pointwise [k0_pay37, k0_pay38, k0_pay39, k0_pay35, k0_pay36]
  simp only [sig_at x4 x5 x6 x7 x8 x9 x10 x11 x12 x13 x14 x15 x16 x17 x18 x19, Loss.sitofp_ind, sum_total]
  rfl

end Cert.Point

end
-- ==== Proof.Value.Outs.lean ====
/- What a point leaves in its four accumulators, as functions of the blocks it reads. -/
module

public import proofs.«01_k».proof.Proof.Ideal.RunB
public import proofs.«01_k».proof.Proof.Value.Pay

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

/-- A one-by-one array has one index. -/
theorem unit_eq (a b : S1x1.Idx) : a = b := by
  funext d
  match d with
  | ⟨0, _⟩ => exact Subsingleton.elim (α := Fin 1) _ _
  | ⟨1, _⟩ => exact Subsingleton.elim (α := Fin 1) _ _

/-- The mask accumulator after a first point. -/
theorem outA_25_val  (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : cond0_0 i)
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) :
    VO0_25.read (Elt Ideal) (VO0_25.writes (Elt Ideal) VO0_25.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT).2.2.2.1) = fun _ => k0_pay3 (F := Ideal) (Cert.Point.bceSum x0 (Cert.Point.tgts x3 x20 x21) x4 x5 x6 x7 x8 x9 x10 x11 x12 x13 x14 x15 x16 x17 x18 x19) (FloatOps.ofBits (F := Ideal) FTy.f32 0#32) := by
  dsimp only [kernelRun0_A]
  frame_out
  rfl

/-- The dice accumulator after a first point. -/
theorem outA_24_val  (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : cond0_0 i)
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) :
    VO0_24.read (Elt Ideal) (VO0_24.writes (Elt Ideal) VO0_24.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT).2.2.1) = fun _ => k0_pay2 (F := Ideal) (Cert.Point.dices x0 (Cert.Point.tgts x3 x20 x21) x4 x5 x6 x7 x8 x9 x10 x11 x12 x13 x14 x15 x16 x17 x18 x19) (FloatOps.ofBits (F := Ideal) FTy.f32 0#32) := by
  dsimp only [kernelRun0_A]
  frame_out
  rfl

/-- The mask accumulator after a later point. -/
theorem outB_25_val  (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : ¬cond0_0 i)
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) (xo22 : Vec Ideal S1x1 .f32) (xo23 : Vec Ideal S1x1 .f32) (xo24 : Vec Ideal S1x1 .f32) (xo25 : Vec Ideal S1x1 .f32) :
    VO0_25.read (Elt Ideal) (VO0_25.writes (Elt Ideal) VO0_25.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT xo22 xo23 xo24 xo25).2.2.2.1) = fun _ => k0_pay3 (F := Ideal) (Cert.Point.bceSum x0 (Cert.Point.tgts x3 x20 x21) x4 x5 x6 x7 x8 x9 x10 x11 x12 x13 x14 x15 x16 x17 x18 x19) (xo25 (ix2 0 0)) := by
  dsimp only [kernelRun0_B]
  frame_out
  exact funext fun x => congrArg (k0_pay3 (F := Ideal) _) (congrArg xo25 (unit_eq _ _))

/-- The dice accumulator after a later point. -/
theorem outB_24_val  (c : Dev nD) (i : grid0.Coords) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : ¬cond0_0 i)
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) (xo22 : Vec Ideal S1x1 .f32) (xo23 : Vec Ideal S1x1 .f32) (xo24 : Vec Ideal S1x1 .f32) (xo25 : Vec Ideal S1x1 .f32) :
    VO0_24.read (Elt Ideal) (VO0_24.writes (Elt Ideal) VO0_24.junk (kernelRun0_B c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT xo22 xo23 xo24 xo25).2.2.1) = fun _ => k0_pay2 (F := Ideal) (Cert.Point.dices x0 (Cert.Point.tgts x3 x20 x21) x4 x5 x6 x7 x8 x9 x10 x11 x12 x13 x14 x15 x16 x17 x18 x19) (xo24 (ix2 0 0)) := by
  dsimp only [kernelRun0_B]
  frame_out
  exact funext fun x => congrArg (k0_pay2 (F := Ideal) _) (congrArg xo24 (unit_eq _ _))

end Cert.KernelIdeal.Gen

end
-- ==== Proof.Value.Blocks.lean ====
/- What the kernel's blocks read: the arrays the region finds, and these as the arguments. -/
module

public import proofs.«01_k».proof.Proof.Ideal.Frame
public import proofs.«01_k».proof.Proof.Value.Outs
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- The targets' blocks are taken in order. -/
theorem idx3 : ∀ t : Fin grid0.N, cc0_transform_3 (grid0.coords t) = ![t.val, 0, 0] := by decide +kernel

/-- The target block at a point. -/
theorem blk3 (hO : Ok m) (c : Dev nD) (t : Fin (cfgM m hO).N) (h : Fin 8192) (w : Fin 512) :
    (show Vec Ideal S1x8192x512 .f32 from iblk m hO c 3 t) (ix3 0 h w) = V m c main_v38 (ix3 (t.cast rfl) h w) := by
  blk_ext [iblk]
  · show cc0_transform_3 (grid0.coords t) 0 + 0 = t.val
    rw [idx3 t]; rfl
  · show cc0_transform_3 (grid0.coords t) 1 * 8192 + h.val = h.val
    rw [idx3 t]; show 0 * 8192 + h.val = h.val; omega
  · show cc0_transform_3 (grid0.coords t) 2 * 512 + w.val = w.val
    rw [idx3 t]; show 0 * 512 + w.val = w.val; omega

/-- The block of the resizing's weights is the whole array. -/
theorem blk20 (hO : Ok m) (c : Dev nD) (t : Fin (cfgM m hO).N) (i : Fin 512) (j : Fin 128) :
    (show Vec Ideal S512x128 .bf16 from iblk m hO c 20 t) (ix2 i j) = V m c main_v36 (ix2 i j) := by
  blk_ext [iblk]
  · show 0 * 512 + i.val = i.val; omega
  · show 0 * 128 + j.val = j.val; omega

/-- The block of the transposed weights is the whole array. -/
theorem blk21 (hO : Ok m) (c : Dev nD) (t : Fin (cfgM m hO).N) (i : Fin 512) (j : Fin 128) :
    (show Vec Ideal S128x512 .bf16 from iblk m hO c 21 t) (ix2 j i) = V m c main_v37 (ix2 j i) := by
  blk_ext [iblk]
  · show 0 * 128 + j.val = j.val; omega
  · show 0 * 512 + i.val = i.val; omega

/-- The block of the scores is the whole array. -/
theorem blk2 (hO : Ok m) (c : Dev nD) (t : Fin (cfgM m hO).N) (i : Fin 800) :
    (show Vec Ideal S800x1 .f32 from iblk m hO c 2 t) (ix2 i 0) = V m c main_v42 (ix2 i 0) := by
  blk_ext [iblk]
  · show 0 * 800 + i.val = i.val; omega
  · rfl

/-- The block of the logits is the whole array. -/
theorem blk1 (hO : Ok m) (c : Dev nD) (t : Fin (cfgM m hO).N) (i : Fin 800) (j : Fin 80) :
    (show Vec Ideal S800x80 .f32 from iblk m hO c 1 t) (ix2 i j) = V m c main_v41 (ix2 i j) := by
  blk_ext [iblk]
  · show 0 * 800 + i.val = i.val; omega
  · show 0 * 80 + j.val = j.val; omega

/-- The logits' slabs are taken in order. -/
theorem idx0 : ∀ t : Fin grid0.N, cc0_transform_0 (grid0.coords t) = ![t.val, 0, 0] := by decide +kernel

/-- The slab of logits at a point. -/
theorem blk0 (hO : Ok m) (c : Dev nD) (t : Fin (cfgM m hO).N) (h : Fin 160) (w : Fin 80) :
    (show Vec Ideal S1x160x80 .f32 from iblk m hO c 0 t) (ix3 0 h w) = V m c main_v40 (ix3 (t.cast rfl) h w) := by
  blk_ext [iblk]
  · show cc0_transform_0 (grid0.coords t) 0 + 0 = t.val
    rw [idx0 t]; rfl
  · show cc0_transform_0 (grid0.coords t) 1 * 160 + h.val = h.val
    rw [idx0 t]; show 0 * 160 + h.val = h.val; omega
  · show cc0_transform_0 (grid0.coords t) 2 * 80 + w.val = w.val
    rw [idx0 t]; show 0 * 80 + w.val = w.val; omega

/-- The targets, sixteen to a block. -/
theorem V38 (c : Dev nD) (t : Fin 5) (h : Fin 8192) (w : Fin 512) :
    V m c main_v38 (ix3 t h w) = m ((c : Thread nD τ).loc main_arg3) (ix4 ⟨(t.val * 16 + h.val / 512) / 10, by omega⟩ ⟨(t.val * 16 + h.val / 512) % 10, by omega⟩ ⟨h.val % 512, by omega⟩ w) := by
  unfold V
  after_reads_at
  blk_ext

/-- The masks, one to a row. -/
theorem V39 (c : Dev nD) (q : Fin 800) (h : Fin 128) (w : Fin 128) :
    V m c main_v39 (ix3 q h w) = m ((c : Thread nD τ).loc main_arg1) (ix4 ⟨q.val / 100, by omega⟩ ⟨q.val % 100, by omega⟩ h w) := by
  unfold V
  after_reads_at

/-- The scores, one to a row. -/
theorem V42 (c : Dev nD) (q : Fin 800) :
    V m c main_v42 (ix2 q 0) = m ((c : Thread nD τ).loc main_arg2) (ix3 ⟨q.val / 100, by omega⟩ ⟨q.val % 100, by omega⟩ 0) := by
  unfold V
  after_reads_at

/-- A triangle's height: one at its sample, zero four away. -/
def hat (i : Fin 512) (j : Fin 128) : EReal :=
  max 0 (1 - Ideal.div (FloatOps.absf (F := Ideal) (φ := .f32) ((FloatOps.sitofp FTy.f32 (BitVec.ofNat 32 j.val) + Ideal.ofBits FTy.f32 1056964608#32)
    * Ideal.ofBits FTy.f32 1082130432#32 - Ideal.ofBits FTy.f32 1056964608#32 - FloatOps.sitofp FTy.f32 (BitVec.ofNat 32 i.val)))
    (Ideal.ofBits FTy.f32 1082130432#32))

set_option maxHeartbeats 1600000 in
/-- The kernel's weights: the triangle over its column's sum. -/
theorem V36 (c : Dev nD) (i : Fin 512) (j : Fin 128) :
    V m c main_v36 (ix2 i j) = Ideal.div (hat i j) (∑ x, hat x j) := by
  unfold V
  after_reads_at
  rfl

set_option maxHeartbeats 1600000 in
/-- The transposed weights. -/
theorem V37 (c : Dev nD) (i : Fin 512) (j : Fin 128) : V m c main_v37 (ix2 j i) = V m c main_v36 (ix2 i j) := by
  unfold V
  after_reads_at

/-- A word read off the first table. -/
theorem word1 (off : Fin 1 → ℕ) (h) (k : Fin 80) (hk : off 0 = k.val) :
    (tbl m).at 0 (Rect.unit (s := S80) off S1.size h) numel1_S1 = V m (0 : Dev nD) main_v6 (ix1 k) := by
  refine congrArg (V m (0 : Dev nD) main_v6) (funext fun a => Fin.ext ?_)
  obtain rfl : a = (0 : Fin 1) := Subsingleton.elim (α := Fin 1) _ _
  exact hk

/-- Window 4 stages the mask the first table names for the point's match 0. -/
theorem idx4 (t : Fin grid0.N) (k : Fin 80) (hk : k.val = 16 * t.val + 0) :
    cc0_transform_4 k0_off1_inb numel1_S1 (tbl m) (grid0.coords t) = ![BitVec.toNat (w := 32) (V m (0 : Dev nD) main_v6 (ix1 k)), 0, 0] := by
  unfold cc0_transform_4
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 0#32)) = 16 * t.val + 0) t

/-- The mask of match 0 of a point. -/
theorem blk4 (hO : Ok m) (c : Dev nD) (t : Fin (cfgM m hO).N) (i j : Fin 128) (k : Fin 80) (hk : k.val = 16 * t.val + 0) (q : Fin 800)
    (hq : BitVec.toNat (w := 32) (V m (0 : Dev nD) main_v6 (ix1 k)) = q.val) :
    (show Vec Ideal S1x128x128 .f32 from iblk m hO c 4 t) (ix3 0 i j) = V m c main_v39 (ix3 q i j) := by
  have hi := idx4 m t k hk
  rw [hq] at hi
  blk_ext [iblk]
  · show cc0_transform_4 k0_off1_inb numel1_S1 (tbl m) (grid0.coords t) 0 + 0 = q.val
    rw [hi]; rfl
  · show cc0_transform_4 k0_off1_inb numel1_S1 (tbl m) (grid0.coords t) 1 * 128 + i.val = i.val
    rw [hi]; show 0 * 128 + i.val = i.val; omega
  · show cc0_transform_4 k0_off1_inb numel1_S1 (tbl m) (grid0.coords t) 2 * 128 + j.val = j.val
    rw [hi]; show 0 * 128 + j.val = j.val; omega

/-- Window 5 stages the mask the first table names for the point's match 1. -/
theorem idx5 (t : Fin grid0.N) (k : Fin 80) (hk : k.val = 16 * t.val + 1) :
    cc0_transform_5 k0_off1_inb numel1_S1 (tbl m) (grid0.coords t) = ![BitVec.toNat (w := 32) (V m (0 : Dev nD) main_v6 (ix1 k)), 0, 0] := by
  unfold cc0_transform_5
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 1#32)) = 16 * t.val + 1) t

/-- The mask of match 1 of a point. -/
theorem blk5 (hO : Ok m) (c : Dev nD) (t : Fin (cfgM m hO).N) (i j : Fin 128) (k : Fin 80) (hk : k.val = 16 * t.val + 1) (q : Fin 800)
    (hq : BitVec.toNat (w := 32) (V m (0 : Dev nD) main_v6 (ix1 k)) = q.val) :
    (show Vec Ideal S1x128x128 .f32 from iblk m hO c 5 t) (ix3 0 i j) = V m c main_v39 (ix3 q i j) := by
  have hi := idx5 m t k hk
  rw [hq] at hi
  blk_ext [iblk]
  · show cc0_transform_5 k0_off1_inb numel1_S1 (tbl m) (grid0.coords t) 0 + 0 = q.val
    rw [hi]; rfl
  · show cc0_transform_5 k0_off1_inb numel1_S1 (tbl m) (grid0.coords t) 1 * 128 + i.val = i.val
    rw [hi]; show 0 * 128 + i.val = i.val; omega
  · show cc0_transform_5 k0_off1_inb numel1_S1 (tbl m) (grid0.coords t) 2 * 128 + j.val = j.val
    rw [hi]; show 0 * 128 + j.val = j.val; omega

/-- Window 6 stages the mask the first table names for the point's match 2. -/
theorem idx6 (t : Fin grid0.N) (k : Fin 80) (hk : k.val = 16 * t.val + 2) :
    cc0_transform_6 k0_off1_inb numel1_S1 (tbl m) (grid0.coords t) = ![BitVec.toNat (w := 32) (V m (0 : Dev nD) main_v6 (ix1 k)), 0, 0] := by
  unfold cc0_transform_6
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 2#32)) = 16 * t.val + 2) t

/-- The mask of match 2 of a point. -/
theorem blk6 (hO : Ok m) (c : Dev nD) (t : Fin (cfgM m hO).N) (i j : Fin 128) (k : Fin 80) (hk : k.val = 16 * t.val + 2) (q : Fin 800)
    (hq : BitVec.toNat (w := 32) (V m (0 : Dev nD) main_v6 (ix1 k)) = q.val) :
    (show Vec Ideal S1x128x128 .f32 from iblk m hO c 6 t) (ix3 0 i j) = V m c main_v39 (ix3 q i j) := by
  have hi := idx6 m t k hk
  rw [hq] at hi
  blk_ext [iblk]
  · show cc0_transform_6 k0_off1_inb numel1_S1 (tbl m) (grid0.coords t) 0 + 0 = q.val
    rw [hi]; rfl
  · show cc0_transform_6 k0_off1_inb numel1_S1 (tbl m) (grid0.coords t) 1 * 128 + i.val = i.val
    rw [hi]; show 0 * 128 + i.val = i.val; omega
  · show cc0_transform_6 k0_off1_inb numel1_S1 (tbl m) (grid0.coords t) 2 * 128 + j.val = j.val
    rw [hi]; show 0 * 128 + j.val = j.val; omega

/-- Window 7 stages the mask the first table names for the point's match 3. -/
theorem idx7 (t : Fin grid0.N) (k : Fin 80) (hk : k.val = 16 * t.val + 3) :
    cc0_transform_7 k0_off1_inb numel1_S1 (tbl m) (grid0.coords t) = ![BitVec.toNat (w := 32) (V m (0 : Dev nD) main_v6 (ix1 k)), 0, 0] := by
  unfold cc0_transform_7
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 3#32)) = 16 * t.val + 3) t

/-- The mask of match 3 of a point. -/
theorem blk7 (hO : Ok m) (c : Dev nD) (t : Fin (cfgM m hO).N) (i j : Fin 128) (k : Fin 80) (hk : k.val = 16 * t.val + 3) (q : Fin 800)
    (hq : BitVec.toNat (w := 32) (V m (0 : Dev nD) main_v6 (ix1 k)) = q.val) :
    (show Vec Ideal S1x128x128 .f32 from iblk m hO c 7 t) (ix3 0 i j) = V m c main_v39 (ix3 q i j) := by
  have hi := idx7 m t k hk
  rw [hq] at hi
  blk_ext [iblk]
  · show cc0_transform_7 k0_off1_inb numel1_S1 (tbl m) (grid0.coords t) 0 + 0 = q.val
    rw [hi]; rfl
  · show cc0_transform_7 k0_off1_inb numel1_S1 (tbl m) (grid0.coords t) 1 * 128 + i.val = i.val
    rw [hi]; show 0 * 128 + i.val = i.val; omega
  · show cc0_transform_7 k0_off1_inb numel1_S1 (tbl m) (grid0.coords t) 2 * 128 + j.val = j.val
    rw [hi]; show 0 * 128 + j.val = j.val; omega

/-- Window 8 stages the mask the first table names for the point's match 4. -/
theorem idx8 (t : Fin grid0.N) (k : Fin 80) (hk : k.val = 16 * t.val + 4) :
    cc0_transform_8 k0_off1_inb numel1_S1 (tbl m) (grid0.coords t) = ![BitVec.toNat (w := 32) (V m (0 : Dev nD) main_v6 (ix1 k)), 0, 0] := by
  unfold cc0_transform_8
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 4#32)) = 16 * t.val + 4) t

/-- The mask of match 4 of a point. -/
theorem blk8 (hO : Ok m) (c : Dev nD) (t : Fin (cfgM m hO).N) (i j : Fin 128) (k : Fin 80) (hk : k.val = 16 * t.val + 4) (q : Fin 800)
    (hq : BitVec.toNat (w := 32) (V m (0 : Dev nD) main_v6 (ix1 k)) = q.val) :
    (show Vec Ideal S1x128x128 .f32 from iblk m hO c 8 t) (ix3 0 i j) = V m c main_v39 (ix3 q i j) := by
  have hi := idx8 m t k hk
  rw [hq] at hi
  blk_ext [iblk]
  · show cc0_transform_8 k0_off1_inb numel1_S1 (tbl m) (grid0.coords t) 0 + 0 = q.val
    rw [hi]; rfl
  · show cc0_transform_8 k0_off1_inb numel1_S1 (tbl m) (grid0.coords t) 1 * 128 + i.val = i.val
    rw [hi]; show 0 * 128 + i.val = i.val; omega
  · show cc0_transform_8 k0_off1_inb numel1_S1 (tbl m) (grid0.coords t) 2 * 128 + j.val = j.val
    rw [hi]; show 0 * 128 + j.val = j.val; omega

/-- Window 9 stages the mask the first table names for the point's match 5. -/
theorem idx9 (t : Fin grid0.N) (k : Fin 80) (hk : k.val = 16 * t.val + 5) :
    cc0_transform_9 k0_off1_inb numel1_S1 (tbl m) (grid0.coords t) = ![BitVec.toNat (w := 32) (V m (0 : Dev nD) main_v6 (ix1 k)), 0, 0] := by
  unfold cc0_transform_9
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 5#32)) = 16 * t.val + 5) t

/-- The mask of match 5 of a point. -/
theorem blk9 (hO : Ok m) (c : Dev nD) (t : Fin (cfgM m hO).N) (i j : Fin 128) (k : Fin 80) (hk : k.val = 16 * t.val + 5) (q : Fin 800)
    (hq : BitVec.toNat (w := 32) (V m (0 : Dev nD) main_v6 (ix1 k)) = q.val) :
    (show Vec Ideal S1x128x128 .f32 from iblk m hO c 9 t) (ix3 0 i j) = V m c main_v39 (ix3 q i j) := by
  have hi := idx9 m t k hk
  rw [hq] at hi
  blk_ext [iblk]
  · show cc0_transform_9 k0_off1_inb numel1_S1 (tbl m) (grid0.coords t) 0 + 0 = q.val
    rw [hi]; rfl
  · show cc0_transform_9 k0_off1_inb numel1_S1 (tbl m) (grid0.coords t) 1 * 128 + i.val = i.val
    rw [hi]; show 0 * 128 + i.val = i.val; omega
  · show cc0_transform_9 k0_off1_inb numel1_S1 (tbl m) (grid0.coords t) 2 * 128 + j.val = j.val
    rw [hi]; show 0 * 128 + j.val = j.val; omega

/-- Window 10 stages the mask the first table names for the point's match 6. -/
theorem idx10 (t : Fin grid0.N) (k : Fin 80) (hk : k.val = 16 * t.val + 6) :
    cc0_transform_10 k0_off1_inb numel1_S1 (tbl m) (grid0.coords t) = ![BitVec.toNat (w := 32) (V m (0 : Dev nD) main_v6 (ix1 k)), 0, 0] := by
  unfold cc0_transform_10
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 6#32)) = 16 * t.val + 6) t

/-- The mask of match 6 of a point. -/
theorem blk10 (hO : Ok m) (c : Dev nD) (t : Fin (cfgM m hO).N) (i j : Fin 128) (k : Fin 80) (hk : k.val = 16 * t.val + 6) (q : Fin 800)
    (hq : BitVec.toNat (w := 32) (V m (0 : Dev nD) main_v6 (ix1 k)) = q.val) :
    (show Vec Ideal S1x128x128 .f32 from iblk m hO c 10 t) (ix3 0 i j) = V m c main_v39 (ix3 q i j) := by
  have hi := idx10 m t k hk
  rw [hq] at hi
  blk_ext [iblk]
  · show cc0_transform_10 k0_off1_inb numel1_S1 (tbl m) (grid0.coords t) 0 + 0 = q.val
    rw [hi]; rfl
  · show cc0_transform_10 k0_off1_inb numel1_S1 (tbl m) (grid0.coords t) 1 * 128 + i.val = i.val
    rw [hi]; show 0 * 128 + i.val = i.val; omega
  · show cc0_transform_10 k0_off1_inb numel1_S1 (tbl m) (grid0.coords t) 2 * 128 + j.val = j.val
    rw [hi]; show 0 * 128 + j.val = j.val; omega

/-- Window 11 stages the mask the first table names for the point's match 7. -/
theorem idx11 (t : Fin grid0.N) (k : Fin 80) (hk : k.val = 16 * t.val + 7) :
    cc0_transform_11 k0_off1_inb numel1_S1 (tbl m) (grid0.coords t) = ![BitVec.toNat (w := 32) (V m (0 : Dev nD) main_v6 (ix1 k)), 0, 0] := by
  unfold cc0_transform_11
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 7#32)) = 16 * t.val + 7) t

/-- The mask of match 7 of a point. -/
theorem blk11 (hO : Ok m) (c : Dev nD) (t : Fin (cfgM m hO).N) (i j : Fin 128) (k : Fin 80) (hk : k.val = 16 * t.val + 7) (q : Fin 800)
    (hq : BitVec.toNat (w := 32) (V m (0 : Dev nD) main_v6 (ix1 k)) = q.val) :
    (show Vec Ideal S1x128x128 .f32 from iblk m hO c 11 t) (ix3 0 i j) = V m c main_v39 (ix3 q i j) := by
  have hi := idx11 m t k hk
  rw [hq] at hi
  blk_ext [iblk]
  · show cc0_transform_11 k0_off1_inb numel1_S1 (tbl m) (grid0.coords t) 0 + 0 = q.val
    rw [hi]; rfl
  · show cc0_transform_11 k0_off1_inb numel1_S1 (tbl m) (grid0.coords t) 1 * 128 + i.val = i.val
    rw [hi]; show 0 * 128 + i.val = i.val; omega
  · show cc0_transform_11 k0_off1_inb numel1_S1 (tbl m) (grid0.coords t) 2 * 128 + j.val = j.val
    rw [hi]; show 0 * 128 + j.val = j.val; omega

/-- Window 12 stages the mask the first table names for the point's match 8. -/
theorem idx12 (t : Fin grid0.N) (k : Fin 80) (hk : k.val = 16 * t.val + 8) :
    cc0_transform_12 k0_off1_inb numel1_S1 (tbl m) (grid0.coords t) = ![BitVec.toNat (w := 32) (V m (0 : Dev nD) main_v6 (ix1 k)), 0, 0] := by
  unfold cc0_transform_12
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 8#32)) = 16 * t.val + 8) t

/-- The mask of match 8 of a point. -/
theorem blk12 (hO : Ok m) (c : Dev nD) (t : Fin (cfgM m hO).N) (i j : Fin 128) (k : Fin 80) (hk : k.val = 16 * t.val + 8) (q : Fin 800)
    (hq : BitVec.toNat (w := 32) (V m (0 : Dev nD) main_v6 (ix1 k)) = q.val) :
    (show Vec Ideal S1x128x128 .f32 from iblk m hO c 12 t) (ix3 0 i j) = V m c main_v39 (ix3 q i j) := by
  have hi := idx12 m t k hk
  rw [hq] at hi
  blk_ext [iblk]
  · show cc0_transform_12 k0_off1_inb numel1_S1 (tbl m) (grid0.coords t) 0 + 0 = q.val
    rw [hi]; rfl
  · show cc0_transform_12 k0_off1_inb numel1_S1 (tbl m) (grid0.coords t) 1 * 128 + i.val = i.val
    rw [hi]; show 0 * 128 + i.val = i.val; omega
  · show cc0_transform_12 k0_off1_inb numel1_S1 (tbl m) (grid0.coords t) 2 * 128 + j.val = j.val
    rw [hi]; show 0 * 128 + j.val = j.val; omega

/-- Window 13 stages the mask the first table names for the point's match 9. -/
theorem idx13 (t : Fin grid0.N) (k : Fin 80) (hk : k.val = 16 * t.val + 9) :
    cc0_transform_13 k0_off1_inb numel1_S1 (tbl m) (grid0.coords t) = ![BitVec.toNat (w := 32) (V m (0 : Dev nD) main_v6 (ix1 k)), 0, 0] := by
  unfold cc0_transform_13
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 9#32)) = 16 * t.val + 9) t

/-- The mask of match 9 of a point. -/
theorem blk13 (hO : Ok m) (c : Dev nD) (t : Fin (cfgM m hO).N) (i j : Fin 128) (k : Fin 80) (hk : k.val = 16 * t.val + 9) (q : Fin 800)
    (hq : BitVec.toNat (w := 32) (V m (0 : Dev nD) main_v6 (ix1 k)) = q.val) :
    (show Vec Ideal S1x128x128 .f32 from iblk m hO c 13 t) (ix3 0 i j) = V m c main_v39 (ix3 q i j) := by
  have hi := idx13 m t k hk
  rw [hq] at hi
  blk_ext [iblk]
  · show cc0_transform_13 k0_off1_inb numel1_S1 (tbl m) (grid0.coords t) 0 + 0 = q.val
    rw [hi]; rfl
  · show cc0_transform_13 k0_off1_inb numel1_S1 (tbl m) (grid0.coords t) 1 * 128 + i.val = i.val
    rw [hi]; show 0 * 128 + i.val = i.val; omega
  · show cc0_transform_13 k0_off1_inb numel1_S1 (tbl m) (grid0.coords t) 2 * 128 + j.val = j.val
    rw [hi]; show 0 * 128 + j.val = j.val; omega

/-- Window 14 stages the mask the first table names for the point's match 10. -/
theorem idx14 (t : Fin grid0.N) (k : Fin 80) (hk : k.val = 16 * t.val + 10) :
    cc0_transform_14 k0_off1_inb numel1_S1 (tbl m) (grid0.coords t) = ![BitVec.toNat (w := 32) (V m (0 : Dev nD) main_v6 (ix1 k)), 0, 0] := by
  unfold cc0_transform_14
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 10#32)) = 16 * t.val + 10) t

/-- The mask of match 10 of a point. -/
theorem blk14 (hO : Ok m) (c : Dev nD) (t : Fin (cfgM m hO).N) (i j : Fin 128) (k : Fin 80) (hk : k.val = 16 * t.val + 10) (q : Fin 800)
    (hq : BitVec.toNat (w := 32) (V m (0 : Dev nD) main_v6 (ix1 k)) = q.val) :
    (show Vec Ideal S1x128x128 .f32 from iblk m hO c 14 t) (ix3 0 i j) = V m c main_v39 (ix3 q i j) := by
  have hi := idx14 m t k hk
  rw [hq] at hi
  blk_ext [iblk]
  · show cc0_transform_14 k0_off1_inb numel1_S1 (tbl m) (grid0.coords t) 0 + 0 = q.val
    rw [hi]; rfl
  · show cc0_transform_14 k0_off1_inb numel1_S1 (tbl m) (grid0.coords t) 1 * 128 + i.val = i.val
    rw [hi]; show 0 * 128 + i.val = i.val; omega
  · show cc0_transform_14 k0_off1_inb numel1_S1 (tbl m) (grid0.coords t) 2 * 128 + j.val = j.val
    rw [hi]; show 0 * 128 + j.val = j.val; omega

/-- Window 15 stages the mask the first table names for the point's match 11. -/
theorem idx15 (t : Fin grid0.N) (k : Fin 80) (hk : k.val = 16 * t.val + 11) :
    cc0_transform_15 k0_off1_inb numel1_S1 (tbl m) (grid0.coords t) = ![BitVec.toNat (w := 32) (V m (0 : Dev nD) main_v6 (ix1 k)), 0, 0] := by
  unfold cc0_transform_15
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 11#32)) = 16 * t.val + 11) t

/-- The mask of match 11 of a point. -/
theorem blk15 (hO : Ok m) (c : Dev nD) (t : Fin (cfgM m hO).N) (i j : Fin 128) (k : Fin 80) (hk : k.val = 16 * t.val + 11) (q : Fin 800)
    (hq : BitVec.toNat (w := 32) (V m (0 : Dev nD) main_v6 (ix1 k)) = q.val) :
    (show Vec Ideal S1x128x128 .f32 from iblk m hO c 15 t) (ix3 0 i j) = V m c main_v39 (ix3 q i j) := by
  have hi := idx15 m t k hk
  rw [hq] at hi
  blk_ext [iblk]
  · show cc0_transform_15 k0_off1_inb numel1_S1 (tbl m) (grid0.coords t) 0 + 0 = q.val
    rw [hi]; rfl
  · show cc0_transform_15 k0_off1_inb numel1_S1 (tbl m) (grid0.coords t) 1 * 128 + i.val = i.val
    rw [hi]; show 0 * 128 + i.val = i.val; omega
  · show cc0_transform_15 k0_off1_inb numel1_S1 (tbl m) (grid0.coords t) 2 * 128 + j.val = j.val
    rw [hi]; show 0 * 128 + j.val = j.val; omega

/-- Window 16 stages the mask the first table names for the point's match 12. -/
theorem idx16 (t : Fin grid0.N) (k : Fin 80) (hk : k.val = 16 * t.val + 12) :
    cc0_transform_16 k0_off1_inb numel1_S1 (tbl m) (grid0.coords t) = ![BitVec.toNat (w := 32) (V m (0 : Dev nD) main_v6 (ix1 k)), 0, 0] := by
  unfold cc0_transform_16
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 12#32)) = 16 * t.val + 12) t

/-- The mask of match 12 of a point. -/
theorem blk16 (hO : Ok m) (c : Dev nD) (t : Fin (cfgM m hO).N) (i j : Fin 128) (k : Fin 80) (hk : k.val = 16 * t.val + 12) (q : Fin 800)
    (hq : BitVec.toNat (w := 32) (V m (0 : Dev nD) main_v6 (ix1 k)) = q.val) :
    (show Vec Ideal S1x128x128 .f32 from iblk m hO c 16 t) (ix3 0 i j) = V m c main_v39 (ix3 q i j) := by
  have hi := idx16 m t k hk
  rw [hq] at hi
  blk_ext [iblk]
  · show cc0_transform_16 k0_off1_inb numel1_S1 (tbl m) (grid0.coords t) 0 + 0 = q.val
    rw [hi]; rfl
  · show cc0_transform_16 k0_off1_inb numel1_S1 (tbl m) (grid0.coords t) 1 * 128 + i.val = i.val
    rw [hi]; show 0 * 128 + i.val = i.val; omega
  · show cc0_transform_16 k0_off1_inb numel1_S1 (tbl m) (grid0.coords t) 2 * 128 + j.val = j.val
    rw [hi]; show 0 * 128 + j.val = j.val; omega

/-- Window 17 stages the mask the first table names for the point's match 13. -/
theorem idx17 (t : Fin grid0.N) (k : Fin 80) (hk : k.val = 16 * t.val + 13) :
    cc0_transform_17 k0_off1_inb numel1_S1 (tbl m) (grid0.coords t) = ![BitVec.toNat (w := 32) (V m (0 : Dev nD) main_v6 (ix1 k)), 0, 0] := by
  unfold cc0_transform_17
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 13#32)) = 16 * t.val + 13) t

/-- The mask of match 13 of a point. -/
theorem blk17 (hO : Ok m) (c : Dev nD) (t : Fin (cfgM m hO).N) (i j : Fin 128) (k : Fin 80) (hk : k.val = 16 * t.val + 13) (q : Fin 800)
    (hq : BitVec.toNat (w := 32) (V m (0 : Dev nD) main_v6 (ix1 k)) = q.val) :
    (show Vec Ideal S1x128x128 .f32 from iblk m hO c 17 t) (ix3 0 i j) = V m c main_v39 (ix3 q i j) := by
  have hi := idx17 m t k hk
  rw [hq] at hi
  blk_ext [iblk]
  · show cc0_transform_17 k0_off1_inb numel1_S1 (tbl m) (grid0.coords t) 0 + 0 = q.val
    rw [hi]; rfl
  · show cc0_transform_17 k0_off1_inb numel1_S1 (tbl m) (grid0.coords t) 1 * 128 + i.val = i.val
    rw [hi]; show 0 * 128 + i.val = i.val; omega
  · show cc0_transform_17 k0_off1_inb numel1_S1 (tbl m) (grid0.coords t) 2 * 128 + j.val = j.val
    rw [hi]; show 0 * 128 + j.val = j.val; omega

/-- Window 18 stages the mask the first table names for the point's match 14. -/
theorem idx18 (t : Fin grid0.N) (k : Fin 80) (hk : k.val = 16 * t.val + 14) :
    cc0_transform_18 k0_off1_inb numel1_S1 (tbl m) (grid0.coords t) = ![BitVec.toNat (w := 32) (V m (0 : Dev nD) main_v6 (ix1 k)), 0, 0] := by
  unfold cc0_transform_18
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 14#32)) = 16 * t.val + 14) t

/-- The mask of match 14 of a point. -/
theorem blk18 (hO : Ok m) (c : Dev nD) (t : Fin (cfgM m hO).N) (i j : Fin 128) (k : Fin 80) (hk : k.val = 16 * t.val + 14) (q : Fin 800)
    (hq : BitVec.toNat (w := 32) (V m (0 : Dev nD) main_v6 (ix1 k)) = q.val) :
    (show Vec Ideal S1x128x128 .f32 from iblk m hO c 18 t) (ix3 0 i j) = V m c main_v39 (ix3 q i j) := by
  have hi := idx18 m t k hk
  rw [hq] at hi
  blk_ext [iblk]
  · show cc0_transform_18 k0_off1_inb numel1_S1 (tbl m) (grid0.coords t) 0 + 0 = q.val
    rw [hi]; rfl
  · show cc0_transform_18 k0_off1_inb numel1_S1 (tbl m) (grid0.coords t) 1 * 128 + i.val = i.val
    rw [hi]; show 0 * 128 + i.val = i.val; omega
  · show cc0_transform_18 k0_off1_inb numel1_S1 (tbl m) (grid0.coords t) 2 * 128 + j.val = j.val
    rw [hi]; show 0 * 128 + j.val = j.val; omega

/-- Window 19 stages the mask the first table names for the point's match 15. -/
theorem idx19 (t : Fin grid0.N) (k : Fin 80) (hk : k.val = 16 * t.val + 15) :
    cc0_transform_19 k0_off1_inb numel1_S1 (tbl m) (grid0.coords t) = ![BitVec.toNat (w := 32) (V m (0 : Dev nD) main_v6 (ix1 k)), 0, 0] := by
  unfold cc0_transform_19
  refine congrArg (fun w : BitVec 32 => ![w.toNat, 0, 0]) (word1 m _ _ k (Eq.trans ?_ hk.symm))
  exact (by decide +kernel : ∀ t : Fin grid0.N, BitVec.toNat (Scalar.indexCast (Scalar.addi (Scalar.muli (16#32) (BitVec.ofNat 32 ↑(grid0.coords t 0))) 15#32)) = 16 * t.val + 15) t

/-- The mask of match 15 of a point. -/
theorem blk19 (hO : Ok m) (c : Dev nD) (t : Fin (cfgM m hO).N) (i j : Fin 128) (k : Fin 80) (hk : k.val = 16 * t.val + 15) (q : Fin 800)
    (hq : BitVec.toNat (w := 32) (V m (0 : Dev nD) main_v6 (ix1 k)) = q.val) :
    (show Vec Ideal S1x128x128 .f32 from iblk m hO c 19 t) (ix3 0 i j) = V m c main_v39 (ix3 q i j) := by
  have hi := idx19 m t k hk
  rw [hq] at hi
  blk_ext [iblk]
  · show cc0_transform_19 k0_off1_inb numel1_S1 (tbl m) (grid0.coords t) 0 + 0 = q.val
    rw [hi]; rfl
  · show cc0_transform_19 k0_off1_inb numel1_S1 (tbl m) (grid0.coords t) 1 * 128 + i.val = i.val
    rw [hi]; show 0 * 128 + i.val = i.val; omega
  · show cc0_transform_19 k0_off1_inb numel1_S1 (tbl m) (grid0.coords t) 2 * 128 + j.val = j.val
    rw [hi]; show 0 * 128 + j.val = j.val; omega

end Cert.KernelIdeal.Gen

end
-- ==== Proof.Ref.Terms.lean ====
/- The reference's four losses as functions of its arguments, stage by stage, on the extended reals. -/
module

public import proofs.«01_k».proof.Proof.Gen.ReferenceIdeal
public import Idealize.ShloMosaic.Lib.Tactic
public import Idealize.ShloMosaic.Lib.Claim
public import Idealize.ShloMosaic.PureOps.Ideal

@[expose] public section

set_option maxRecDepth 16384

noncomputable section

namespace Cert.Ref

open Idealize.ShloMosaic
open Cert.ReferenceIdeal Cert.ReferenceIdeal.Gen

/-- The labels taken at the matched targets, image by image. -/
def takeAlong (lab tgt : IVec S8x10 32) : IVec S8x10 32 :=
  have c := (constantI S_ 32 0#32)
  have v0 := (broadcastInDim S8x10 ![] bcast_S_S8x10) c
  have v1 := (cmpi .slt) tgt v0
  have c_0 := (constantI S_ 32 10#32)
  have v2 := (broadcastInDim S8x10 ![] bcast_S_S8x10) c_0
  have v3 := addi tgt v2
  have v4 := select v1 v3 tgt
  have v5 := shapeCast S8x10x1 v4 shapeCasts_S8x10_S8x10x1
  have c_2 := (constantI S_ 32 0#32)
  have v6 := (broadcastInDim S8x10x1 ![] bcast_S_S8x10x1) c_2
  have v7 := (cmpi .sge) v5 v6
  have c_1 := (constantI S1 32 9#32)
  have v8 := (broadcastInDim S1x1x1 ![2] bcast_S1_S1x1x1_2) c_1
  have v9 := (broadcastInDim S8x10x1 ![0, 1, 2] bcast_S1x1x1_S8x10x1_0_1_2) v8
  have v10 := (cmpi .sle) v5 v9
  have v11 := andi v7 v10
  have c_3 := (constantI S_ 1 1#1)
  have v12 := Host.reduce IntOp.andi v11 c_3 reducesTo_S8x10x1_S8x10_d2 h_S_
  have v13 := Host.gather gather_S8x10_S8x10x1_S8x10_n_1_0_0_1_2_11 lab v5
  have c_4 := (constantI S_ 32 2147483648#32)
  have v14 := (broadcastInDim S8x10 ![] bcast_S_S8x10) c_4
  select v12 v13 v14

/-- The indicator of each class; a class past the last has none. -/
def oneHot (cls : IVec S800 32) : FVec Ideal S800x80 .f32 :=
  have v0 := (broadcastInDim S800x1 ![0] bcast_S800_S800x1_0) cls
  have v2 := (broadcastInDim S800x80 ![0, 1] bcast_S800x1_S800x80_0_1) v0
  have v1 := (iotaInDim S1x80 32 1)
  have v3 := (broadcastInDim S800x80 ![0, 1] bcast_S1x80_S800x80_0_1) v1
  have v4 := (cmpi .eq) v2 v3
  (uitofp (F := Ideal) .f32) v4

/-- `x` where `p` holds, the integer `w` elsewhere. -/
def pick (p : IVec S1x128 1) (x : FVec Ideal S1x128 .f32) (w : IVec S_ 32) : FVec Ideal S1x128 .f32 :=
  have v0 := (sitofp (F := Ideal) .f32) w
  have v1 := (broadcastInDim S1x128 ![] bcast_S_S1x128) v0
  select p x v1

/-- `x` in the columns where `p` holds, the integer `w` elsewhere. -/
def pickAll (p : IVec S1x128 1) (x : FVec Ideal S512x128 .f32) (w : IVec S_ 32) : FVec Ideal S512x128 .f32 :=
  have v1 := (broadcastInDim S512x128 ![0, 1] bcast_S1x128_S512x128_0_1) p
  have v0 := (sitofp (F := Ideal) .f32) w
  have v2 := (broadcastInDim S512x128 ![] bcast_S_S512x128) v0
  select v1 x v2

/-- Where each of the 128 samples lies among the 512. -/
def centers : FVec Ideal S128 .f32 :=
  have v1 := (sitofp (F := Ideal) .f32 (iotaInDim S128 32 0))
  have cst_1 := (constant (F := Ideal) S_ .f32 0x3F000000#32)
  have v2 := (broadcastInDim S128 ![] bcast_S_S128) cst_1
  have v3 := addf v1 v2
  have cst_2 := (constant (F := Ideal) S_ .f32 0x40800000#32)
  have v4 := (broadcastInDim S128 ![] bcast_S_S128) cst_2
  have v5 := mulf v3 v4
  have cst_3 := (constant (F := Ideal) S_ .f32 0x00000000#32)
  have v6 := (broadcastInDim S128 ![] bcast_S_S128) cst_3
  have v7 := subf v5 v6
  have cst_4 := (constant (F := Ideal) S_ .f32 0x3F000000#32)
  have v8 := (broadcastInDim S128 ![] bcast_S_S128) cst_4
  subf v7 v8

/-- The triangle around each sample. -/
def tri : FVec Ideal S512x128 .f32 :=
  have cst_6 := (constant (F := Ideal) S_ .f32 0x00000000#32)
  have v23 := (broadcastInDim S512x128 ![] bcast_S_S512x128) cst_6
  have cst_5 := (constant (F := Ideal) S_ .f32 0x3F800000#32)
  have v21 := (broadcastInDim S512x128 ![] bcast_S_S512x128) cst_5
  have v11 := (broadcastInDim S1x128 ![1] bcast_S128_S1x128_1) centers
  have v13 := (broadcastInDim S512x128 ![0, 1] bcast_S1x128_S512x128_0_1) v11
  have v10 := (sitofp (F := Ideal) .f32 (iotaInDim S512 32 0))
  have v12 := (broadcastInDim S512x1 ![0] bcast_S512_S512x1_0) v10
  have v14 := (broadcastInDim S512x128 ![0, 1] bcast_S512x1_S512x128_0_1) v12
  have v15 := subf v13 v14
  have v16 := Host.absf v15
  have cst := (constant (F := Ideal) S_ .f32 0x40800000#32)
  have cst_0 := (constant (F := Ideal) S_ .f32 0x3F800000#32)
  have v0 := maximumf cst cst_0
  have v17 := v0
  have v18 := (broadcastInDim S512x128 ![] bcast_S_S512x128) v17
  have v19 := Host.divf v16 v18
  have v20 := Host.absf v19
  have v22 := subf v21 v20
  maximumf v23 v22

/-- The triangle's sum over the 512. -/
def triSum : FVec Ideal S1x128 .f32 :=
  have cst_7 := (constant (F := Ideal) S_ .f32 0x00000000#32)
  have v25 := Host.reduceAdd tri cst_7 reducesTo_S512x128_S128_d0 h_S_
  (broadcastInDim S1x128 ![1] bcast_S128_S1x128_1) v25

/-- The weights of the resizing: the triangle over its sum, where the sum is no rounding error and the sample lies inside. -/
def weights : FVec Ideal S512x128 .f32 :=
  have cst_11 := (constant (F := Ideal) S_ .f32 0xBF000000#32)
  have v36 := (broadcastInDim S128 ![] bcast_S_S128) cst_11
  have v37 := (cmpf .oge) centers v36
  have cst_12 := (constant (F := Ideal) S_ .f32 0x43FFC000#32)
  have v38 := (broadcastInDim S128 ![] bcast_S_S128) cst_12
  have v39 := (cmpf .ole) centers v38
  have v40 := andi v37 v39
  have v41 := (broadcastInDim S1x128 ![1] bcast_S128_S1x128_1) v40
  have v27 := Host.absf triSum
  have cst_8 := (constant (F := Ideal) S_ .f32 0x38FA0000#32)
  have v28 := (broadcastInDim S1x128 ![] bcast_S_S1x128) cst_8
  have v29 := (cmpf .ogt) v27 v28
  have cst_9 := (constant (F := Ideal) S_ .f32 0x00000000#32)
  have v30 := (broadcastInDim S1x128 ![] bcast_S_S1x128) cst_9
  have v31 := (cmpf .une) triSum v30
  have c := (constantI S_ 32 1#32)
  have c0_v2 := pick v31 triSum c
  have v33 := (broadcastInDim S512x128 ![0, 1] bcast_S1x128_S512x128_0_1) c0_v2
  have v34 := Host.divf tri v33
  have c_10 := (constantI S_ 32 0#32)
  have c1_v3 := pickAll v29 v34 c_10
  have c_13 := (constantI S_ 32 0#32)
  pickAll v41 c1_v3 c_13

/-- Each mask resized from 512 by 512 to 128 by 128. -/
def resize (x : FVec Ideal S80x512x512 .f32) : FVec Ideal S80x128x128 .f32 :=
  have v86 := Host.dotGeneral dot_S512x128_S80x512x512_S128x80x512_0_1_1_02_n_n (some .fp32) weights x
  have v87 := Host.dotGeneral dot_S128x80x512_S512x128_S128x80x128_2_0_01_1_n_n (some .fp32) v86 weights
  transpose S80x128x128 [1, 0, 2] v87 transposes_S128x80x128_S80x128x128_1_0_2

/-- The image and the query of each match. -/
def matchIdx (src : IVec S8x10 32) : IVec S80x2 32 :=
  have v1 := (iotaInDim S8 32 0)
  have v2 := broadcastInDim S8x10 ![0] bcast_S8_S8x10_0 v1
  have v3 := shapeCast S80 v2 shapeCasts_S8x10_S80
  have c_1 := (constantI S_ 32 0#32)
  have v8 := broadcastInDim S80 ![] bcast_S_S80 c_1
  have v9 := cmpi .slt v3 v8
  have c_2 := (constantI S_ 32 8#32)
  have v10 := broadcastInDim S80 ![] bcast_S_S80 c_2
  have v11 := addi v3 v10
  have v12 := select v9 v11 v3
  have v18 := broadcastInDim S80x1 ![0] bcast_S80_S80x1_0 v12
  have v4 := shapeCast S80 src shapeCasts_S8x10_S80
  have c_3 := (constantI S_ 32 0#32)
  have v13 := broadcastInDim S80 ![] bcast_S_S80 c_3
  have v14 := cmpi .slt v4 v13
  have c_4 := (constantI S_ 32 100#32)
  have v15 := broadcastInDim S80 ![] bcast_S_S80 c_4
  have v16 := addi v4 v15
  have v17 := select v14 v16 v4
  have v19 := broadcastInDim S80x1 ![0] bcast_S80_S80x1_0 v17
  concatenate S80x2 1 [⟨S80x1, v18⟩, ⟨S80x1, v19⟩] concatenates_S80x1_S80x1_S80x2_d1

/-- Each query's class: its matched label, or the class past the last. -/
def classes (lab src tgt : IVec S8x10 32) : IVec S800 32 :=
  have c := (constantI S_ 32 80#32)
  have v7 := broadcastInDim S8x100 ![] bcast_S_S8x100 c
  have v5 := takeAlong lab tgt
  have v6 := shapeCast S80 v5 shapeCasts_S8x10_S80
  have v21 := Host.scatter scatter_S8x100_S80x2_S80_n_01_01_1 (fun _ b => b) v7 (matchIdx src) v6
  shapeCast S800 v21 shapeCasts_S8x100_S800

/-- The focal terms. -/
def focal (a0 : FVec Ideal S8x100x80 .f32) (cls : IVec S800 32) : FVec Ideal S800x80 .f32 :=
  have v23 := shapeCast S800x80 a0 shapeCasts_S8x100x80_S800x80
  have cst_7 := (constant (F := Ideal) S_ .f32 0x00000000#32)
  have v31 := broadcastInDim S800x80 ![] bcast_S_S800x80 cst_7
  have v32 := maximumf v23 v31
  have v24 := oneHot cls
  have v33 := mulf v23 v24
  have v34 := subf v32 v33
  have v35 := Host.absf v23
  have v36 := Host.negf v35
  have v37 := Host.exp v36
  have v38 := Host.log1p v37
  have v39 := addf v34 v38
  have cst_10 := (constant (F := Ideal) S_ .f32 0x3E800000#32)
  have v47 := broadcastInDim S800x80 ![] bcast_S_S800x80 cst_10
  have v48 := mulf v47 v24
  have cst_12 := (constant (F := Ideal) S_ .f32 0x3F400000#32)
  have v51 := broadcastInDim S800x80 ![] bcast_S_S800x80 cst_12
  have cst_11 := (constant (F := Ideal) S_ .f32 0x3F800000#32)
  have v49 := broadcastInDim S800x80 ![] bcast_S_S800x80 cst_11
  have v50 := subf v49 v24
  have v52 := mulf v51 v50
  have v53 := addf v48 v52
  have cst_8 := (constant (F := Ideal) S_ .f32 0x3F800000#32)
  have v40 := broadcastInDim S800x80 ![] bcast_S_S800x80 cst_8
  have cst_6 := (constant (F := Ideal) S_ .f32 0x3F800000#32)
  have v29 := broadcastInDim S800x80 ![] bcast_S_S800x80 cst_6
  have cst_5 := (constant (F := Ideal) S_ .f32 0x3F800000#32)
  have v27 := broadcastInDim S800x80 ![] bcast_S_S800x80 cst_5
  have v25 := Host.negf v23
  have v26 := Host.exp v25
  have v28 := addf v27 v26
  have v30 := Host.divf v29 v28
  have v41 := subf v40 v30
  have v42 := mulf v41 v24
  have cst_9 := (constant (F := Ideal) S_ .f32 0x3F800000#32)
  have v43 := broadcastInDim S800x80 ![] bcast_S_S800x80 cst_9
  have v44 := subf v43 v24
  have v45 := mulf v30 v44
  have v46 := addf v42 v45
  have cst_13 := (constant (F := Ideal) S_ .f32 0x40000000#32)
  have v54 := broadcastInDim S800x80 ![] bcast_S_S800x80 cst_13
  have v55 := Host.powf v46 v54
  have v56 := mulf v53 v55
  mulf v39 v56

/-- The classification loss of the focal terms. -/
def lossCls (f : FVec Ideal S800x80 .f32) : FVec Ideal S_ .f32 :=
  have cst_15 := (constant (F := Ideal) S_ .f32 0x40000000#32)
  have cst_14 := (constant (F := Ideal) S_ .f32 0x00000000#32)
  have v58 := Host.reduceAdd f cst_14 reducesTo_S800x80_S_d0_1 h_S_
  have v59 := mulf cst_15 v58
  have cst := (constant (F := Ideal) S_ .f32 0x42A00000#32)
  have cst_0 := (constant (F := Ideal) S_ .f32 0x3F800000#32)
  have v0 := maximumf cst cst_0
  Host.divf v59 v0

/-- The matched masks. -/
def matched (a1 : FVec Ideal S8x100x128x128 .f32) (src : IVec S8x10 32) : FVec Ideal S80x16384 .f32 :=
  have v74 := Host.gather gather_S8x100x128x128_S80x2_S80x128x128_12_01_n_n_01_1_11128128 a1 (matchIdx src)
  shapeCast S80x16384 v74 shapeCasts_S80x128x128_S80x16384

/-- The matched targets, thresholded. -/
def gtBin (a3 : FVec Ideal S8x10x512x512 .f32) (tgt : IVec S8x10 32) : FVec Ideal S80x512x512 .f32 :=
  have cst_20 := (constant (F := Ideal) S_ .f32 0x3F000000#32)
  have v76 := broadcastInDim S8x10x512x512 ![] bcast_S_S8x10x512x512 cst_20
  have v77 := cmpf .ogt a3 v76
  have v78 := uitofp (F := Ideal) .f32 v77
  have v83 := shapeCast S80x512x512 v78 shapeCasts_S8x10x512x512_S80x512x512
  have v1 := (iotaInDim S8 32 0)
  have v2 := broadcastInDim S8x10 ![0] bcast_S8_S8x10_0 v1
  have v3 := shapeCast S80 v2 shapeCasts_S8x10_S80
  have c_21 := (constantI S_ 32 10#32)
  have v79 := broadcastInDim S80 ![] bcast_S_S80 c_21
  have v80 := muli v3 v79
  have v81 := shapeCast S80 tgt shapeCasts_S8x10_S80
  have v82 := addi v80 v81
  have c_22 := (constantI S_ 32 0#32)
  have v84 := broadcastInDim S80 ![] bcast_S_S80 c_22
  have v85 := cmpi .slt v82 v84
  have c_23 := (constantI S_ 32 80#32)
  have v86 := broadcastInDim S80 ![] bcast_S_S80 c_23
  have v87 := addi v82 v86
  have v88 := select v85 v87 v82
  have v89 := broadcastInDim S80x1 ![0] bcast_S80_S80x1_0 v88
  Host.gather gather_S80x512x512_S80x1_S80x512x512_12_0_n_n_0_1_1512512 v83 v89

/-- The targets of the masks. -/
def targets (g : FVec Ideal S80x512x512 .f32) : FVec Ideal S80x16384 .f32 :=
  have v91 := resize g
  shapeCast S80x16384 v91 shapeCasts_S80x128x128_S80x16384

/-- The logistic function of each element. -/
def squash (x : FVec Ideal S80x16384 .f32) : FVec Ideal S80x16384 .f32 :=
  have cst_25 := (constant (F := Ideal) S_ .f32 0x3F800000#32)
  have v97 := broadcastInDim S80x16384 ![] bcast_S_S80x16384 cst_25
  have cst_24 := (constant (F := Ideal) S_ .f32 0x3F800000#32)
  have v95 := broadcastInDim S80x16384 ![] bcast_S_S80x16384 cst_24
  have v93 := Host.negf x
  have v94 := Host.exp v93
  have v96 := addf v95 v94
  Host.divf v97 v96

/-- The ratio of intersection to union of each match. -/
def iou (s t : FVec Ideal S80x16384 .f32) : FVec Ideal S80 .f32 :=
  have cst_26 := (constant (F := Ideal) S_ .f32 0x3ECCCCCD#32)
  have v99 := broadcastInDim S80x16384 ![] bcast_S_S80x16384 cst_26
  have v100 := cmpf .oge s v99
  have v101 := uitofp (F := Ideal) .f32 v100
  have cst_27 := (constant (F := Ideal) S_ .f32 0x3F000000#32)
  have v102 := broadcastInDim S80x16384 ![] bcast_S_S80x16384 cst_27
  have v103 := cmpf .ogt t v102
  have v104 := uitofp (F := Ideal) .f32 v103
  have v105 := mulf v101 v104
  have cst_28 := (constant (F := Ideal) S_ .f32 0x00000000#32)
  have v106 := Host.reduceAdd v105 cst_28 reducesTo_S80x16384_S80_d1 h_S_
  have cst_29 := (constant (F := Ideal) S_ .f32 0x00000000#32)
  have v107 := Host.reduceAdd v104 cst_29 reducesTo_S80x16384_S80_d1 h_S_
  have cst_30 := (constant (F := Ideal) S_ .f32 0x00000000#32)
  have v108 := Host.reduceAdd v101 cst_30 reducesTo_S80x16384_S80_d1 h_S_
  have v109 := addf v107 v108
  have v110 := subf v109 v106
  have cst_31 := (constant (F := Ideal) S_ .f32 0x358637BD#32)
  have v111 := broadcastInDim S80 ![] bcast_S_S80 cst_31
  have v112 := addf v110 v111
  Host.divf v106 v112

/-- The scores of the matched queries. -/
def scores (a2 : FVec Ideal S8x100x1 .f32) (src : IVec S8x10 32) : FVec Ideal S80 .f32 :=
  have v127 := Host.gather gather_S8x100x1_S80x2_S80x1_1_01_n_n_01_1_111 a2 (matchIdx src)
  shapeCast S80 v127 shapeCasts_S80x1_S80

/-- The objectness loss of scores and ratios. -/
def lossObj (x q : FVec Ideal S80 .f32) : FVec Ideal S_ .f32 :=
  have cst_39 := (constant (F := Ideal) S_ .f32 0x3F800000#32)
  have cst_36 := (constant (F := Ideal) S_ .f32 0x00000000#32)
  have v129 := broadcastInDim S80 ![] bcast_S_S80 cst_36
  have v130 := maximumf x v129
  have v131 := mulf x q
  have v132 := subf v130 v131
  have v133 := Host.absf x
  have v134 := Host.negf v133
  have v135 := Host.exp v134
  have v136 := Host.log1p v135
  have v137 := addf v132 v136
  have cst_37 := (constant (F := Ideal) S_ .f32 0x00000000#32)
  have v138 := Host.reduceAdd v137 cst_37 reducesTo_S80_S_d0 h_S_
  have cst_38 := (constant (F := Ideal) S_ .f32 0x42A00000#32)
  have v139 := Host.divf v138 cst_38
  mulf cst_39 v139

/-- The dice loss. -/
def lossDice (s t : FVec Ideal S80x16384 .f32) : FVec Ideal S_ .f32 :=
  have cst_48 := (constant (F := Ideal) S_ .f32 0x40000000#32)
  have cst_46 := (constant (F := Ideal) S_ .f32 0x3F800000#32)
  have v155 := broadcastInDim S80 ![] bcast_S_S80 cst_46
  have cst_45 := (constant (F := Ideal) S_ .f32 0x40000000#32)
  have v151 := broadcastInDim S80 ![] bcast_S_S80 cst_45
  have v141 := mulf s t
  have cst_40 := (constant (F := Ideal) S_ .f32 0x00000000#32)
  have v142 := Host.reduceAdd v141 cst_40 reducesTo_S80x16384_S80_d1 h_S_
  have v152 := mulf v151 v142
  have v143 := mulf s s
  have cst_41 := (constant (F := Ideal) S_ .f32 0x00000000#32)
  have v144 := Host.reduceAdd v143 cst_41 reducesTo_S80x16384_S80_d1 h_S_
  have cst_42 := (constant (F := Ideal) S_ .f32 0x3851B717#32)
  have v145 := broadcastInDim S80 ![] bcast_S_S80 cst_42
  have v146 := addf v144 v145
  have v147 := mulf t t
  have cst_43 := (constant (F := Ideal) S_ .f32 0x00000000#32)
  have v148 := Host.reduceAdd v147 cst_43 reducesTo_S80x16384_S80_d1 h_S_
  have cst_44 := (constant (F := Ideal) S_ .f32 0x3851B717#32)
  have v149 := broadcastInDim S80 ![] bcast_S_S80 cst_44
  have v150 := addf v148 v149
  have v153 := addf v146 v150
  have v154 := Host.divf v152 v153
  have v156 := subf v155 v154
  have cst_47 := (constant (F := Ideal) S_ .f32 0x00000000#32)
  have v157 := Host.reduceAdd v156 cst_47 reducesTo_S80_S_d0 h_S_
  have v158 := mulf cst_48 v157
  have cst := (constant (F := Ideal) S_ .f32 0x42A00000#32)
  have cst_0 := (constant (F := Ideal) S_ .f32 0x3F800000#32)
  have v0 := maximumf cst cst_0
  Host.divf v158 v0

/-- The mask loss. -/
def lossMask (x t : FVec Ideal S80x16384 .f32) : FVec Ideal S_ .f32 :=
  have cst_52 := (constant (F := Ideal) S_ .f32 0x40A00000#32)
  have cst_49 := (constant (F := Ideal) S_ .f32 0x00000000#32)
  have v160 := broadcastInDim S80x16384 ![] bcast_S_S80x16384 cst_49
  have v161 := maximumf x v160
  have v162 := mulf x t
  have v163 := subf v161 v162
  have v164 := Host.absf x
  have v165 := Host.negf v164
  have v166 := Host.exp v165
  have v167 := Host.log1p v166
  have v168 := addf v163 v167
  have cst_50 := (constant (F := Ideal) S_ .f32 0x00000000#32)
  have v169 := Host.reduceAdd v168 cst_50 reducesTo_S80x16384_S_d0_1 h_S_
  have cst_51 := (constant (F := Ideal) S_ .f32 0x49A00000#32)
  have v170 := Host.divf v169 cst_51
  mulf cst_52 v170

end Cert.Ref

end
-- ==== Proof.Value.Weights.lean ====
/- The weights of the reference's bilinear resizing, and a resized mask, as real numbers. -/
module

public import proofs.«01_k».proof.Proof.Ref.Terms
public import proofs.«01_k».proof.Proof.Value.Loss
public import Idealize.ShloMosaic.Lib.IdealHost

@[expose] public section

set_option maxRecDepth 16384

noncomputable section

namespace Cert.Weights

open Idealize.ShloMosaic

/-- A triangle's height, a real number: one at its sample, zero four away. -/
def hatR (i : Fin 512) (j : Fin 128) : ℝ := max 0 (1 - |((j.val : ℝ) + 1 / 2) * 4 - 1 / 2 - i.val| / 4)

/-- A column's sum. -/
def colR (j : Fin 128) : ℝ := ∑ i, hatR i j

/-- A weight of the resizing. -/
def wR (i : Fin 512) (j : Fin 128) : ℝ := hatR i j / colR j

/-- The word of one half. -/
theorem half : Ideal.ofBits FTy.f32 1056964608#32 = ((1 / 2 : ℝ) : EReal) := by
  simp [Ideal.ofBits, Ideal.ieee, -EReal.coe_mul, -EReal.coe_neg]; norm_num [-EReal.coe_neg]

/-- The word of four. -/
theorem four : Ideal.ofBits FTy.f32 1082130432#32 = ((4 : ℝ) : EReal) := by
  simp [Ideal.ofBits, Ideal.ieee, -EReal.coe_mul, -EReal.coe_neg]; norm_num [-EReal.coe_neg]

/-- The word of one. -/
theorem one : Ideal.ofBits FTy.f32 0x3F800000#32 = ((1 : ℝ) : EReal) := by
  simp [Ideal.ofBits, Ideal.ieee, -EReal.coe_mul, -EReal.coe_neg]; norm_num [-EReal.coe_neg]

/-- The word of minus one half. -/
theorem neg_half : Ideal.ofBits FTy.f32 0xBF000000#32 = ((-(1 / 2) : ℝ) : EReal) := by
  simp [Ideal.ofBits, Ideal.ieee, -EReal.coe_mul, -EReal.coe_neg]; norm_num [-EReal.coe_neg]

/-- The word of 511.5, the last sample the resizing takes as inside. -/
theorem last : Ideal.ofBits FTy.f32 0x43FFC000#32 = ((511.5 : ℝ) : EReal) := by
  simp [Ideal.ofBits, Ideal.ieee, -EReal.coe_mul, -EReal.coe_neg]; norm_num [-EReal.coe_neg]

/-- The word of the bound below which a column sum would count as zero. -/
theorem tiny : Ideal.ofBits FTy.f32 0x38FA0000#32 = ((125 / 1048576 : ℝ) : EReal) := by
  simp [Ideal.ofBits, Ideal.ieee, -EReal.coe_mul, -EReal.coe_neg]; norm_num [-EReal.coe_neg]

/-- A counter turned into a float is its number. -/
theorem int_nat (n : ℕ) (h : n < 2 ^ 31) : FloatOps.sitofp (F := Ideal) FTy.f32 (BitVec.ofNat 32 n) = ((n : ℝ) : EReal) := by
  have e : (BitVec.ofNat 32 n).toInt = (n : ℤ) := by
    rw [BitVec.toInt_eq_toNat_cond]; simp only [BitVec.toNat_ofNat]; omega
  show (((BitVec.ofNat 32 n).toInt : ℝ) : EReal) = _
  rw [e]; simp

/-- The absolute value of a real number. -/
theorem abs_coe (x : ℝ) : FloatOps.absf (F := Ideal) (φ := .f32) (x : EReal) = ((|x| : ℝ) : EReal) := by
  show max (x : EReal) (-(x : EReal)) = _
  rw [← EReal.coe_neg, ← (EReal.coe_strictMono.monotone.map_max (a := x) (b := -x))]; rfl

/-- The larger of two real numbers. -/
theorem max_coe (x y : ℝ) : max (x : EReal) (y : EReal) = ((max x y : ℝ) : EReal) :=
  (EReal.coe_strictMono.monotone.map_max (a := x) (b := y)).symm

/-- The quotient of two real numbers, the divisor not zero. -/
theorem div_real (x y : ℝ) (h : y ≠ 0) : Ideal.div (x : EReal) (y : EReal) = ((x / y : ℝ) : EReal) := by
  rw [Ideal.div_coe h, ← EReal.coe_mul, mul_one_div]

/-- A finite sum of real numbers. -/
theorem sum_coe {α : Type} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Each column sums to at least 7/8, by its nearest sample alone. -/
theorem colR_ge (j : Fin 128) : 7 / 8 ≤ colR j := by
  have h0 : ∀ i, 0 ≤ hatR i j := fun i => le_max_left _ _
  have h1 : hatR ⟨4 * j.val + 1, by omega⟩ j ≤ colR j := Finset.single_le_sum (fun i _ => h0 i) (Finset.mem_univ _)
  refine le_trans ?_ h1
  unfold hatR
  refine le_trans ?_ (le_max_right _ _)
  push_cast
  rw [show ((j.val : ℝ) + 1 / 2) * 4 - 1 / 2 - (4 * j.val + 1) = 1 / 2 by ring, abs_of_pos (by norm_num)]
  norm_num

open Cert.ReferenceIdeal Cert.ReferenceIdeal.Gen Cert.Ref

/-- The samples' centers. -/
theorem centers_at (j : Fin 128) : centers (ix1 j) = ((((j.val : ℝ) + 1 / 2) * 4 - 1 / 2 : ℝ) : EReal) := by
  pointwise [centers]
  rw [half, four, int_nat _ (by omega), ← EReal.coe_add, ← EReal.coe_mul, ← EReal.coe_sub]

/-- The reference's triangles. -/
theorem tri_at (i : Fin 512) (j : Fin 128) : tri (ix2 i j) = ((hatR i j : ℝ) : EReal) := by
  pointwise [tri]
  rw [centers_at, int_nat _ (by omega), ← EReal.coe_sub, abs_coe, four, ← EReal.coe_one, max_coe, max_eq_left (by norm_num : (1 : ℝ) ≤ 4),
    div_real _ _ (by norm_num), abs_coe, ← EReal.coe_sub, ← EReal.coe_zero, max_coe, abs_div, abs_abs, abs_of_pos (by norm_num : (0 : ℝ) < 4)]
  rfl

/-- The reference's column sums. -/
theorem triSum_at (j : Fin 128) : triSum (ix2 0 j) = ((colR j : ℝ) : EReal) := by
  pointwise [triSum]
  simp only [tri_at]
  rw [sum_coe]
  rfl

/-- The reference's weights: its guards on the column sums and on the samples' centers always hold. -/
theorem weights_at (i : Fin 512) (j : Fin 128) : weights (ix2 i j) = ((wR i j : ℝ) : EReal) := by
  pointwise [weights, pick, pickAll]
  simp only [centers_at, triSum_at, tri_at]
  have hc := colR_ge j
  have hj : (j.val : ℝ) ≤ 127 := by exact_mod_cast (by omega : j.val ≤ 127)
  have hj0 : (0 : ℝ) ≤ j.val := by positivity
  rw [neg_half, last, tiny, abs_coe, if_pos (EReal.coe_lt_coe_iff.mpr (lt_of_lt_of_le (by norm_num) (le_trans hc (le_abs_self _)))),
    if_pos (by rw [← EReal.coe_zero]; exact fun h => absurd (EReal.coe_eq_coe_iff.mp h) (by linarith)),
    div_real _ _ (by linarith), decide_eq_true (EReal.coe_le_coe_iff.mpr (by linarith)), decide_eq_true (EReal.coe_le_coe_iff.mpr (by linarith))]
  rfl

/-- The reference's resizing of a real mask: one sum over the columns, then one over the rows. -/
theorem resize_at (g : FVec Ideal S80x512x512 .f32) (gr : Fin 80 → Fin 512 → Fin 512 → ℝ) (hg : ∀ n h w, g (ix3 n h w) = ((gr n h w : ℝ) : EReal))
    (n : Fin 80) (i j : Fin 128) :
    resize g (ix3 n i j) = ((∑ h, wR h i * ∑ w, gr n h w * wR w j : ℝ) : EReal) := by
  pointwise [resize]
  simp only [weights_at, hg, ← EReal.coe_mul, sum_coe]
  refine congrArg _ ?_
  simp only [Finset.sum_mul, Finset.mul_sum]
  rw [Finset.sum_comm]
  exact Finset.sum_congr rfl fun h _ => Finset.sum_congr rfl fun w _ => by ring

end Cert.Weights
end
-- ==== Proof.Value.Steps.lean ====
/- The kernel's accumulators of the mask and dice losses: each point adds its sixteen matches' parts. -/
module

public import proofs.«01_k».proof.Proof.Value.Blocks
public import proofs.«01_k».proof.Proof.Value.Weights
public import proofs.«01_k».proof.Proof.Ideal.Tables

@[expose] public section

set_option maxRecDepth 16384

noncomputable section

namespace Cert.Loss

open Idealize.ShloMosaic

/-- Each match's mask: its query's. -/
def M (a1 : Vec Ideal Cert.ReferenceIdeal.S8x100x128x128 .f32) (q : Fin 80 → Fin 100) (n : Fin 80) (i j : Fin 128) : EReal :=
  a1 (ix4 ⟨n.val / 10, by omega⟩ (q n) i j)

/-- Each match's target, thresholded at a half. -/
def G (a3 : Vec Ideal Cert.ReferenceIdeal.S8x10x512x512 .f32) (n : Fin 80) (h w : Fin 512) : ℝ :=
  if Ideal.ofBits FTy.f32 0x3F000000#32 < a3 (ix4 ⟨n.val / 10, by omega⟩ ⟨n.val % 10, by omega⟩ h w) then 1 else 0

/-- Each match's target, resized. -/
def T (a3 : Vec Ideal Cert.ReferenceIdeal.S8x10x512x512 .f32) (n : Fin 80) (i j : Fin 128) : EReal :=
  ((∑ h, Weights.wR h i * ∑ w, G a3 n h w * Weights.wR w j : ℝ) : EReal)

/-- A test as a real number, one or zero. -/
theorem ind_coe (p : Prop) [Decidable p] : ind (decide p) = ((if p then 1 else 0 : ℝ) : EReal) := by
  unfold ind
  by_cases h : p <;> simp [h]

end Cert.Loss

namespace Cert.KernelIdeal.Gen

open Idealize.ShloMosaic Idealize.ShloMosaic.TcCoe Idealize.ShloMosaic.Tactic
open Idealize.ShloMosaic.Pipeline (Dat Cfg Window BodyObligation cellOf)

/-- The kernel's triangle is the real one. -/
theorem hat_real (i : Fin 512) (j : Fin 128) : hat i j = ((Weights.hatR i j : ℝ) : EReal) := by
  unfold hat
  rw [Weights.half, Weights.four, Weights.int_nat _ (by omega), Weights.int_nat _ (by omega), ← EReal.coe_add, ← EReal.coe_mul, ← EReal.coe_sub, ← EReal.coe_sub,
    Weights.abs_coe, Weights.div_real _ _ (by norm_num), ← EReal.coe_one, ← EReal.coe_sub, ← EReal.coe_zero, Weights.max_coe]
  rfl

variable (m : (ℓ : Loc nD τ sig) → Buf (Elt Ideal) ℓ)

/-- The kernel's weights are the reference's. -/
theorem W_real (c : Dev nD) (i : Fin 512) (j : Fin 128) : V m c main_v36 (ix2 i j) = ((Weights.wR i j : ℝ) : EReal) := by
  have hc := Weights.colR_ge j
  rw [V36, hat_real]
  simp only [hat_real]
  rw [Weights.sum_coe]
  exact Weights.div_real _ _ (by unfold Weights.colR at hc; linarith)

/-- The `k`-th match of point `t`. -/
def nth (t : Fin grid0.N) (k : Fin 16) : Fin 80 := ⟨16 * t.val + k.val, by have : t.val < 5 := t.isLt; omega⟩

variable (hi : IntsAt m (0 : Dev nD)) (q : Fin 80 → Fin 100)
  (hq : ∀ n : Fin 80, (show BitVec 32 from m (((0 : Dev nD) : Thread nD τ).loc main_arg5) (ix2 (img n) (slot n))).toNat = (q n).val)

/-- The row of a match's query among all images'. -/
def rowOf (x : Fin 100) (n : Fin 80) : Fin 800 := ⟨100 * (n.val / 10) + x.val, by omega⟩

include hi hq in
/-- The table's row for a match: its query's place among all the images' queries. -/
theorem rowOf_toNat (n : Fin 80) : BitVec.toNat (w := 32) (V m (0 : Dev nD) main_v6 (ix1 n)) = (rowOf (q n) n).val := by
  rw [rows_toNat m 0 hi n, hq n]; rfl

/-- The mask at a match's row. -/
theorem M_row (q : Fin 80 → Fin 100) (c : Dev nD) (n : Fin 80) (i j : Fin 128) :
    V m c main_v39 (ix3 (rowOf (q n) n) i j) = Loss.M (m ((c : Thread nD τ).loc main_arg1)) q n i j := by
  rw [V39]
  have e1 : (rowOf (q n) n).val / 100 = n.val / 10 := by show (100 * (n.val / 10) + (q n).val) / 100 = _; omega
  have e2 : (rowOf (q n) n).val % 100 = (q n).val := by show (100 * (n.val / 10) + (q n).val) % 100 = _; omega
  unfold Loss.M
  congr 2 <;> exact Fin.ext (by assumption)

/-- A statement of each of sixteen blocks. -/
theorem each16 {α : Type} (P : Fin 16 → α → Prop) (x4 x5 x6 x7 x8 x9 x10 x11 x12 x13 x14 x15 x16 x17 x18 x19 : α) (h4 : P 0 x4) (h5 : P 1 x5) (h6 : P 2 x6) (h7 : P 3 x7) (h8 : P 4 x8) (h9 : P 5 x9) (h10 : P 6 x10) (h11 : P 7 x11) (h12 : P 8 x12) (h13 : P 9 x13) (h14 : P 10 x14) (h15 : P 11 x15) (h16 : P 12 x16) (h17 : P 13 x17) (h18 : P 14 x18) (h19 : P 15 x19) (k : Fin 16) : P k (![x4, x5, x6, x7, x8, x9, x10, x11, x12, x13, x14, x15, x16, x17, x18, x19] k) :=
  match k with
  | ⟨0, _⟩ => h4
  | ⟨1, _⟩ => h5
  | ⟨2, _⟩ => h6
  | ⟨3, _⟩ => h7
  | ⟨4, _⟩ => h8
  | ⟨5, _⟩ => h9
  | ⟨6, _⟩ => h10
  | ⟨7, _⟩ => h11
  | ⟨8, _⟩ => h12
  | ⟨9, _⟩ => h13
  | ⟨10, _⟩ => h14
  | ⟨11, _⟩ => h15
  | ⟨12, _⟩ => h16
  | ⟨13, _⟩ => h17
  | ⟨14, _⟩ => h18
  | ⟨15, _⟩ => h19
  | ⟨n + 16, h⟩ => absurd h (by omega)

include hi hq in
/-- The mask blocks of a point are its matches' masks. -/
theorem masks_blk (hO : Ok m) (c : Dev nD) (t : Fin (cfgM m hO).N) :
    ∀ k : Fin 16, ∀ i j : Fin 128, ((![iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t, iblk m hO c 16 t, iblk m hO c 17 t, iblk m hO c 18 t, iblk m hO c 19 t] : Fin 16 → Vec Ideal S1x128x128 .f32) k) (ix3 0 i j) = Loss.M (m ((c : Thread nD τ).loc main_arg1)) q (nth t k) i j :=
  each16 (fun (k : Fin 16) (x : Vec Ideal S1x128x128 .f32) => ∀ i j : Fin 128, x (ix3 0 i j) = Loss.M (m ((c : Thread nD τ).loc main_arg1)) q (nth t k) i j)
    (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)
    (fun i j => (blk4 m hO c t i j (nth t 0) rfl (rowOf (q (nth t 0)) (nth t 0)) (rowOf_toNat m hi q hq _)).trans (M_row m q c _ i j))
    (fun i j => (blk5 m hO c t i j (nth t 1) rfl (rowOf (q (nth t 1)) (nth t 1)) (rowOf_toNat m hi q hq _)).trans (M_row m q c _ i j))
    (fun i j => (blk6 m hO c t i j (nth t 2) rfl (rowOf (q (nth t 2)) (nth t 2)) (rowOf_toNat m hi q hq _)).trans (M_row m q c _ i j))
    (fun i j => (blk7 m hO c t i j (nth t 3) rfl (rowOf (q (nth t 3)) (nth t 3)) (rowOf_toNat m hi q hq _)).trans (M_row m q c _ i j))
    (fun i j => (blk8 m hO c t i j (nth t 4) rfl (rowOf (q (nth t 4)) (nth t 4)) (rowOf_toNat m hi q hq _)).trans (M_row m q c _ i j))
    (fun i j => (blk9 m hO c t i j (nth t 5) rfl (rowOf (q (nth t 5)) (nth t 5)) (rowOf_toNat m hi q hq _)).trans (M_row m q c _ i j))
    (fun i j => (blk10 m hO c t i j (nth t 6) rfl (rowOf (q (nth t 6)) (nth t 6)) (rowOf_toNat m hi q hq _)).trans (M_row m q c _ i j))
    (fun i j => (blk11 m hO c t i j (nth t 7) rfl (rowOf (q (nth t 7)) (nth t 7)) (rowOf_toNat m hi q hq _)).trans (M_row m q c _ i j))
    (fun i j => (blk12 m hO c t i j (nth t 8) rfl (rowOf (q (nth t 8)) (nth t 8)) (rowOf_toNat m hi q hq _)).trans (M_row m q c _ i j))
    (fun i j => (blk13 m hO c t i j (nth t 9) rfl (rowOf (q (nth t 9)) (nth t 9)) (rowOf_toNat m hi q hq _)).trans (M_row m q c _ i j))
    (fun i j => (blk14 m hO c t i j (nth t 10) rfl (rowOf (q (nth t 10)) (nth t 10)) (rowOf_toNat m hi q hq _)).trans (M_row m q c _ i j))
    (fun i j => (blk15 m hO c t i j (nth t 11) rfl (rowOf (q (nth t 11)) (nth t 11)) (rowOf_toNat m hi q hq _)).trans (M_row m q c _ i j))
    (fun i j => (blk16 m hO c t i j (nth t 12) rfl (rowOf (q (nth t 12)) (nth t 12)) (rowOf_toNat m hi q hq _)).trans (M_row m q c _ i j))
    (fun i j => (blk17 m hO c t i j (nth t 13) rfl (rowOf (q (nth t 13)) (nth t 13)) (rowOf_toNat m hi q hq _)).trans (M_row m q c _ i j))
    (fun i j => (blk18 m hO c t i j (nth t 14) rfl (rowOf (q (nth t 14)) (nth t 14)) (rowOf_toNat m hi q hq _)).trans (M_row m q c _ i j))
    (fun i j => (blk19 m hO c t i j (nth t 15) rfl (rowOf (q (nth t 15)) (nth t 15)) (rowOf_toNat m hi q hq _)).trans (M_row m q c _ i j))

/-- The resized targets, over blocks that hold the targets and the weights. -/
theorem tgts_real (a3 : Vec Ideal Cert.ReferenceIdeal.S8x10x512x512 .f32) (x3 : Vec Ideal S1x8192x512 .f32) (x20 : Vec Ideal S512x128 .bf16) (x21 : Vec Ideal S128x512 .bf16) (n : Fin 16 → Fin 80)
    (h20 : ∀ w j, x20 (ix2 w j) = ((Weights.wR w j : ℝ) : EReal)) (h21 : ∀ h i, x21 (ix2 i h) = ((Weights.wR h i : ℝ) : EReal))
    (h3 : ∀ (k : Fin 16) (h w : Fin 512), x3 (ix3 0 ⟨k.val * 512 + h.val, by omega⟩ w) = a3 (ix4 ⟨(n k).val / 10, by omega⟩ ⟨(n k).val % 10, by omega⟩ h w))
    (k : Fin 16) (i j : Fin 128) : Cert.Point.tgts x3 x20 x21 (ix2 (Cert.Point.row k i) j) = Loss.T a3 (n k) i j := by
  rw [Cert.Point.tgts_apply]
  unfold Loss.T Loss.G
  simp only [h20, h21, h3, Loss.ind_coe, ← EReal.coe_mul, Weights.sum_coe]

/-- The resized targets of a point are its matches'. -/
theorem tgts_blk (hO : Ok m) (c : Dev nD) (t : Fin (cfgM m hO).N) : ∀ (k : Fin 16) (i j : Fin 128),
    Cert.Point.tgts (iblk m hO c 3 t) (iblk m hO c 20 t) (iblk m hO c 21 t) (ix2 (Cert.Point.row k i) j) = Loss.T (m ((c : Thread nD τ).loc main_arg3)) (nth t k) i j :=
  tgts_real (m ((c : Thread nD τ).loc main_arg3)) (iblk m hO c 3 t) (iblk m hO c 20 t) (iblk m hO c 21 t) (nth t)
    (fun w j => (blk20 m hO c t w j).trans (W_real m c w j))
    (fun h i => (blk21 m hO c t h i).trans ((V37 m c h i).trans (W_real m c h i)))
    (by
      intro k h w
      refine (blk3 m hO c t _ w).trans ((V38 m c _ _ w).trans ?_)
      have e : t.val * 16 + (k.val * 512 + h.val) / 512 = (nth t k).val := by show _ = 16 * t.val + k.val; omega
      have e3 : (k.val * 512 + h.val) % 512 = h.val := by omega
      congr 2
      · exact Fin.ext (congrArg (· / 10) e)
      · exact Fin.ext (congrArg (· % 10) e)
      · exact Fin.ext e3)

section
variable (x0 : Vec Ideal S1x160x80 .f32) (T : FVec Ideal S2048x128 .f32) (x4 x5 x6 x7 x8 x9 x10 x11 x12 x13 x14 x15 x16 x17 x18 x19 : Vec Ideal S1x128x128 .f32) (acc : EReal)
  (N P : Fin 16 → Fin 128 → Fin 128 → EReal) (hN : ∀ k i j, (![x4, x5, x6, x7, x8, x9, x10, x11, x12, x13, x14, x15, x16, x17, x18, x19] k) (ix3 0 i j) = N k i j) (hP : ∀ k i j, T (ix2 (Cert.Point.row k i) j) = P k i j)

include hN hP in
/-- What a point adds to the mask loss. -/
theorem point25 : k0_pay3 (F := Ideal) (Cert.Point.bceSum x0 T x4 x5 x6 x7 x8 x9 x10 x11 x12 x13 x14 x15 x16 x17 x18 x19) acc = acc + ∑ k : Fin 16, Loss.total fun i j => Loss.bce (N k i j) (P k i j) := by
  rw [Cert.Point.bceSum_eq]
  simp only [hN, hP]
  rfl

include hN hP in
/-- What a point adds to the dice loss. -/
theorem point24 : k0_pay2 (F := Ideal) (Cert.Point.dices x0 T x4 x5 x6 x7 x8 x9 x10 x11 x12 x13 x14 x15 x16 x17 x18 x19) acc = acc + ∑ k : Fin 16, Loss.dice (fun i j => Loss.sgm (N k i j)) (P k) := by
  have e : ∀ k : Fin 16, Cert.Point.dices x0 T x4 x5 x6 x7 x8 x9 x10 x11 x12 x13 x14 x15 x16 x17 x18 x19 (ix1 k) = Loss.dice (fun i j => Loss.sgm (N k i j)) (P k) := fun k => by
    rw [Cert.Point.dices_eq]
    simp only [hN, hP]
  simp only [← e]
  pointwise [k0_pay2]

end

include hi hq in
/-- A first point's mask loss. -/
theorem stepA_25 (hO : Ok m) (hT : ∀ c : Dev nD, TblOk c (tbl m 0) (tbl m 1)) (c : Dev nD) (t : Fin (cfgM m hO).N) (h0 : t.val % 5 = 0) (x : S1x1.Idx) :
    outA_25 m hO hT c t h0 x = FloatOps.ofBits (F := Ideal) FTy.f32 0#32 + ∑ k : Fin 16, Loss.total fun i j => Loss.bce (Loss.M (m ((c : Thread nD τ).loc main_arg1)) q (nth t k) i j) (Loss.T (m ((c : Thread nD τ).loc main_arg3)) (nth t k) i j) := by
  have h : outA_25 m hO hT c t h0 = fun _ => k0_pay3 (F := Ideal) (Cert.Point.bceSum (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (FloatOps.ofBits (F := Ideal) FTy.f32 0#32) := by
    unfold outA_25 runA
    apply outA_25_val
  exact (congrFun h x).trans (point25 _ _ _ _ _ _ _ _ _ _ _ _ _ _ _ _ _ _ _ _ _ (masks_blk m hi q hq hO c t) (tgts_blk m hO c t))

include hi hq in
/-- A later point's mask loss. -/
theorem stepB_25 (hO : Ok m) (hT : ∀ c : Dev nD, TblOk c (tbl m 0) (tbl m 1)) (c : Dev nD) (t : Fin (cfgM m hO).N) (h0 : ¬t.val % 5 = 0) (a22 a23 a24 a25 : Vec Ideal S1x1 .f32) (x : S1x1.Idx) :
    outB_25 m hO hT c t h0 a22 a23 a24 a25 x = a25 (ix2 0 0) + ∑ k : Fin 16, Loss.total fun i j => Loss.bce (Loss.M (m ((c : Thread nD τ).loc main_arg1)) q (nth t k) i j) (Loss.T (m ((c : Thread nD τ).loc main_arg3)) (nth t k) i j) := by
  have h : outB_25 m hO hT c t h0 a22 a23 a24 a25 = fun _ => k0_pay3 (F := Ideal) (Cert.Point.bceSum (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (a25 (ix2 0 0)) := by
    unfold outB_25 runB
    apply outB_25_val
  exact (congrFun h x).trans (point25 _ _ _ _ _ _ _ _ _ _ _ _ _ _ _ _ _ _ _ _ _ (masks_blk m hi q hq hO c t) (tgts_blk m hO c t))

include hi hq in
/-- A first point's dice loss. -/
theorem stepA_24 (hO : Ok m) (hT : ∀ c : Dev nD, TblOk c (tbl m 0) (tbl m 1)) (c : Dev nD) (t : Fin (cfgM m hO).N) (h0 : t.val % 5 = 0) (x : S1x1.Idx) :
    outA_24 m hO hT c t h0 x = FloatOps.ofBits (F := Ideal) FTy.f32 0#32 + ∑ k : Fin 16, Loss.dice (fun i j => Loss.sgm (Loss.M (m ((c : Thread nD τ).loc main_arg1)) q (nth t k) i j)) (Loss.T (m ((c : Thread nD τ).loc main_arg3)) (nth t k)) := by
  have h : outA_24 m hO hT c t h0 = fun _ => k0_pay2 (F := Ideal) (Cert.Point.dices (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (FloatOps.ofBits (F := Ideal) FTy.f32 0#32) := by
    unfold outA_24 runA
    apply outA_24_val
  exact (congrFun h x).trans (point24 _ _ _ _ _ _ _ _ _ _ _ _ _ _ _ _ _ _ _ _ _ (masks_blk m hi q hq hO c t) (tgts_blk m hO c t))

include hi hq in
/-- A later point's dice loss. -/
theorem stepB_24 (hO : Ok m) (hT : ∀ c : Dev nD, TblOk c (tbl m 0) (tbl m 1)) (c : Dev nD) (t : Fin (cfgM m hO).N) (h0 : ¬t.val % 5 = 0) (a22 a23 a24 a25 : Vec Ideal S1x1 .f32) (x : S1x1.Idx) :
    outB_24 m hO hT c t h0 a22 a23 a24 a25 x = a24 (ix2 0 0) + ∑ k : Fin 16, Loss.dice (fun i j => Loss.sgm (Loss.M (m ((c : Thread nD τ).loc main_arg1)) q (nth t k) i j)) (Loss.T (m ((c : Thread nD τ).loc main_arg3)) (nth t k)) := by
  have h : outB_24 m hO hT c t h0 a22 a23 a24 a25 = fun _ => k0_pay2 (F := Ideal) (Cert.Point.dices (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (a24 (ix2 0 0)) := by
    unfold outB_24 runB
    apply outB_24_val
  exact (congrFun h x).trans (point24 _ _ _ _ _ _ _ _ _ _ _ _ _ _ _ _ _ _ _ _ _ (masks_blk m hi q hq hO c t) (tgts_blk m hO c t))

end Cert.KernelIdeal.Gen

end
-- ==== Proof.Value.Scores.lean ====
/- What a point leaves in the objectness accumulator: the scores it reads are its matches'. -/
module

public import proofs.«01_k».proof.Proof.Value.Outs
public import proofs.«01_k».proof.Proof.Value.Steps

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

/-- A word read off a table of eighty. -/
theorem tword (x : Vec Ideal S80 .i32) (off : Fin 1 → ℕ) (h) (h1) (k : Fin 80) (hk : off 0 = k.val) :
    View.ld x (Rect.unit (s := S80) off ![1] h) (Shape.Idx.first h1) = x (ix1 k) := by
  refine congrArg x (funext fun a => Fin.ext ?_)
  obtain rfl : a = (0 : Fin 1) := Subsingleton.elim (α := Fin 1) _ _
  exact hk

/-- An element read off the scores. -/
theorem score1 (x : Vec Ideal S800x1 .f32) (off : Fin 2 → ℕ) (h) (r : Fin 800) (h0 : off 0 = r.val) (h1 : off 1 = 0) :
    View.ld x (Rect.unit (s := S800x1) off ![1, 1] h) (ix2 0 0) = x (ix2 r 0) := by
  refine congrArg x (funext fun a => Fin.ext ?_)
  match a with
  | ⟨0, _⟩ => exact h0
  | ⟨1, _⟩ => exact h1

/-- The sixteen scores a point reads, as one vector. -/
def scs (s0 s1 s2 s3 s4 s5 s6 s7 s8 s9 s10 s11 s12 s13 s14 s15 : Vec Ideal S1x1 .f32) : FVec Ideal S16 .f32 :=
  k0_pay60 (k0_pay48 s0) (k0_pay49 s1) (k0_pay50 s2) (k0_pay51 s3) (k0_pay52 s4) (k0_pay53 s5) (k0_pay54 s6) (k0_pay55 s7) (k0_pay56 s8) (k0_pay57 s9) (k0_pay58 s10) (k0_pay59 s11) s12 s13 s14 s15

set_option maxHeartbeats 1000000 in
/-- The objectness accumulator after a first point. -/
theorem outA_23_val  (c : Dev nD) (t : Fin grid0.N) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : cond0_0 (grid0.coords t))
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1)
    (r : Fin 16 → Fin 800) (hr : ∀ k, BitVec.toNat (w := 32) ((show Vec Ideal S80 .i32 from xt0) (ix1 (nth t k))) = (r k).val) :
    ∃ s0 s1 s2 s3 s4 s5 s6 s7 s8 s9 s10 s11 s12 s13 s14 s15 : Vec Ideal S1x1 .f32, (∀ k : Fin 16, (![s0, s1, s2, s3, s4, s5, s6, s7, s8, s9, s10, s11, s12, s13, s14, s15] k) (ix2 0 0) = x2 (ix2 (r k) 0)) ∧
    VO0_23.read (Elt Ideal) (VO0_23.writes (Elt Ideal) VO0_23.junk (kernelRun0_A c (grid0.coords t) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT).2.1) = fun _ => k0_pay1 (F := Ideal) (FloatOps.ofBits (F := Ideal) FTy.f32 0#32) (k0_pay93 (Cert.Point.ious x0 (Cert.Point.tgts x3 x20 x21) x4 x5 x6 x7 x8 x9 x10 x11 x12 x13 x14 x15 x16 x17 x18 x19) (scs s0 s1 s2 s3 s4 s5 s6 s7 s8 s9 s10 s11 s12 s13 s14 s15)) := by
  refine ⟨?s0, ?s1, ?s2, ?s3, ?s4, ?s5, ?s6, ?s7, ?s8, ?s9, ?s10, ?s11, ?s12, ?s13, ?s14, ?s15, each16 (fun (k : Fin 16) (x : Vec Ideal S1x1 .f32) => x (ix2 0 0) = x2 (ix2 (r k) 0)) _ _ _ _ _ _ _ _ _ _ _ _ _ _ _ _ ?h0 ?h1 ?h2 ?h3 ?h4 ?h5 ?h6 ?h7 ?h8 ?h9 ?h10 ?h11 ?h12 ?h13 ?h14 ?h15, ?heq⟩
  case heq =>
    dsimp only [kernelRun0_A]
    frame_out
    rfl
  case h0 => exact (score1 x2 _ _ (r 0) ((congrArg BitVec.toNat (tword xt0 _ _ _ (nth t 0) ((by decide +kernel : ∀ t : Fin grid0.N, k0_off1 (grid0.coords t) 0#32 0 = 16 * t.val + 0) t))).trans (hr 0)) rfl)
  case h1 => exact (score1 x2 _ _ (r 1) ((congrArg BitVec.toNat (tword xt0 _ _ _ (nth t 1) ((by decide +kernel : ∀ t : Fin grid0.N, k0_off3 (grid0.coords t) 0 = 16 * t.val + 1) t))).trans (hr 1)) rfl)
  case h2 => exact (score1 x2 _ _ (r 2) ((congrArg BitVec.toNat (tword xt0 _ _ _ (nth t 2) ((by decide +kernel : ∀ t : Fin grid0.N, k0_off5 (grid0.coords t) 0 = 16 * t.val + 2) t))).trans (hr 2)) rfl)
  case h3 => exact (score1 x2 _ _ (r 3) ((congrArg BitVec.toNat (tword xt0 _ _ _ (nth t 3) ((by decide +kernel : ∀ t : Fin grid0.N, k0_off7 (grid0.coords t) 0 = 16 * t.val + 3) t))).trans (hr 3)) rfl)
  case h4 => exact (score1 x2 _ _ (r 4) ((congrArg BitVec.toNat (tword xt0 _ _ _ (nth t 4) ((by decide +kernel : ∀ t : Fin grid0.N, k0_off9 (grid0.coords t) 0 = 16 * t.val + 4) t))).trans (hr 4)) rfl)
  case h5 => exact (score1 x2 _ _ (r 5) ((congrArg BitVec.toNat (tword xt0 _ _ _ (nth t 5) ((by decide +kernel : ∀ t : Fin grid0.N, k0_off11 (grid0.coords t) 0 = 16 * t.val + 5) t))).trans (hr 5)) rfl)
  case h6 => exact (score1 x2 _ _ (r 6) ((congrArg BitVec.toNat (tword xt0 _ _ _ (nth t 6) ((by decide +kernel : ∀ t : Fin grid0.N, k0_off13 (grid0.coords t) 0 = 16 * t.val + 6) t))).trans (hr 6)) rfl)
  case h7 => exact (score1 x2 _ _ (r 7) ((congrArg BitVec.toNat (tword xt0 _ _ _ (nth t 7) ((by decide +kernel : ∀ t : Fin grid0.N, k0_off15 (grid0.coords t) 0 = 16 * t.val + 7) t))).trans (hr 7)) rfl)
  case h8 => exact (score1 x2 _ _ (r 8) ((congrArg BitVec.toNat (tword xt0 _ _ _ (nth t 8) ((by decide +kernel : ∀ t : Fin grid0.N, k0_off17 (grid0.coords t) 0 = 16 * t.val + 8) t))).trans (hr 8)) rfl)
  case h9 => exact (score1 x2 _ _ (r 9) ((congrArg BitVec.toNat (tword xt0 _ _ _ (nth t 9) ((by decide +kernel : ∀ t : Fin grid0.N, k0_off19 (grid0.coords t) 0 = 16 * t.val + 9) t))).trans (hr 9)) rfl)
  case h10 => exact (score1 x2 _ _ (r 10) ((congrArg BitVec.toNat (tword xt0 _ _ _ (nth t 10) ((by decide +kernel : ∀ t : Fin grid0.N, k0_off21 (grid0.coords t) 0 = 16 * t.val + 10) t))).trans (hr 10)) rfl)
  case h11 => exact (score1 x2 _ _ (r 11) ((congrArg BitVec.toNat (tword xt0 _ _ _ (nth t 11) ((by decide +kernel : ∀ t : Fin grid0.N, k0_off23 (grid0.coords t) 0 = 16 * t.val + 11) t))).trans (hr 11)) rfl)
  case h12 => exact (score1 x2 _ _ (r 12) ((congrArg BitVec.toNat (tword xt0 _ _ _ (nth t 12) ((by decide +kernel : ∀ t : Fin grid0.N, k0_off25 (grid0.coords t) 0 = 16 * t.val + 12) t))).trans (hr 12)) rfl)
  case h13 => exact (score1 x2 _ _ (r 13) ((congrArg BitVec.toNat (tword xt0 _ _ _ (nth t 13) ((by decide +kernel : ∀ t : Fin grid0.N, k0_off27 (grid0.coords t) 0 = 16 * t.val + 13) t))).trans (hr 13)) rfl)
  case h14 => exact (score1 x2 _ _ (r 14) ((congrArg BitVec.toNat (tword xt0 _ _ _ (nth t 14) ((by decide +kernel : ∀ t : Fin grid0.N, k0_off29 (grid0.coords t) 0 = 16 * t.val + 14) t))).trans (hr 14)) rfl)
  case h15 => exact (score1 x2 _ _ (r 15) ((congrArg BitVec.toNat (tword xt0 _ _ _ (nth t 15) ((by decide +kernel : ∀ t : Fin grid0.N, k0_off31 (grid0.coords t) 0 = 16 * t.val + 15) t))).trans (hr 15)) rfl)

set_option maxHeartbeats 1000000 in
/-- The objectness accumulator after a later point. -/
theorem outB_23_val  (c : Dev nD) (t : Fin grid0.N) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : ¬cond0_0 (grid0.coords t))
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) (xo22 : Vec Ideal S1x1 .f32) (xo23 : Vec Ideal S1x1 .f32) (xo24 : Vec Ideal S1x1 .f32) (xo25 : Vec Ideal S1x1 .f32)
    (r : Fin 16 → Fin 800) (hr : ∀ k, BitVec.toNat (w := 32) ((show Vec Ideal S80 .i32 from xt0) (ix1 (nth t k))) = (r k).val) :
    ∃ s0 s1 s2 s3 s4 s5 s6 s7 s8 s9 s10 s11 s12 s13 s14 s15 : Vec Ideal S1x1 .f32, (∀ k : Fin 16, (![s0, s1, s2, s3, s4, s5, s6, s7, s8, s9, s10, s11, s12, s13, s14, s15] k) (ix2 0 0) = x2 (ix2 (r k) 0)) ∧
    VO0_23.read (Elt Ideal) (VO0_23.writes (Elt Ideal) VO0_23.junk (kernelRun0_B c (grid0.coords t) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT xo22 xo23 xo24 xo25).2.1) = fun _ => k0_pay1 (F := Ideal) (xo23 (ix2 0 0)) (k0_pay93 (Cert.Point.ious x0 (Cert.Point.tgts x3 x20 x21) x4 x5 x6 x7 x8 x9 x10 x11 x12 x13 x14 x15 x16 x17 x18 x19) (scs s0 s1 s2 s3 s4 s5 s6 s7 s8 s9 s10 s11 s12 s13 s14 s15)) := by
  refine ⟨?s0, ?s1, ?s2, ?s3, ?s4, ?s5, ?s6, ?s7, ?s8, ?s9, ?s10, ?s11, ?s12, ?s13, ?s14, ?s15, each16 (fun (k : Fin 16) (x : Vec Ideal S1x1 .f32) => x (ix2 0 0) = x2 (ix2 (r k) 0)) _ _ _ _ _ _ _ _ _ _ _ _ _ _ _ _ ?h0 ?h1 ?h2 ?h3 ?h4 ?h5 ?h6 ?h7 ?h8 ?h9 ?h10 ?h11 ?h12 ?h13 ?h14 ?h15, ?heq⟩
  case heq =>
    dsimp only [kernelRun0_B]
    frame_out
    refine Eq.trans (funext fun x => congrArg (fun z => k0_pay1 (F := Ideal) z _) (congrArg xo23 (unit_eq _ (ix2 0 0)))) ?_
    rfl
  case h0 => exact (score1 x2 _ _ (r 0) ((congrArg BitVec.toNat (tword xt0 _ _ _ (nth t 0) ((by decide +kernel : ∀ t : Fin grid0.N, k0_off1 (grid0.coords t) 0#32 0 = 16 * t.val + 0) t))).trans (hr 0)) rfl)
  case h1 => exact (score1 x2 _ _ (r 1) ((congrArg BitVec.toNat (tword xt0 _ _ _ (nth t 1) ((by decide +kernel : ∀ t : Fin grid0.N, k0_off3 (grid0.coords t) 0 = 16 * t.val + 1) t))).trans (hr 1)) rfl)
  case h2 => exact (score1 x2 _ _ (r 2) ((congrArg BitVec.toNat (tword xt0 _ _ _ (nth t 2) ((by decide +kernel : ∀ t : Fin grid0.N, k0_off5 (grid0.coords t) 0 = 16 * t.val + 2) t))).trans (hr 2)) rfl)
  case h3 => exact (score1 x2 _ _ (r 3) ((congrArg BitVec.toNat (tword xt0 _ _ _ (nth t 3) ((by decide +kernel : ∀ t : Fin grid0.N, k0_off7 (grid0.coords t) 0 = 16 * t.val + 3) t))).trans (hr 3)) rfl)
  case h4 => exact (score1 x2 _ _ (r 4) ((congrArg BitVec.toNat (tword xt0 _ _ _ (nth t 4) ((by decide +kernel : ∀ t : Fin grid0.N, k0_off9 (grid0.coords t) 0 = 16 * t.val + 4) t))).trans (hr 4)) rfl)
  case h5 => exact (score1 x2 _ _ (r 5) ((congrArg BitVec.toNat (tword xt0 _ _ _ (nth t 5) ((by decide +kernel : ∀ t : Fin grid0.N, k0_off11 (grid0.coords t) 0 = 16 * t.val + 5) t))).trans (hr 5)) rfl)
  case h6 => exact (score1 x2 _ _ (r 6) ((congrArg BitVec.toNat (tword xt0 _ _ _ (nth t 6) ((by decide +kernel : ∀ t : Fin grid0.N, k0_off13 (grid0.coords t) 0 = 16 * t.val + 6) t))).trans (hr 6)) rfl)
  case h7 => exact (score1 x2 _ _ (r 7) ((congrArg BitVec.toNat (tword xt0 _ _ _ (nth t 7) ((by decide +kernel : ∀ t : Fin grid0.N, k0_off15 (grid0.coords t) 0 = 16 * t.val + 7) t))).trans (hr 7)) rfl)
  case h8 => exact (score1 x2 _ _ (r 8) ((congrArg BitVec.toNat (tword xt0 _ _ _ (nth t 8) ((by decide +kernel : ∀ t : Fin grid0.N, k0_off17 (grid0.coords t) 0 = 16 * t.val + 8) t))).trans (hr 8)) rfl)
  case h9 => exact (score1 x2 _ _ (r 9) ((congrArg BitVec.toNat (tword xt0 _ _ _ (nth t 9) ((by decide +kernel : ∀ t : Fin grid0.N, k0_off19 (grid0.coords t) 0 = 16 * t.val + 9) t))).trans (hr 9)) rfl)
  case h10 => exact (score1 x2 _ _ (r 10) ((congrArg BitVec.toNat (tword xt0 _ _ _ (nth t 10) ((by decide +kernel : ∀ t : Fin grid0.N, k0_off21 (grid0.coords t) 0 = 16 * t.val + 10) t))).trans (hr 10)) rfl)
  case h11 => exact (score1 x2 _ _ (r 11) ((congrArg BitVec.toNat (tword xt0 _ _ _ (nth t 11) ((by decide +kernel : ∀ t : Fin grid0.N, k0_off23 (grid0.coords t) 0 = 16 * t.val + 11) t))).trans (hr 11)) rfl)
  case h12 => exact (score1 x2 _ _ (r 12) ((congrArg BitVec.toNat (tword xt0 _ _ _ (nth t 12) ((by decide +kernel : ∀ t : Fin grid0.N, k0_off25 (grid0.coords t) 0 = 16 * t.val + 12) t))).trans (hr 12)) rfl)
  case h13 => exact (score1 x2 _ _ (r 13) ((congrArg BitVec.toNat (tword xt0 _ _ _ (nth t 13) ((by decide +kernel : ∀ t : Fin grid0.N, k0_off27 (grid0.coords t) 0 = 16 * t.val + 13) t))).trans (hr 13)) rfl)
  case h14 => exact (score1 x2 _ _ (r 14) ((congrArg BitVec.toNat (tword xt0 _ _ _ (nth t 14) ((by decide +kernel : ∀ t : Fin grid0.N, k0_off29 (grid0.coords t) 0 = 16 * t.val + 14) t))).trans (hr 14)) rfl)
  case h15 => exact (score1 x2 _ _ (r 15) ((congrArg BitVec.toNat (tword xt0 _ _ _ (nth t 15) ((by decide +kernel : ∀ t : Fin grid0.N, k0_off31 (grid0.coords t) 0 = 16 * t.val + 15) t))).trans (hr 15)) rfl)

end Cert.KernelIdeal.Gen

end
-- ==== Proof.Value.Rows.lean ====
/- What a point leaves in the classification accumulator: the rows and labels it reads are its matches'. -/
module

public import proofs.«01_k».proof.Proof.Value.Scores

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

/-- An element of a row read off the logits. -/
theorem row1 (x : Vec Ideal S800x80 .f32) (off : Fin 2 → ℕ) (h) (r : Fin 800) (j : Fin 80) (h0 : off 0 = r.val) (h1 : off 1 = 0) :
    View.ld x (Rect.unit (s := S800x80) off S1x80.size h) (ix2 0 j) = x (ix2 r j) := by
  refine congrArg x (funext fun a => Fin.ext ?_)
  match a with
  | ⟨0, _⟩ => exact h0
  | ⟨1, _⟩ => show off 1 + 1 * j.val = j.val; omega

/-- The sixteen rows of logits a point reads, as one matrix. -/
def rws (w0 w1 w2 w3 w4 w5 w6 w7 w8 w9 w10 w11 w12 w13 w14 w15 : Vec Ideal S1x80 .f32) : FVec Ideal S16x80 .f32 :=
  k0_pay88 (k0_pay72 w12) (k0_pay73 w13) (k0_pay74 w14) (k0_pay75 w15) (k0_pay76 (k0_pay61 w0)) (k0_pay77 (k0_pay62 w1)) (k0_pay78 (k0_pay63 w2)) (k0_pay79 (k0_pay64 w3)) (k0_pay80 (k0_pay65 w4)) (k0_pay81 (k0_pay66 w5)) (k0_pay82 (k0_pay67 w6)) (k0_pay83 (k0_pay68 w7)) (k0_pay84 (k0_pay69 w8)) (k0_pay85 (k0_pay70 w9)) (k0_pay86 (k0_pay71 w10)) (k0_pay87 w11)

/-- The classification accumulator after a point: of the point's summed focal terms, its rows of logits, its labels and the
    accumulator before it. -/
def clsOf (s : EReal) (R : FVec Ideal S16x80 .f32) (l0 l1 l2 l3 l4 l5 l6 l7 l8 l9 l10 l11 l12 l13 l14 l15 : BitVec 32) (acc : EReal) : EReal :=
  k0_pay92 (F := Ideal) s (k0_pay89 (F := Ideal) R l0 l1 l2 l3 l4 l5 l6 l7 l8 l9 l10 l11 l12 l13 l14 l15) (k0_pay90 (F := Ideal) R l0 l1 l2 l3 l4 l5 l6 l7 l8 l9 l10 l11 l12 l13 l14 l15) (k0_pay91 (F := Ideal) R l0 l1 l2 l3 l4 l5 l6 l7 l8 l9 l10 l11 l12 l13 l14 l15) acc

set_option maxHeartbeats 1000000 in
/-- The classification accumulator after a first point. -/
theorem outA_22_val  (c : Dev nD) (t : Fin grid0.N) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : cond0_0 (grid0.coords t))
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1)
    (r : Fin 16 → Fin 800) (hr : ∀ k, BitVec.toNat (w := 32) ((show Vec Ideal S80 .i32 from xt0) (ix1 (nth t k))) = (r k).val) (ht : ∀ k, BitVec.toNat (w := 32) ((show Vec Ideal S80 .i32 from xt1) (ix1 (nth t k))) = (nth t k).val) :
    ∃ (w0 w1 w2 w3 w4 w5 w6 w7 w8 w9 w10 w11 w12 w13 w14 w15 : Vec Ideal S1x80 .f32) (l0 l1 l2 l3 l4 l5 l6 l7 l8 l9 l10 l11 l12 l13 l14 l15 : BitVec 32), (∀ (k : Fin 16) (j : Fin 80), (![w0, w1, w2, w3, w4, w5, w6, w7, w8, w9, w10, w11, w12, w13, w14, w15] k) (ix2 0 j) = x1 (ix2 (r k) j)) ∧ (∀ k : Fin 16, (![l0, l1, l2, l3, l4, l5, l6, l7, l8, l9, l10, l11, l12, l13, l14, l15] k) = (show Vec Ideal S80 .i32 from xt2) (ix1 (nth t k))) ∧
    VO0_22.read (Elt Ideal) (VO0_22.writes (Elt Ideal) VO0_22.junk (kernelRun0_A c (grid0.coords t) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT).1) = fun _ => clsOf (Cert.Point.f0Sum x0 (Cert.Point.tgts x3 x20 x21) x4 x5 x6 x7 x8 x9 x10 x11 x12 x13 x14 x15 x16 x17 x18 x19) (rws w0 w1 w2 w3 w4 w5 w6 w7 w8 w9 w10 w11 w12 w13 w14 w15) l0 l1 l2 l3 l4 l5 l6 l7 l8 l9 l10 l11 l12 l13 l14 l15 (FloatOps.ofBits (F := Ideal) FTy.f32 0#32) := by
  refine ⟨?w0, ?w1, ?w2, ?w3, ?w4, ?w5, ?w6, ?w7, ?w8, ?w9, ?w10, ?w11, ?w12, ?w13, ?w14, ?w15, ?l0, ?l1, ?l2, ?l3, ?l4, ?l5, ?l6, ?l7, ?l8, ?l9, ?l10, ?l11, ?l12, ?l13, ?l14, ?l15, each16 (fun (k : Fin 16) (x : Vec Ideal S1x80 .f32) => ∀ j : Fin 80, x (ix2 0 j) = x1 (ix2 (r k) j)) _ _ _ _ _ _ _ _ _ _ _ _ _ _ _ _ ?h0 ?h1 ?h2 ?h3 ?h4 ?h5 ?h6 ?h7 ?h8 ?h9 ?h10 ?h11 ?h12 ?h13 ?h14 ?h15, each16 (fun (k : Fin 16) (x : BitVec 32) => x = (show Vec Ideal S80 .i32 from xt2) (ix1 (nth t k))) _ _ _ _ _ _ _ _ _ _ _ _ _ _ _ _ ?g0 ?g1 ?g2 ?g3 ?g4 ?g5 ?g6 ?g7 ?g8 ?g9 ?g10 ?g11 ?g12 ?g13 ?g14 ?g15, ?heq⟩
  case heq =>
    dsimp only [kernelRun0_A]
    frame_out
    rfl
  case h0 => exact fun j => (row1 x1 _ _ (r 0) j ((congrArg BitVec.toNat (tword xt0 _ _ _ (nth t 0) ((by decide +kernel : ∀ t : Fin grid0.N, k0_off33 (grid0.coords t) 0 = 16 * t.val + 0) t))).trans (hr 0)) rfl)
  case h1 => exact fun j => (row1 x1 _ _ (r 1) j ((congrArg BitVec.toNat (tword xt0 _ _ _ (nth t 1) ((by decide +kernel : ∀ t : Fin grid0.N, k0_off35 (grid0.coords t) 0 = 16 * t.val + 1) t))).trans (hr 1)) rfl)
  case h2 => exact fun j => (row1 x1 _ _ (r 2) j ((congrArg BitVec.toNat (tword xt0 _ _ _ (nth t 2) ((by decide +kernel : ∀ t : Fin grid0.N, k0_off37 (grid0.coords t) 0 = 16 * t.val + 2) t))).trans (hr 2)) rfl)
  case h3 => exact fun j => (row1 x1 _ _ (r 3) j ((congrArg BitVec.toNat (tword xt0 _ _ _ (nth t 3) ((by decide +kernel : ∀ t : Fin grid0.N, k0_off39 (grid0.coords t) 0 = 16 * t.val + 3) t))).trans (hr 3)) rfl)
  case h4 => exact fun j => (row1 x1 _ _ (r 4) j ((congrArg BitVec.toNat (tword xt0 _ _ _ (nth t 4) ((by decide +kernel : ∀ t : Fin grid0.N, k0_off41 (grid0.coords t) 0 = 16 * t.val + 4) t))).trans (hr 4)) rfl)
  case h5 => exact fun j => (row1 x1 _ _ (r 5) j ((congrArg BitVec.toNat (tword xt0 _ _ _ (nth t 5) ((by decide +kernel : ∀ t : Fin grid0.N, k0_off43 (grid0.coords t) 0 = 16 * t.val + 5) t))).trans (hr 5)) rfl)
  case h6 => exact fun j => (row1 x1 _ _ (r 6) j ((congrArg BitVec.toNat (tword xt0 _ _ _ (nth t 6) ((by decide +kernel : ∀ t : Fin grid0.N, k0_off45 (grid0.coords t) 0 = 16 * t.val + 6) t))).trans (hr 6)) rfl)
  case h7 => exact fun j => (row1 x1 _ _ (r 7) j ((congrArg BitVec.toNat (tword xt0 _ _ _ (nth t 7) ((by decide +kernel : ∀ t : Fin grid0.N, k0_off47 (grid0.coords t) 0 = 16 * t.val + 7) t))).trans (hr 7)) rfl)
  case h8 => exact fun j => (row1 x1 _ _ (r 8) j ((congrArg BitVec.toNat (tword xt0 _ _ _ (nth t 8) ((by decide +kernel : ∀ t : Fin grid0.N, k0_off49 (grid0.coords t) 0 = 16 * t.val + 8) t))).trans (hr 8)) rfl)
  case h9 => exact fun j => (row1 x1 _ _ (r 9) j ((congrArg BitVec.toNat (tword xt0 _ _ _ (nth t 9) ((by decide +kernel : ∀ t : Fin grid0.N, k0_off51 (grid0.coords t) 0 = 16 * t.val + 9) t))).trans (hr 9)) rfl)
  case h10 => exact fun j => (row1 x1 _ _ (r 10) j ((congrArg BitVec.toNat (tword xt0 _ _ _ (nth t 10) ((by decide +kernel : ∀ t : Fin grid0.N, k0_off53 (grid0.coords t) 0 = 16 * t.val + 10) t))).trans (hr 10)) rfl)
  case h11 => exact fun j => (row1 x1 _ _ (r 11) j ((congrArg BitVec.toNat (tword xt0 _ _ _ (nth t 11) ((by decide +kernel : ∀ t : Fin grid0.N, k0_off55 (grid0.coords t) 0 = 16 * t.val + 11) t))).trans (hr 11)) rfl)
  case h12 => exact fun j => (row1 x1 _ _ (r 12) j ((congrArg BitVec.toNat (tword xt0 _ _ _ (nth t 12) ((by decide +kernel : ∀ t : Fin grid0.N, k0_off57 (grid0.coords t) 0 = 16 * t.val + 12) t))).trans (hr 12)) rfl)
  case h13 => exact fun j => (row1 x1 _ _ (r 13) j ((congrArg BitVec.toNat (tword xt0 _ _ _ (nth t 13) ((by decide +kernel : ∀ t : Fin grid0.N, k0_off59 (grid0.coords t) 0 = 16 * t.val + 13) t))).trans (hr 13)) rfl)
  case h14 => exact fun j => (row1 x1 _ _ (r 14) j ((congrArg BitVec.toNat (tword xt0 _ _ _ (nth t 14) ((by decide +kernel : ∀ t : Fin grid0.N, k0_off61 (grid0.coords t) 0 = 16 * t.val + 14) t))).trans (hr 14)) rfl)
  case h15 => exact fun j => (row1 x1 _ _ (r 15) j ((congrArg BitVec.toNat (tword xt0 _ _ _ (nth t 15) ((by decide +kernel : ∀ t : Fin grid0.N, k0_off63 (grid0.coords t) 0 = 16 * t.val + 15) t))).trans (hr 15)) rfl)
  case g0 => exact (tword xt2 _ _ _ (nth t 0) ((congrArg BitVec.toNat (tword xt1 _ _ _ (nth t 0) ((by decide +kernel : ∀ t : Fin grid0.N, k0_off65 (grid0.coords t) 0 = 16 * t.val + 0) t))).trans (ht 0)))
  case g1 => exact (tword xt2 _ _ _ (nth t 1) ((congrArg BitVec.toNat (tword xt1 _ _ _ (nth t 1) ((by decide +kernel : ∀ t : Fin grid0.N, k0_off67 (grid0.coords t) 0 = 16 * t.val + 1) t))).trans (ht 1)))
  case g2 => exact (tword xt2 _ _ _ (nth t 2) ((congrArg BitVec.toNat (tword xt1 _ _ _ (nth t 2) ((by decide +kernel : ∀ t : Fin grid0.N, k0_off69 (grid0.coords t) 0 = 16 * t.val + 2) t))).trans (ht 2)))
  case g3 => exact (tword xt2 _ _ _ (nth t 3) ((congrArg BitVec.toNat (tword xt1 _ _ _ (nth t 3) ((by decide +kernel : ∀ t : Fin grid0.N, k0_off71 (grid0.coords t) 0 = 16 * t.val + 3) t))).trans (ht 3)))
  case g4 => exact (tword xt2 _ _ _ (nth t 4) ((congrArg BitVec.toNat (tword xt1 _ _ _ (nth t 4) ((by decide +kernel : ∀ t : Fin grid0.N, k0_off73 (grid0.coords t) 0 = 16 * t.val + 4) t))).trans (ht 4)))
  case g5 => exact (tword xt2 _ _ _ (nth t 5) ((congrArg BitVec.toNat (tword xt1 _ _ _ (nth t 5) ((by decide +kernel : ∀ t : Fin grid0.N, k0_off75 (grid0.coords t) 0 = 16 * t.val + 5) t))).trans (ht 5)))
  case g6 => exact (tword xt2 _ _ _ (nth t 6) ((congrArg BitVec.toNat (tword xt1 _ _ _ (nth t 6) ((by decide +kernel : ∀ t : Fin grid0.N, k0_off77 (grid0.coords t) 0 = 16 * t.val + 6) t))).trans (ht 6)))
  case g7 => exact (tword xt2 _ _ _ (nth t 7) ((congrArg BitVec.toNat (tword xt1 _ _ _ (nth t 7) ((by decide +kernel : ∀ t : Fin grid0.N, k0_off79 (grid0.coords t) 0 = 16 * t.val + 7) t))).trans (ht 7)))
  case g8 => exact (tword xt2 _ _ _ (nth t 8) ((congrArg BitVec.toNat (tword xt1 _ _ _ (nth t 8) ((by decide +kernel : ∀ t : Fin grid0.N, k0_off81 (grid0.coords t) 0 = 16 * t.val + 8) t))).trans (ht 8)))
  case g9 => exact (tword xt2 _ _ _ (nth t 9) ((congrArg BitVec.toNat (tword xt1 _ _ _ (nth t 9) ((by decide +kernel : ∀ t : Fin grid0.N, k0_off83 (grid0.coords t) 0 = 16 * t.val + 9) t))).trans (ht 9)))
  case g10 => exact (tword xt2 _ _ _ (nth t 10) ((congrArg BitVec.toNat (tword xt1 _ _ _ (nth t 10) ((by decide +kernel : ∀ t : Fin grid0.N, k0_off85 (grid0.coords t) 0 = 16 * t.val + 10) t))).trans (ht 10)))
  case g11 => exact (tword xt2 _ _ _ (nth t 11) ((congrArg BitVec.toNat (tword xt1 _ _ _ (nth t 11) ((by decide +kernel : ∀ t : Fin grid0.N, k0_off87 (grid0.coords t) 0 = 16 * t.val + 11) t))).trans (ht 11)))
  case g12 => exact (tword xt2 _ _ _ (nth t 12) ((congrArg BitVec.toNat (tword xt1 _ _ _ (nth t 12) ((by decide +kernel : ∀ t : Fin grid0.N, k0_off89 (grid0.coords t) 0 = 16 * t.val + 12) t))).trans (ht 12)))
  case g13 => exact (tword xt2 _ _ _ (nth t 13) ((congrArg BitVec.toNat (tword xt1 _ _ _ (nth t 13) ((by decide +kernel : ∀ t : Fin grid0.N, k0_off91 (grid0.coords t) 0 = 16 * t.val + 13) t))).trans (ht 13)))
  case g14 => exact (tword xt2 _ _ _ (nth t 14) ((congrArg BitVec.toNat (tword xt1 _ _ _ (nth t 14) ((by decide +kernel : ∀ t : Fin grid0.N, k0_off93 (grid0.coords t) 0 = 16 * t.val + 14) t))).trans (ht 14)))
  case g15 => exact (tword xt2 _ _ _ (nth t 15) ((congrArg BitVec.toNat (tword xt1 _ _ _ (nth t 15) ((by decide +kernel : ∀ t : Fin grid0.N, k0_off95 (grid0.coords t) 0 = 16 * t.val + 15) t))).trans (ht 15)))

set_option maxHeartbeats 1000000 in
/-- The classification accumulator after a later point. -/
theorem outB_22_val  (c : Dev nD) (t : Fin grid0.N) (arg4 : Memref sig .tc .vmem S1x160x80 .f32) (harg4 : arg4.IsWhole) (arg5 : Memref sig .tc .vmem S800x80 .f32) (harg5 : arg5.IsWhole) (arg6 : Memref sig .tc .vmem S800x1 .f32) (harg6 : arg6.IsWhole) (arg7 : Memref sig .tc .vmem S1x8192x512 .f32) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x128x128 .f32) (harg20 : arg20.IsWhole) (arg21 : Memref sig .tc .vmem S1x128x128 .f32) (harg21 : arg21.IsWhole) (arg22 : Memref sig .tc .vmem S1x128x128 .f32) (harg22 : arg22.IsWhole) (arg23 : Memref sig .tc .vmem S1x128x128 .f32) (harg23 : arg23.IsWhole) (arg24 : Memref sig .tc .vmem S512x128 .bf16) (harg24 : arg24.IsWhole) (arg25 : Memref sig .tc .vmem S128x512 .bf16) (harg25 : arg25.IsWhole) (arg26 : Memref sig .tc .smem S1x1 .f32) (harg26 : arg26.IsWhole) (arg27 : Memref sig .tc .smem S1x1 .f32) (harg27 : arg27.IsWhole) (arg28 : Memref sig .tc .smem S1x1 .f32) (harg28 : arg28.IsWhole) (arg29 : Memref sig .tc .smem S1x1 .f32) (harg29 : arg29.IsWhole) (hc0 : ¬cond0_0 (grid0.coords t))
    (x0 : Vec Ideal S1x160x80 .f32) (x1 : Vec Ideal S800x80 .f32) (x2 : Vec Ideal S800x1 .f32) (x3 : Vec Ideal S1x8192x512 .f32) (x4 : Vec Ideal S1x128x128 .f32) (x5 : Vec Ideal S1x128x128 .f32) (x6 : Vec Ideal S1x128x128 .f32) (x7 : Vec Ideal S1x128x128 .f32) (x8 : Vec Ideal S1x128x128 .f32) (x9 : Vec Ideal S1x128x128 .f32) (x10 : Vec Ideal S1x128x128 .f32) (x11 : Vec Ideal S1x128x128 .f32) (x12 : Vec Ideal S1x128x128 .f32) (x13 : Vec Ideal S1x128x128 .f32) (x14 : Vec Ideal S1x128x128 .f32) (x15 : Vec Ideal S1x128x128 .f32) (x16 : Vec Ideal S1x128x128 .f32) (x17 : Vec Ideal S1x128x128 .f32) (x18 : Vec Ideal S1x128x128 .f32) (x19 : Vec Ideal S1x128x128 .f32) (x20 : Vec Ideal S512x128 .bf16) (x21 : Vec Ideal S128x512 .bf16) (xt0 : TbBuf0 (F := Ideal) c tbM0_0) (xt1 : TbBuf0 (F := Ideal) c tbM0_1) (xt2 : TbBuf0 (F := Ideal) c tbM0_2) (hT : TblOk c xt0 xt1) (xo22 : Vec Ideal S1x1 .f32) (xo23 : Vec Ideal S1x1 .f32) (xo24 : Vec Ideal S1x1 .f32) (xo25 : Vec Ideal S1x1 .f32)
    (r : Fin 16 → Fin 800) (hr : ∀ k, BitVec.toNat (w := 32) ((show Vec Ideal S80 .i32 from xt0) (ix1 (nth t k))) = (r k).val) (ht : ∀ k, BitVec.toNat (w := 32) ((show Vec Ideal S80 .i32 from xt1) (ix1 (nth t k))) = (nth t k).val) :
    ∃ (w0 w1 w2 w3 w4 w5 w6 w7 w8 w9 w10 w11 w12 w13 w14 w15 : Vec Ideal S1x80 .f32) (l0 l1 l2 l3 l4 l5 l6 l7 l8 l9 l10 l11 l12 l13 l14 l15 : BitVec 32), (∀ (k : Fin 16) (j : Fin 80), (![w0, w1, w2, w3, w4, w5, w6, w7, w8, w9, w10, w11, w12, w13, w14, w15] k) (ix2 0 j) = x1 (ix2 (r k) j)) ∧ (∀ k : Fin 16, (![l0, l1, l2, l3, l4, l5, l6, l7, l8, l9, l10, l11, l12, l13, l14, l15] k) = (show Vec Ideal S80 .i32 from xt2) (ix1 (nth t k))) ∧
    VO0_22.read (Elt Ideal) (VO0_22.writes (Elt Ideal) VO0_22.junk (kernelRun0_B c (grid0.coords t) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 x18 x19 x20 x21 xt0 xt1 xt2 hT xo22 xo23 xo24 xo25).1) = fun _ => clsOf (Cert.Point.f0Sum x0 (Cert.Point.tgts x3 x20 x21) x4 x5 x6 x7 x8 x9 x10 x11 x12 x13 x14 x15 x16 x17 x18 x19) (rws w0 w1 w2 w3 w4 w5 w6 w7 w8 w9 w10 w11 w12 w13 w14 w15) l0 l1 l2 l3 l4 l5 l6 l7 l8 l9 l10 l11 l12 l13 l14 l15 (xo22 (ix2 0 0)) := by
  refine ⟨?w0, ?w1, ?w2, ?w3, ?w4, ?w5, ?w6, ?w7, ?w8, ?w9, ?w10, ?w11, ?w12, ?w13, ?w14, ?w15, ?l0, ?l1, ?l2, ?l3, ?l4, ?l5, ?l6, ?l7, ?l8, ?l9, ?l10, ?l11, ?l12, ?l13, ?l14, ?l15, each16 (fun (k : Fin 16) (x : Vec Ideal S1x80 .f32) => ∀ j : Fin 80, x (ix2 0 j) = x1 (ix2 (r k) j)) _ _ _ _ _ _ _ _ _ _ _ _ _ _ _ _ ?h0 ?h1 ?h2 ?h3 ?h4 ?h5 ?h6 ?h7 ?h8 ?h9 ?h10 ?h11 ?h12 ?h13 ?h14 ?h15, each16 (fun (k : Fin 16) (x : BitVec 32) => x = (show Vec Ideal S80 .i32 from xt2) (ix1 (nth t k))) _ _ _ _ _ _ _ _ _ _ _ _ _ _ _ _ ?g0 ?g1 ?g2 ?g3 ?g4 ?g5 ?g6 ?g7 ?g8 ?g9 ?g10 ?g11 ?g12 ?g13 ?g14 ?g15, ?heq⟩
  case heq =>
    dsimp only [kernelRun0_B]
    frame_out
    refine Eq.trans (funext fun x => congrArg (fun z => k0_pay92 (F := Ideal) _ _ _ _ z) (congrArg xo22 (unit_eq _ (ix2 0 0)))) ?_
    rfl
  case h0 => exact fun j => (row1 x1 _ _ (r 0) j ((congrArg BitVec.toNat (tword xt0 _ _ _ (nth t 0) ((by decide +kernel : ∀ t : Fin grid0.N, k0_off33 (grid0.coords t) 0 = 16 * t.val + 0) t))).trans (hr 0)) rfl)
  case h1 => exact fun j => (row1 x1 _ _ (r 1) j ((congrArg BitVec.toNat (tword xt0 _ _ _ (nth t 1) ((by decide +kernel : ∀ t : Fin grid0.N, k0_off35 (grid0.coords t) 0 = 16 * t.val + 1) t))).trans (hr 1)) rfl)
  case h2 => exact fun j => (row1 x1 _ _ (r 2) j ((congrArg BitVec.toNat (tword xt0 _ _ _ (nth t 2) ((by decide +kernel : ∀ t : Fin grid0.N, k0_off37 (grid0.coords t) 0 = 16 * t.val + 2) t))).trans (hr 2)) rfl)
  case h3 => exact fun j => (row1 x1 _ _ (r 3) j ((congrArg BitVec.toNat (tword xt0 _ _ _ (nth t 3) ((by decide +kernel : ∀ t : Fin grid0.N, k0_off39 (grid0.coords t) 0 = 16 * t.val + 3) t))).trans (hr 3)) rfl)
  case h4 => exact fun j => (row1 x1 _ _ (r 4) j ((congrArg BitVec.toNat (tword xt0 _ _ _ (nth t 4) ((by decide +kernel : ∀ t : Fin grid0.N, k0_off41 (grid0.coords t) 0 = 16 * t.val + 4) t))).trans (hr 4)) rfl)
  case h5 => exact fun j => (row1 x1 _ _ (r 5) j ((congrArg BitVec.toNat (tword xt0 _ _ _ (nth t 5) ((by decide +kernel : ∀ t : Fin grid0.N, k0_off43 (grid0.coords t) 0 = 16 * t.val + 5) t))).trans (hr 5)) rfl)
  case h6 => exact fun j => (row1 x1 _ _ (r 6) j ((congrArg BitVec.toNat (tword xt0 _ _ _ (nth t 6) ((by decide +kernel : ∀ t : Fin grid0.N, k0_off45 (grid0.coords t) 0 = 16 * t.val + 6) t))).trans (hr 6)) rfl)
  case h7 => exact fun j => (row1 x1 _ _ (r 7) j ((congrArg BitVec.toNat (tword xt0 _ _ _ (nth t 7) ((by decide +kernel : ∀ t : Fin grid0.N, k0_off47 (grid0.coords t) 0 = 16 * t.val + 7) t))).trans (hr 7)) rfl)
  case h8 => exact fun j => (row1 x1 _ _ (r 8) j ((congrArg BitVec.toNat (tword xt0 _ _ _ (nth t 8) ((by decide +kernel : ∀ t : Fin grid0.N, k0_off49 (grid0.coords t) 0 = 16 * t.val + 8) t))).trans (hr 8)) rfl)
  case h9 => exact fun j => (row1 x1 _ _ (r 9) j ((congrArg BitVec.toNat (tword xt0 _ _ _ (nth t 9) ((by decide +kernel : ∀ t : Fin grid0.N, k0_off51 (grid0.coords t) 0 = 16 * t.val + 9) t))).trans (hr 9)) rfl)
  case h10 => exact fun j => (row1 x1 _ _ (r 10) j ((congrArg BitVec.toNat (tword xt0 _ _ _ (nth t 10) ((by decide +kernel : ∀ t : Fin grid0.N, k0_off53 (grid0.coords t) 0 = 16 * t.val + 10) t))).trans (hr 10)) rfl)
  case h11 => exact fun j => (row1 x1 _ _ (r 11) j ((congrArg BitVec.toNat (tword xt0 _ _ _ (nth t 11) ((by decide +kernel : ∀ t : Fin grid0.N, k0_off55 (grid0.coords t) 0 = 16 * t.val + 11) t))).trans (hr 11)) rfl)
  case h12 => exact fun j => (row1 x1 _ _ (r 12) j ((congrArg BitVec.toNat (tword xt0 _ _ _ (nth t 12) ((by decide +kernel : ∀ t : Fin grid0.N, k0_off57 (grid0.coords t) 0 = 16 * t.val + 12) t))).trans (hr 12)) rfl)
  case h13 => exact fun j => (row1 x1 _ _ (r 13) j ((congrArg BitVec.toNat (tword xt0 _ _ _ (nth t 13) ((by decide +kernel : ∀ t : Fin grid0.N, k0_off59 (grid0.coords t) 0 = 16 * t.val + 13) t))).trans (hr 13)) rfl)
  case h14 => exact fun j => (row1 x1 _ _ (r 14) j ((congrArg BitVec.toNat (tword xt0 _ _ _ (nth t 14) ((by decide +kernel : ∀ t : Fin grid0.N, k0_off61 (grid0.coords t) 0 = 16 * t.val + 14) t))).trans (hr 14)) rfl)
  case h15 => exact fun j => (row1 x1 _ _ (r 15) j ((congrArg BitVec.toNat (tword xt0 _ _ _ (nth t 15) ((by decide +kernel : ∀ t : Fin grid0.N, k0_off63 (grid0.coords t) 0 = 16 * t.val + 15) t))).trans (hr 15)) rfl)
  case g0 => exact (tword xt2 _ _ _ (nth t 0) ((congrArg BitVec.toNat (tword xt1 _ _ _ (nth t 0) ((by decide +kernel : ∀ t : Fin grid0.N, k0_off65 (grid0.coords t) 0 = 16 * t.val + 0) t))).trans (ht 0)))
  case g1 => exact (tword xt2 _ _ _ (nth t 1) ((congrArg BitVec.toNat (tword xt1 _ _ _ (nth t 1) ((by decide +kernel : ∀ t : Fin grid0.N, k0_off67 (grid0.coords t) 0 = 16 * t.val + 1) t))).trans (ht 1)))
  case g2 => exact (tword xt2 _ _ _ (nth t 2) ((congrArg BitVec.toNat (tword xt1 _ _ _ (nth t 2) ((by decide +kernel : ∀ t : Fin grid0.N, k0_off69 (grid0.coords t) 0 = 16 * t.val + 2) t))).trans (ht 2)))
  case g3 => exact (tword xt2 _ _ _ (nth t 3) ((congrArg BitVec.toNat (tword xt1 _ _ _ (nth t 3) ((by decide +kernel : ∀ t : Fin grid0.N, k0_off71 (grid0.coords t) 0 = 16 * t.val + 3) t))).trans (ht 3)))
  case g4 => exact (tword xt2 _ _ _ (nth t 4) ((congrArg BitVec.toNat (tword xt1 _ _ _ (nth t 4) ((by decide +kernel : ∀ t : Fin grid0.N, k0_off73 (grid0.coords t) 0 = 16 * t.val + 4) t))).trans (ht 4)))
  case g5 => exact (tword xt2 _ _ _ (nth t 5) ((congrArg BitVec.toNat (tword xt1 _ _ _ (nth t 5) ((by decide +kernel : ∀ t : Fin grid0.N, k0_off75 (grid0.coords t) 0 = 16 * t.val + 5) t))).trans (ht 5)))
  case g6 => exact (tword xt2 _ _ _ (nth t 6) ((congrArg BitVec.toNat (tword xt1 _ _ _ (nth t 6) ((by decide +kernel : ∀ t : Fin grid0.N, k0_off77 (grid0.coords t) 0 = 16 * t.val + 6) t))).trans (ht 6)))
  case g7 => exact (tword xt2 _ _ _ (nth t 7) ((congrArg BitVec.toNat (tword xt1 _ _ _ (nth t 7) ((by decide +kernel : ∀ t : Fin grid0.N, k0_off79 (grid0.coords t) 0 = 16 * t.val + 7) t))).trans (ht 7)))
  case g8 => exact (tword xt2 _ _ _ (nth t 8) ((congrArg BitVec.toNat (tword xt1 _ _ _ (nth t 8) ((by decide +kernel : ∀ t : Fin grid0.N, k0_off81 (grid0.coords t) 0 = 16 * t.val + 8) t))).trans (ht 8)))
  case g9 => exact (tword xt2 _ _ _ (nth t 9) ((congrArg BitVec.toNat (tword xt1 _ _ _ (nth t 9) ((by decide +kernel : ∀ t : Fin grid0.N, k0_off83 (grid0.coords t) 0 = 16 * t.val + 9) t))).trans (ht 9)))
  case g10 => exact (tword xt2 _ _ _ (nth t 10) ((congrArg BitVec.toNat (tword xt1 _ _ _ (nth t 10) ((by decide +kernel : ∀ t : Fin grid0.N, k0_off85 (grid0.coords t) 0 = 16 * t.val + 10) t))).trans (ht 10)))
  case g11 => exact (tword xt2 _ _ _ (nth t 11) ((congrArg BitVec.toNat (tword xt1 _ _ _ (nth t 11) ((by decide +kernel : ∀ t : Fin grid0.N, k0_off87 (grid0.coords t) 0 = 16 * t.val + 11) t))).trans (ht 11)))
  case g12 => exact (tword xt2 _ _ _ (nth t 12) ((congrArg BitVec.toNat (tword xt1 _ _ _ (nth t 12) ((by decide +kernel : ∀ t : Fin grid0.N, k0_off89 (grid0.coords t) 0 = 16 * t.val + 12) t))).trans (ht 12)))
  case g13 => exact (tword xt2 _ _ _ (nth t 13) ((congrArg BitVec.toNat (tword xt1 _ _ _ (nth t 13) ((by decide +kernel : ∀ t : Fin grid0.N, k0_off91 (grid0.coords t) 0 = 16 * t.val + 13) t))).trans (ht 13)))
  case g14 => exact (tword xt2 _ _ _ (nth t 14) ((congrArg BitVec.toNat (tword xt1 _ _ _ (nth t 14) ((by decide +kernel : ∀ t : Fin grid0.N, k0_off93 (grid0.coords t) 0 = 16 * t.val + 14) t))).trans (ht 14)))
  case g15 => exact (tword xt2 _ _ _ (nth t 15) ((congrArg BitVec.toNat (tword xt1 _ _ _ (nth t 15) ((by decide +kernel : ∀ t : Fin grid0.N, k0_off95 (grid0.coords t) 0 = 16 * t.val + 15) t))).trans (ht 15)))

end Cert.KernelIdeal.Gen

end
-- ==== Proof.Value.Fold.lean ====
/- The kernel's results: what the host lines after the region make of the accumulators' sums over the 80 matches. -/
module

public import proofs.«01_k».proof.Proof.Value.Steps

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)
variable (hi : IntsAt m (0 : Dev nD)) (q : Fin 80 → Fin 100)
  (hq : ∀ n : Fin 80, (show BitVec 32 from m (((0 : Dev nD) : Thread nD τ).loc main_arg5) (ix2 (img n) (slot n))).toNat = (q n).val)

/-- Five points of sixteen matches are the eighty matches. -/
theorem sum_points (f : Fin 80 → EReal) : (∑ t : Fin grid0.N, ∑ k : Fin 16, f (nth t k)) = ∑ n, f n := by
  refine ((Fin.sum_univ_tiles 5 16 rfl f).trans (Finset.sum_congr rfl fun t _ => Finset.sum_congr rfl fun k _ => congrArg f (Fin.ext ?_))).symm
  show t.val * 16 + k.val = 16 * t.val + k.val
  omega

/-- The mask accumulator is written back once, at the last point. -/
theorem whole25 (hO : Ok m) : ((cfgM m hO).win 25).WholeAt ⟨4, (by decide : 4 < grid0.N)⟩ :=
  ⟨(flush0_25 (adm m hO) _).mpr rfl, fun t h => Fin.ext (by
    have h1 := (flush0_25 (adm m hO) t).mp h
    have h2 : t.val < 5 := lt_of_lt_of_eq t.isLt (show (cfgM m hO).N = 5 from N_0)
    show t.val = 4
    omega), fun a => match a with | ⟨0, _⟩ => ⟨rfl, rfl⟩ | ⟨1, _⟩ => ⟨rfl, rfl⟩⟩

include hi hq in
/-- What the mask accumulator holds after the last point. -/
theorem acc25 (hO : Ok m) (hT : ∀ c : Dev nD, TblOk c (tbl m 0) (tbl m 1)) (c : Dev nD) (x : S1x1.Idx) :
    (outsAt0 m hO hT c (⟨4, (by decide : 4 < grid0.N)⟩ : Fin (cfgM m hO).N).val (⟨4, (by decide : 4 < grid0.N)⟩ : Fin (cfgM m hO).N).isLt).2.2.2 x = ∑ n : Fin 80, (Loss.total fun i j => Loss.bce (Loss.M (m ((c : Thread nD τ).loc main_arg1)) q n i j) (Loss.T (m ((c : Thread nD τ).loc main_arg3)) n i j)) := by
  have h := Pipeline.eq_sum_fin_of_reset_step_apply_last (M := EReal) (fun n h => (outsAt0 m hO hT c n h).2.2.2) 5 (fun _ => 0) (fun t _ => ∑ k : Fin 16, (Loss.total fun i j => Loss.bce (Loss.M (m ((c : Thread nD τ).loc main_arg1)) q (nth t k) i j) (Loss.T (m ((c : Thread nD τ).loc main_arg3)) (nth t k) i j)))
    (fun t h j => by
      rw [outsAt0_A m hO hT c t h]
      exact (stepA_25 m hi q hq hO hT c t h j).trans (congrArg (· + _) Ideal.ofBits_zero_f32))
    (fun t h j => by
      rw [outsAt0_B m hO hT c t h]
      exact (stepB_25 m hi q hq hO hT c t h (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2 j).trans (congrArg (fun y => (outsAt0 m hO hT c (t.val - 1) (Nat.lt_of_le_of_lt (Nat.sub_le _ _) t.isLt)).2.2.2 y + _) (unit_eq _ _)))
    (le_of_eq N_0) (⟨4, (by decide : 4 < grid0.N)⟩ : Fin (cfgM m hO).N) rfl x
  exact h.trans ((zero_add (_ : EReal)).trans (sum_points fun n => (Loss.total fun i j => Loss.bce (Loss.M (m ((c : Thread nD τ).loc main_arg1)) q n i j) (Loss.T (m ((c : Thread nD τ).loc main_arg3)) n i j))))

include hi hq in
/-- The mask result of the region. -/
theorem arr25 (hO : Ok m) (hT : ∀ c : Dev nD, TblOk c (tbl m 0) (tbl m 1)) (c : Dev nD) :
    (dats m hO hT 0 c).arrAt 25 (cfgM m hO).N = fun _ => ∑ n : Fin 80, (Loss.total fun i j => Loss.bce (Loss.M (m ((c : Thread nD τ).loc main_arg1)) q n i j) (Loss.T (m ((c : Thread nD τ).loc main_arg3)) n i j)) := by
  refine (dats m hO hT 0 c).arrAt_eq_of_after_last 25 ⟨4, (by decide : 4 < grid0.N)⟩ (whole25 m hO) _ fun j => ?_
  blk_simp
  rw [after0_25]
  exact acc25 m hi q hq hO hT c _

/-- The host lines' mask loss. -/
theorem host25 (U : Valuation τ sig (Elt Ideal)) :
    StableHlo.after (hostOps1 (F := Ideal)) U (Proc.devRef .tc main_v55) = (fun _ => Ideal.div (Ideal.ofBits FTy.f32 0x40A00000#32 * (show Vec Ideal S1x1 .f32 from U (Proc.devRef .tc main_v43_3)) (ix2 0 0)) (Ideal.ofBits FTy.f32 0x49A00000#32) : FVec Ideal S_ .f32) := by
  funext x
  after_reads_at

include hi hq in
/-- The kernel's mask loss. -/
theorem result25 (hO : Ok m) (hT : ∀ c : Dev nD, TblOk c (tbl m 0) (tbl m 1)) (c : Dev nD) :
    Pipeline.afterTail pcfgs (fun _ => adm m hO) (dats m hO hT) 0 (V0 m) [hostOps1] c main_v55
      = (fun _ => Ideal.div (Ideal.ofBits FTy.f32 0x40A00000#32 * ∑ n : Fin 80, (Loss.total fun i j => Loss.bce (Loss.M (m ((c : Thread nD τ).loc main_arg1)) q n i j) (Loss.T (m ((c : Thread nD τ).loc main_arg3)) n i j))) (Ideal.ofBits FTy.f32 0x49A00000#32) : FVec Ideal S_ .f32) := by
  unfold Pipeline.afterTail
  refine (host25 _).trans (funext fun _ => congrArg (fun z => Ideal.div (Ideal.ofBits FTy.f32 0x40A00000#32 * z) (Ideal.ofBits FTy.f32 0x49A00000#32)) ?_)
  exact congrFun (((dats m hO hT 0 c).withArrays_arrAt sharedIn0 (V0 m c) (A_eq m hO hT c) 25).trans (arr25 m hi q hq hO hT c)) (ix2 0 0)

/-- The dice accumulator is written back once, at the last point. -/
theorem whole24 (hO : Ok m) : ((cfgM m hO).win 24).WholeAt ⟨4, (by decide : 4 < grid0.N)⟩ :=
  ⟨(flush0_24 (adm m hO) _).mpr rfl, fun t h => Fin.ext (by
    have h1 := (flush0_24 (adm m hO) t).mp h
    have h2 : t.val < 5 := lt_of_lt_of_eq t.isLt (show (cfgM m hO).N = 5 from N_0)
    show t.val = 4
    omega), fun a => match a with | ⟨0, _⟩ => ⟨rfl, rfl⟩ | ⟨1, _⟩ => ⟨rfl, rfl⟩⟩

include hi hq in
/-- What the dice accumulator holds after the last point. -/
theorem acc24 (hO : Ok m) (hT : ∀ c : Dev nD, TblOk c (tbl m 0) (tbl m 1)) (c : Dev nD) (x : S1x1.Idx) :
    (outsAt0 m hO hT c (⟨4, (by decide : 4 < grid0.N)⟩ : Fin (cfgM m hO).N).val (⟨4, (by decide : 4 < grid0.N)⟩ : Fin (cfgM m hO).N).isLt).2.2.1 x = ∑ n : Fin 80, Loss.dice (fun i j => Loss.sgm (Loss.M (m ((c : Thread nD τ).loc main_arg1)) q n i j)) (Loss.T (m ((c : Thread nD τ).loc main_arg3)) n) := by
  have h := Pipeline.eq_sum_fin_of_reset_step_apply_last (M := EReal) (fun n h => (outsAt0 m hO hT c n h).2.2.1) 5 (fun _ => 0) (fun t _ => ∑ k : Fin 16, Loss.dice (fun i j => Loss.sgm (Loss.M (m ((c : Thread nD τ).loc main_arg1)) q (nth t k) i j)) (Loss.T (m ((c : Thread nD τ).loc main_arg3)) (nth t k)))
    (fun t h j => by
      rw [outsAt0_A m hO hT c t h]
      exact (stepA_24 m hi q hq hO hT c t h j).trans (congrArg (· + _) Ideal.ofBits_zero_f32))
    (fun t h j => by
      rw [outsAt0_B m hO hT c t h]
      exact (stepB_24 m hi q hq hO hT c t h (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2 j).trans (congrArg (fun y => (outsAt0 m hO hT c (t.val - 1) (Nat.lt_of_le_of_lt (Nat.sub_le _ _) t.isLt)).2.2.1 y + _) (unit_eq _ _)))
    (le_of_eq N_0) (⟨4, (by decide : 4 < grid0.N)⟩ : Fin (cfgM m hO).N) rfl x
  exact h.trans ((zero_add (_ : EReal)).trans (sum_points fun n => Loss.dice (fun i j => Loss.sgm (Loss.M (m ((c : Thread nD τ).loc main_arg1)) q n i j)) (Loss.T (m ((c : Thread nD τ).loc main_arg3)) n)))

include hi hq in
/-- The dice result of the region. -/
theorem arr24 (hO : Ok m) (hT : ∀ c : Dev nD, TblOk c (tbl m 0) (tbl m 1)) (c : Dev nD) :
    (dats m hO hT 0 c).arrAt 24 (cfgM m hO).N = fun _ => ∑ n : Fin 80, Loss.dice (fun i j => Loss.sgm (Loss.M (m ((c : Thread nD τ).loc main_arg1)) q n i j)) (Loss.T (m ((c : Thread nD τ).loc main_arg3)) n) := by
  refine (dats m hO hT 0 c).arrAt_eq_of_after_last 24 ⟨4, (by decide : 4 < grid0.N)⟩ (whole24 m hO) _ fun j => ?_
  blk_simp
  rw [after0_24]
  exact acc24 m hi q hq hO hT c _

/-- The host lines' dice loss. -/
theorem host24 (U : Valuation τ sig (Elt Ideal)) :
    StableHlo.after (hostOps1 (F := Ideal)) U (Proc.devRef .tc main_v52) = (fun _ => Ideal.div (Ideal.ofBits FTy.f32 0x40000000#32 * (show Vec Ideal S1x1 .f32 from U (Proc.devRef .tc main_v43_2)) (ix2 0 0)) (Ideal.ofBits FTy.f32 0x42A00000#32) : FVec Ideal S_ .f32) := by
  funext x
  after_reads_at

include hi hq in
/-- The kernel's dice loss. -/
theorem result24 (hO : Ok m) (hT : ∀ c : Dev nD, TblOk c (tbl m 0) (tbl m 1)) (c : Dev nD) :
    Pipeline.afterTail pcfgs (fun _ => adm m hO) (dats m hO hT) 0 (V0 m) [hostOps1] c main_v52
      = (fun _ => Ideal.div (Ideal.ofBits FTy.f32 0x40000000#32 * ∑ n : Fin 80, Loss.dice (fun i j => Loss.sgm (Loss.M (m ((c : Thread nD τ).loc main_arg1)) q n i j)) (Loss.T (m ((c : Thread nD τ).loc main_arg3)) n)) (Ideal.ofBits FTy.f32 0x42A00000#32) : FVec Ideal S_ .f32) := by
  unfold Pipeline.afterTail
  refine (host24 _).trans (funext fun _ => congrArg (fun z => Ideal.div (Ideal.ofBits FTy.f32 0x40000000#32 * z) (Ideal.ofBits FTy.f32 0x42A00000#32)) ?_)
  exact congrFun (((dats m hO hT 0 c).withArrays_arrAt sharedIn0 (V0 m c) (A_eq m hO hT c) 24).trans (arr24 m hi q hq hO hT c)) (ix2 0 0)

end Cert.KernelIdeal.Gen

end
-- ==== Proof.Value.Objs.lean ====
/- The kernel's objectness loss: each point adds its sixteen matches' parts. -/
module

public import proofs.«01_k».proof.Proof.Value.Scores
public import proofs.«01_k».proof.Proof.Value.Fold

@[expose] public section

set_option maxRecDepth 16384

noncomputable section

namespace Cert.Loss

open Idealize.ShloMosaic

/-- A match's image is one of eight. -/
theorem img_lt (n : Fin 80) : n.val / 10 < 8 := by omega

/-- Each match's score: its query's. -/
def Sc (a2 : Vec Ideal Cert.ReferenceIdeal.S8x100x1 .f32) (q : Fin 80 → Fin 100) (n : Fin 80) : EReal :=
  a2 (ix3 ⟨n.val / 10, img_lt n⟩ (q n) 0)

end Cert.Loss

namespace Cert.KernelIdeal.Gen

open Idealize.ShloMosaic Idealize.ShloMosaic.TcCoe Idealize.ShloMosaic.Tactic
open Idealize.ShloMosaic.Pipeline (Dat Cfg Window BodyObligation cellOf)

/-- Sixteen elements in a row, read at the `k`-th. -/
theorem elems16 {α : Type} (a : Fin 16 → (S1.Idx → α)) (k : Fin 16) :
    concatenate S16 0 [⟨S1, a 0⟩, ⟨S1, a 1⟩, ⟨S1, a 2⟩, ⟨S1, a 3⟩, ⟨S1, a 4⟩, ⟨S1, a 5⟩, ⟨S1, a 6⟩, ⟨S1, a 7⟩, ⟨S1, a 8⟩, ⟨S1, a 9⟩, ⟨S1, a 10⟩, ⟨S1, a 11⟩, ⟨S1, a 12⟩, ⟨S1, a 13⟩, ⟨S1, a 14⟩, ⟨S1, a 15⟩] concatenates_S1_S1_S1_S1_S1_S1_S1_S1_S1_S1_S1_S1_S1_S1_S1_S1_S16_d0 (ix1 k) = a k (ix1 0) := by
  refine concatenate_ofFn_apply (t := S16) (s₁ := S1) 0 a _ rfl 1 rfl (ix1 k) k ?_ (ix1 0) ?_ ?_
  · show k.val / 1 = k.val
    omega
  · show 0 = k.val % 1
    omega
  · intro b hb
    match b with
    | ⟨0, _⟩ => exact absurd rfl hb

/-- The score a point reads for its `k`-th match. -/
theorem scs_at (s0 s1 s2 s3 s4 s5 s6 s7 s8 s9 s10 s11 s12 s13 s14 s15 : Vec Ideal S1x1 .f32) (k : Fin 16) : scs s0 s1 s2 s3 s4 s5 s6 s7 s8 s9 s10 s11 s12 s13 s14 s15 (ix1 k) = (![s0, s1, s2, s3, s4, s5, s6, s7, s8, s9, s10, s11, s12, s13, s14, s15] k) (ix2 0 0) := by
  unfold scs k0_pay60
  refine (elems16 (![broadcast S1 (k0_pay48 s0), broadcast S1 (k0_pay49 s1), broadcast S1 (k0_pay50 s2), broadcast S1 (k0_pay51 s3), broadcast S1 (k0_pay52 s4), broadcast S1 (k0_pay53 s5), broadcast S1 (k0_pay54 s6), broadcast S1 (k0_pay55 s7), broadcast S1 (k0_pay56 s8), broadcast S1 (k0_pay57 s9), broadcast S1 (k0_pay58 s10), broadcast S1 (k0_pay59 s11), broadcast S1 (extractAt ![0, 0] s12 inpos_S1x1_p0_0), broadcast S1 (extractAt ![0, 0] s13 inpos_S1x1_p0_0), broadcast S1 (extractAt ![0, 0] s14 inpos_S1x1_p0_0), broadcast S1 (extractAt ![0, 0] s15 inpos_S1x1_p0_0)] : Fin 16 → FVec Ideal S1 .f32) k).trans ?_
  match k with
  | ⟨0, _⟩ => exact congrArg s0 (unit_eq _ _)
  | ⟨1, _⟩ => exact congrArg s1 (unit_eq _ _)
  | ⟨2, _⟩ => exact congrArg s2 (unit_eq _ _)
  | ⟨3, _⟩ => exact congrArg s3 (unit_eq _ _)
  | ⟨4, _⟩ => exact congrArg s4 (unit_eq _ _)
  | ⟨5, _⟩ => exact congrArg s5 (unit_eq _ _)
  | ⟨6, _⟩ => exact congrArg s6 (unit_eq _ _)
  | ⟨7, _⟩ => exact congrArg s7 (unit_eq _ _)
  | ⟨8, _⟩ => exact congrArg s8 (unit_eq _ _)
  | ⟨9, _⟩ => exact congrArg s9 (unit_eq _ _)
  | ⟨10, _⟩ => exact congrArg s10 (unit_eq _ _)
  | ⟨11, _⟩ => exact congrArg s11 (unit_eq _ _)
  | ⟨12, _⟩ => exact congrArg s12 (unit_eq _ _)
  | ⟨13, _⟩ => exact congrArg s13 (unit_eq _ _)
  | ⟨14, _⟩ => exact congrArg s14 (unit_eq _ _)
  | ⟨15, _⟩ => exact congrArg s15 (unit_eq _ _)
  | ⟨n + 16, h⟩ => exact absurd h (by omega)

section
variable (x0 : Vec Ideal S1x160x80 .f32) (T : FVec Ideal S2048x128 .f32) (x4 x5 x6 x7 x8 x9 x10 x11 x12 x13 x14 x15 x16 x17 x18 x19 : Vec Ideal S1x128x128 .f32) (acc : EReal) (s0 s1 s2 s3 s4 s5 s6 s7 s8 s9 s10 s11 s12 s13 s14 s15 : Vec Ideal S1x1 .f32)
  (N P : Fin 16 → Fin 128 → Fin 128 → EReal) (hN : ∀ k i j, (![x4, x5, x6, x7, x8, x9, x10, x11, x12, x13, x14, x15, x16, x17, x18, x19] k) (ix3 0 i j) = N k i j) (hP : ∀ k i j, T (ix2 (Cert.Point.row k i) j) = P k i j)
  (Z : Fin 16 → EReal) (hZ : ∀ k : Fin 16, (![s0, s1, s2, s3, s4, s5, s6, s7, s8, s9, s10, s11, s12, s13, s14, s15] k) (ix2 0 0) = Z k)

/-- What a point adds to the objectness loss, of vectors of ratios and scores. -/
theorem bce16 (I S : FVec Ideal S16 .f32) : k0_pay1 (F := Ideal) acc (k0_pay93 I S) = acc + ∑ k : Fin 16, Loss.bce (S (ix1 k)) (I (ix1 k)) := by
  pointwise [k0_pay1, k0_pay93]
  simp only [zero_sub]
  rfl

include hN hP hZ in
/-- What a point adds to the objectness loss. -/
theorem point23 : k0_pay1 (F := Ideal) acc (k0_pay93 (Cert.Point.ious x0 T x4 x5 x6 x7 x8 x9 x10 x11 x12 x13 x14 x15 x16 x17 x18 x19) (scs s0 s1 s2 s3 s4 s5 s6 s7 s8 s9 s10 s11 s12 s13 s14 s15)) = acc + ∑ k : Fin 16, Loss.bce (Z k) (Loss.iou (fun i j => Loss.sgm (N k i j)) (P k)) := by
  have e : ∀ k : Fin 16, Cert.Point.ious x0 T x4 x5 x6 x7 x8 x9 x10 x11 x12 x13 x14 x15 x16 x17 x18 x19 (ix1 k) = Loss.iou (fun i j => Loss.sgm (N k i j)) (P k) := fun k => by
    rw [Cert.Point.ious_eq]
    simp only [hN, hP]
  rw [bce16]
  simp only [e, scs_at, hZ]

end

variable (m : (ℓ : Loc nD τ sig) → Buf (Elt Ideal) ℓ)
variable (hi : IntsAt m (0 : Dev nD)) (q : Fin 80 → Fin 100)
  (hq : ∀ n : Fin 80, (show BitVec 32 from m (((0 : Dev nD) : Thread nD τ).loc main_arg5) (ix2 (img n) (slot n))).toNat = (q n).val)

/-- The score at a match's row. -/
theorem Sc_row (q : Fin 80 → Fin 100) (c : Dev nD) (n : Fin 80) :
    V m c main_v42 (ix2 (rowOf (q n) n) 0) = Loss.Sc (m ((c : Thread nD τ).loc main_arg2)) q n := by
  rw [V42]
  have e1 : (rowOf (q n) n).val / 100 = n.val / 10 := by show (100 * (n.val / 10) + (q n).val) / 100 = _; omega
  have e2 : (rowOf (q n) n).val % 100 = (q n).val := by show (100 * (n.val / 10) + (q n).val) % 100 = _; omega
  unfold Loss.Sc
  congr 2 <;> exact Fin.ext (by assumption)

include hi hq in
/-- A first point's objectness loss. -/
theorem stepA_23 (hO : Ok m) (hT : ∀ c : Dev nD, TblOk c (tbl m 0) (tbl m 1)) (c : Dev nD) (t : Fin (cfgM m hO).N) (h0 : t.val % 5 = 0) (x : S1x1.Idx) :
    outA_23 m hO hT c t h0 x = FloatOps.ofBits (F := Ideal) FTy.f32 0#32 + ∑ k : Fin 16, Loss.bce (Loss.Sc (m ((c : Thread nD τ).loc main_arg2)) q (nth t k)) (Loss.iou (fun i j => Loss.sgm (Loss.M (m ((c : Thread nD τ).loc main_arg1)) q (nth t k) i j)) (Loss.T (m ((c : Thread nD τ).loc main_arg3)) (nth t k))) := by
  have h : ∃ s0 s1 s2 s3 s4 s5 s6 s7 s8 s9 s10 s11 s12 s13 s14 s15 : Vec Ideal S1x1 .f32, (∀ k : Fin 16, (![s0, s1, s2, s3, s4, s5, s6, s7, s8, s9, s10, s11, s12, s13, s14, s15] k) (ix2 0 0) = (show Vec Ideal S800x1 .f32 from iblk m hO c 2 t) (ix2 (rowOf (q (nth t k)) (nth t k)) 0)) ∧
      outA_23 m hO hT c t h0 = fun _ => k0_pay1 (F := Ideal) (FloatOps.ofBits (F := Ideal) FTy.f32 0#32) (k0_pay93 (Cert.Point.ious (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (scs s0 s1 s2 s3 s4 s5 s6 s7 s8 s9 s10 s11 s12 s13 s14 s15)) := by
    unfold outA_23 runA
    exact outA_23_val _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => rowOf (q (nth t k)) (nth t k)) (fun k => rowOf_toNat m hi q hq _)
  obtain ⟨s0, s1, s2, s3, s4, s5, s6, s7, s8, s9, s10, s11, s12, s13, s14, s15, hs, h⟩ := h
  exact (congrFun h x).trans (point23 _ _ _ _ _ _ _ _ _ _ _ _ _ _ _ _ _ _ _ _ _ _ _ _ _ _ _ _ _ _ _ _ _ _ _ _ _ (masks_blk m hi q hq hO c t) (tgts_blk m hO c t) _ (fun k => (hs k).trans ((blk2 m hO c t _).trans (Sc_row m q c _))))

include hi hq in
/-- A later point's objectness loss. -/
theorem stepB_23 (hO : Ok m) (hT : ∀ c : Dev nD, TblOk c (tbl m 0) (tbl m 1)) (c : Dev nD) (t : Fin (cfgM m hO).N) (h0 : ¬t.val % 5 = 0) (a22 a23 a24 a25 : Vec Ideal S1x1 .f32) (x : S1x1.Idx) :
    outB_23 m hO hT c t h0 a22 a23 a24 a25 x = a23 (ix2 0 0) + ∑ k : Fin 16, Loss.bce (Loss.Sc (m ((c : Thread nD τ).loc main_arg2)) q (nth t k)) (Loss.iou (fun i j => Loss.sgm (Loss.M (m ((c : Thread nD τ).loc main_arg1)) q (nth t k) i j)) (Loss.T (m ((c : Thread nD τ).loc main_arg3)) (nth t k))) := by
  have h : ∃ s0 s1 s2 s3 s4 s5 s6 s7 s8 s9 s10 s11 s12 s13 s14 s15 : Vec Ideal S1x1 .f32, (∀ k : Fin 16, (![s0, s1, s2, s3, s4, s5, s6, s7, s8, s9, s10, s11, s12, s13, s14, s15] k) (ix2 0 0) = (show Vec Ideal S800x1 .f32 from iblk m hO c 2 t) (ix2 (rowOf (q (nth t k)) (nth t k)) 0)) ∧
      outB_23 m hO hT c t h0 a22 a23 a24 a25 = fun _ => k0_pay1 (F := Ideal) (a23 (ix2 0 0)) (k0_pay93 (Cert.Point.ious (iblk m hO c 0 t) (Cert.Point.tgts (iblk m hO c 3 t) (iblk m hO c 20 t) (iblk m hO c 21 t)) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t)) (scs s0 s1 s2 s3 s4 s5 s6 s7 s8 s9 s10 s11 s12 s13 s14 s15)) := by
    unfold outB_23 runB
    exact outB_23_val _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => rowOf (q (nth t k)) (nth t k)) (fun k => rowOf_toNat m hi q hq _)
  obtain ⟨s0, s1, s2, s3, s4, s5, s6, s7, s8, s9, s10, s11, s12, s13, s14, s15, hs, h⟩ := h
  exact (congrFun h x).trans (point23 _ _ _ _ _ _ _ _ _ _ _ _ _ _ _ _ _ _ _ _ _ _ _ _ _ _ _ _ _ _ _ _ _ _ _ _ _ (masks_blk m hi q hq hO c t) (tgts_blk m hO c t) _ (fun k => (hs k).trans ((blk2 m hO c t _).trans (Sc_row m q c _))))

/-- The objectness accumulator is written back once, at the last point. -/
theorem whole23 (hO : Ok m) : ((cfgM m hO).win 23).WholeAt ⟨4, (by decide : 4 < grid0.N)⟩ :=
  ⟨(flush0_23 (adm m hO) _).mpr rfl, fun t h => Fin.ext (by
    have h1 := (flush0_23 (adm m hO) t).mp h
    have h2 : t.val < 5 := lt_of_lt_of_eq t.isLt (show (cfgM m hO).N = 5 from N_0)
    show t.val = 4
    omega), fun a => match a with | ⟨0, _⟩ => ⟨rfl, rfl⟩ | ⟨1, _⟩ => ⟨rfl, rfl⟩⟩

include hi hq in
/-- What the objectness accumulator holds after the last point. -/
theorem acc23 (hO : Ok m) (hT : ∀ c : Dev nD, TblOk c (tbl m 0) (tbl m 1)) (c : Dev nD) (x : S1x1.Idx) :
    (outsAt0 m hO hT c (⟨4, (by decide : 4 < grid0.N)⟩ : Fin (cfgM m hO).N).val (⟨4, (by decide : 4 < grid0.N)⟩ : Fin (cfgM m hO).N).isLt).2.1 x = ∑ n : Fin 80, Loss.bce (Loss.Sc (m ((c : Thread nD τ).loc main_arg2)) q n) (Loss.iou (fun i j => Loss.sgm (Loss.M (m ((c : Thread nD τ).loc main_arg1)) q n i j)) (Loss.T (m ((c : Thread nD τ).loc main_arg3)) n)) := by
  have h := Pipeline.eq_sum_fin_of_reset_step_apply_last (M := EReal) (fun n h => (outsAt0 m hO hT c n h).2.1) 5 (fun _ => 0) (fun t _ => ∑ k : Fin 16, Loss.bce (Loss.Sc (m ((c : Thread nD τ).loc main_arg2)) q (nth t k)) (Loss.iou (fun i j => Loss.sgm (Loss.M (m ((c : Thread nD τ).loc main_arg1)) q (nth t k) i j)) (Loss.T (m ((c : Thread nD τ).loc main_arg3)) (nth t k))))
    (fun t h j => by
      rw [outsAt0_A m hO hT c t h]
      exact (stepA_23 m hi q hq hO hT c t h j).trans (congrArg (· + _) Ideal.ofBits_zero_f32))
    (fun t h j => by
      rw [outsAt0_B m hO hT c t h]
      exact (stepB_23 m hi q hq hO hT c t h (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2 j).trans (congrArg (fun y => (outsAt0 m hO hT c (t.val - 1) (Nat.lt_of_le_of_lt (Nat.sub_le _ _) t.isLt)).2.1 y + _) (unit_eq _ _)))
    (le_of_eq N_0) (⟨4, (by decide : 4 < grid0.N)⟩ : Fin (cfgM m hO).N) rfl x
  exact h.trans ((zero_add (_ : EReal)).trans (sum_points fun n => Loss.bce (Loss.Sc (m ((c : Thread nD τ).loc main_arg2)) q n) (Loss.iou (fun i j => Loss.sgm (Loss.M (m ((c : Thread nD τ).loc main_arg1)) q n i j)) (Loss.T (m ((c : Thread nD τ).loc main_arg3)) n))))

include hi hq in
/-- The objectness result of the region. -/
theorem arr23 (hO : Ok m) (hT : ∀ c : Dev nD, TblOk c (tbl m 0) (tbl m 1)) (c : Dev nD) :
    (dats m hO hT 0 c).arrAt 23 (cfgM m hO).N = fun _ => ∑ n : Fin 80, Loss.bce (Loss.Sc (m ((c : Thread nD τ).loc main_arg2)) q n) (Loss.iou (fun i j => Loss.sgm (Loss.M (m ((c : Thread nD τ).loc main_arg1)) q n i j)) (Loss.T (m ((c : Thread nD τ).loc main_arg3)) n)) := by
  refine (dats m hO hT 0 c).arrAt_eq_of_after_last 23 ⟨4, (by decide : 4 < grid0.N)⟩ (whole23 m hO) _ fun j => ?_
  blk_simp
  rw [after0_23]
  exact acc23 m hi q hq hO hT c _

/-- The host lines' objectness loss. -/
theorem host23 (U : Valuation τ sig (Elt Ideal)) :
    StableHlo.after (hostOps1 (F := Ideal)) U (Proc.devRef .tc main_v49) = (fun _ => Ideal.div (Ideal.ofBits FTy.f32 0x3F800000#32 * (show Vec Ideal S1x1 .f32 from U (Proc.devRef .tc main_v43_1)) (ix2 0 0)) (Ideal.ofBits FTy.f32 0x42A00000#32) : FVec Ideal S_ .f32) := by
  funext x
  after_reads_at

include hi hq in
/-- The kernel's objectness loss. -/
theorem result23 (hO : Ok m) (hT : ∀ c : Dev nD, TblOk c (tbl m 0) (tbl m 1)) (c : Dev nD) :
    Pipeline.afterTail pcfgs (fun _ => adm m hO) (dats m hO hT) 0 (V0 m) [hostOps1] c main_v49
      = (fun _ => Ideal.div (Ideal.ofBits FTy.f32 0x3F800000#32 * ∑ n : Fin 80, Loss.bce (Loss.Sc (m ((c : Thread nD τ).loc main_arg2)) q n) (Loss.iou (fun i j => Loss.sgm (Loss.M (m ((c : Thread nD τ).loc main_arg1)) q n i j)) (Loss.T (m ((c : Thread nD τ).loc main_arg3)) n))) (Ideal.ofBits FTy.f32 0x42A00000#32) : FVec Ideal S_ .f32) := by
  unfold Pipeline.afterTail
  refine (host23 _).trans (funext fun _ => congrArg (fun z => Ideal.div (Ideal.ofBits FTy.f32 0x3F800000#32 * z) (Ideal.ofBits FTy.f32 0x42A00000#32)) ?_)
  exact congrFun (((dats m hO hT 0 c).withArrays_arrAt sharedIn0 (V0 m c) (A_eq m hO hT c) 23).trans (arr23 m hi q hq hO hT c)) (ix2 0 0)

end Cert.KernelIdeal.Gen

end
-- ==== Proof.Value.Focal.lean ====
/- The focal terms of the classification loss, and the split of their sum into all terms and the matches' corrections. -/
module

public import proofs.«01_k».proof.Proof.Value.Weights
public import proofs.«01_k».proof.Proof.Value.Loss

@[expose] public section

set_option maxRecDepth 16384

noncomputable section

namespace Cert.Loss

open Idealize.ShloMosaic

/-- The focal term of a logit whose class is not its query's. -/
def f0 (x : EReal) : EReal :=
  Ideal.ofBits FTy.f32 0x3F400000#32 * sgm x * sgm x * (max x 0 + Ideal.log1p (Ideal.exp (-max x (-x))))

/-- The focal term of a logit whose class is its query's. -/
def f1 (x : EReal) : EReal :=
  Ideal.ofBits FTy.f32 0x3E800000#32 * (1 - sgm x) * (1 - sgm x) * (max x 0 - x + Ideal.log1p (Ideal.exp (-max x (-x))))

/-- Three quarters. -/
theorem threeq : Ideal.ofBits FTy.f32 0x3F400000#32 = ((3 / 4 : ℝ) : EReal) := by
  simp [Ideal.ofBits, Ideal.ieee, -EReal.coe_mul, -EReal.coe_neg]; norm_num [-EReal.coe_neg]

/-- One quarter. -/
theorem oneq : Ideal.ofBits FTy.f32 0x3E800000#32 = ((1 / 4 : ℝ) : EReal) := by
  simp [Ideal.ofBits, Ideal.ieee, -EReal.coe_mul, -EReal.coe_neg]; norm_num [-EReal.coe_neg]

/-- Two. -/
theorem two : Ideal.ofBits FTy.f32 0x40000000#32 = ((2 : ℝ) : EReal) := by
  simp [Ideal.ofBits, Ideal.ieee, -EReal.coe_mul, -EReal.coe_neg]; norm_num [-EReal.coe_neg]

/-- The logistic function of a real. -/
theorem sgm_coe (x : ℝ) : sgm (x : EReal) = ((1 / (1 + Real.exp (-x)) : ℝ) : EReal) := by
  unfold sgm
  rw [← EReal.coe_neg, Ideal.exp_coe, ← EReal.coe_one, ← EReal.coe_add, Weights.div_real _ _ (by positivity)]

/-- The softened corner of a real. -/
theorem soft_coe (x : ℝ) : Ideal.log1p (Ideal.exp (-max (x : EReal) (-(x : EReal)))) = ((Real.log (1 + Real.exp (-max x (-x))) : ℝ) : EReal) := by
  have h : ¬(1 + Real.exp (-max x (-x)) ≤ 0) := not_le.mpr (by positivity)
  rw [← EReal.coe_neg, Weights.max_coe, ← EReal.coe_neg, Ideal.exp_coe]
  unfold Ideal.log1p
  rw [← EReal.coe_one, ← EReal.coe_add, Ideal.log_coe, if_neg h]

/-- The first focal term is real at a real. -/
theorem f0_real (x : ℝ) : ∃ y : ℝ, f0 (x : EReal) = (y : EReal) := by
  unfold f0
  rw [threeq, sgm_coe, soft_coe, ← EReal.coe_zero, Weights.max_coe]
  simp only [← EReal.coe_mul, ← EReal.coe_add, ← EReal.coe_sub]
  exact ⟨_, rfl⟩

/-- The second focal term is real at a real. -/
theorem f1_real (x : ℝ) : ∃ y : ℝ, f1 (x : EReal) = (y : EReal) := by
  unfold f1
  rw [oneq, sgm_coe, soft_coe, ← EReal.coe_zero, Weights.max_coe, ← EReal.coe_one]
  simp only [← EReal.coe_mul, ← EReal.coe_add, ← EReal.coe_sub]
  exact ⟨_, rfl⟩

/-- The reference's focal term at an indicator `t`. -/
def term (x t : EReal) : EReal :=
  (max x 0 - x * t + Ideal.log1p (Ideal.exp (-max x (-x)))) *
    ((Ideal.ofBits FTy.f32 0x3E800000#32 * t + Ideal.ofBits FTy.f32 0x3F400000#32 * (1 - t)) *
      Ideal.pow ((1 - sgm x) * t + sgm x * (1 - t)) (Ideal.ofBits FTy.f32 0x40000000#32))

/-- The square of a real. -/
theorem pow_two (p : ℝ) : Ideal.pow (p : EReal) ((2 : ℝ) : EReal) = ((p * p : ℝ) : EReal) := by
  show ((Real.rpow p 2 : ℝ) : EReal) = _
  congr 1
  exact (Real.rpow_two p).trans (sq p)

/-- Where the indicator is zero. -/
theorem term_zero (x : ℝ) : term (x : EReal) 0 = f0 (x : EReal) := by
  unfold term f0
  rw [two, threeq, oneq, sgm_coe, soft_coe, ← EReal.coe_zero, Weights.max_coe, ← EReal.coe_one]
  simp only [← EReal.coe_mul, ← EReal.coe_add, ← EReal.coe_sub, pow_two]
  congr 1
  ring

/-- Where the indicator is one. -/
theorem term_one (x : ℝ) : term (x : EReal) 1 = f1 (x : EReal) := by
  unfold term f1
  rw [two, threeq, oneq, sgm_coe, soft_coe, ← EReal.coe_zero, Weights.max_coe, ← EReal.coe_one]
  simp only [← EReal.coe_mul, ← EReal.coe_add, ← EReal.coe_sub, pow_two]
  congr 1
  ring

/-- A sum of first terms but at the hits, each hit a match's, is the sum of first terms and the matches' corrections. -/
theorem total_split (x : Fin 800 → Fin 80 → ℝ) (e : Fin 80 → Fin 800) (l : Fin 80 → Fin 80) (he : Function.Injective e) (hit : Fin 800 → Fin 80 → Prop)
    (h1 : ∀ n j, hit (e n) j ↔ l n = j) (h2 : ∀ r, (∀ n, e n ≠ r) → ∀ j, ¬hit r j) (v : Fin 800 → Fin 80 → EReal)
    (hv1 : ∀ r j, hit r j → v r j = f1 (x r j : EReal)) (hv0 : ∀ r j, ¬hit r j → v r j = f0 (x r j : EReal)) :
    (∑ r, ∑ j, v r j) = (∑ r, ∑ j, f0 (x r j : EReal)) + ∑ n, (f1 (x (e n) (l n) : EReal) - f0 (x (e n) (l n) : EReal)) := by
  classical
  choose g0 hg0 using f0_real
  choose g1 hg1 using f1_real
  have hv : ∀ r j, v r j = ((g0 (x r j) + (if hit r j then g1 (x r j) - g0 (x r j) else 0) : ℝ) : EReal) := fun r j => by
    by_cases h : hit r j
    · rw [hv1 r j h, hg1, if_pos h]
      congr 1
      ring
    · rw [hv0 r j h, hg0, if_neg h, add_zero]
  simp only [hv, hg0, hg1, ← EReal.coe_sub, Weights.sum_coe, ← EReal.coe_add]
  congr 1
  simp only [Finset.sum_add_distrib]
  congr 1
  rw [← Fintype.sum_prod_type' (f := fun r j => if hit r j then g1 (x r j) - g0 (x r j) else 0)]
  symm
  refine Finset.sum_of_injOn (fun n => (e n, l n)) (fun a _ b _ h => he (congrArg Prod.fst h)) (fun _ _ => Finset.mem_univ _) ?_ ?_
  · rintro ⟨r, j⟩ - hn
    refine if_neg fun h => ?_
    by_cases hr : ∀ n, e n ≠ r
    · exact h2 r hr j h
    · obtain ⟨n, hr'⟩ := not_forall.mp hr
      obtain rfl := not_not.mp hr'
      exact hn ⟨n, Finset.mem_univ _, congrArg (Prod.mk (e n)) ((h1 n j).mp h)⟩
  · intro n _
    exact (if_pos ((h1 n (l n)).mpr rfl)).symm

end Cert.Loss
end
-- ==== Proof.Value.Picked.lean ====
/- What a point adds to the classification loss: the focal terms of its block of logits, corrected at its matches' classes. -/
module

public import proofs.«01_k».proof.Proof.Value.Rows
public import proofs.«01_k».proof.Proof.Value.Objs
public import proofs.«01_k».proof.Proof.Value.Focal

@[expose] public section

set_option maxRecDepth 16384

noncomputable section

namespace Cert.Point

open Idealize.ShloMosaic Idealize.ShloMosaic.Tactic
open Cert.KernelIdeal Cert.KernelIdeal.Gen

/-- The padded row of column sums of focal terms. -/
theorem pay4_at (x0 : Vec Ideal S1x160x80 .f32) (j : Fin 128) :
    k0_pay4 x0 (ix2 0 j) = if h : j.val < 80 then ∑ i : Fin 160, Loss.f0 (x0 (ix3 0 i ⟨j.val, h⟩)) else 0 := by
  pointwise [k0_pay4]
  split
  · refine Finset.sum_congr rfl fun i _ => ?_
    rw [zero_sub]
    rfl
  · simp

/-- A sum over 128 lanes of which only the first 80 count. -/
theorem sum_lanes (f : Fin 80 → EReal) : (∑ j : Fin 128, if h : j.val < 80 then f ⟨j.val, h⟩ else 0) = ∑ j, f j := by
  refine (Fin.sum_univ_add (a := 80) (b := 48) (fun j : Fin (80 + 48) => if h : j.val < 80 then f ⟨j.val, h⟩ else 0)).trans ?_
  simp

/-- The summed focal terms of a point's block of logits. -/
theorem f0Sum_eq (x0 : Vec Ideal S1x160x80 .f32) (T : FVec Ideal S2048x128 .f32) (x4 x5 x6 x7 x8 x9 x10 x11 x12 x13 x14 x15 x16 x17 x18 x19 : Vec Ideal S1x128x128 .f32) :
    f0Sum x0 T x4 x5 x6 x7 x8 x9 x10 x11 x12 x13 x14 x15 x16 x17 x18 x19 = ∑ i : Fin 160, ∑ j : Fin 80, Loss.f0 (x0 (ix3 0 i j)) := by
  unfold f0Sum
  pointwise [k0_pay45]
  rw [tot7 _ _ _ _ _ _ _ _ _ rfl]
  simp only [pay4_at]
  rw [sum_lanes fun j => ∑ i : Fin 160, Loss.f0 (x0 (ix3 0 i j)), Finset.sum_comm]

end Cert.Point

namespace Cert.KernelIdeal.Gen

open Idealize.ShloMosaic Idealize.ShloMosaic.TcCoe Idealize.ShloMosaic.Tactic
open Idealize.ShloMosaic.Pipeline (Dat Cfg Window BodyObligation cellOf)

/-- The rows a point reads, at the `k`-th. -/
theorem rws_at (w0 w1 w2 w3 w4 w5 w6 w7 w8 w9 w10 w11 w12 w13 w14 w15 : Vec Ideal S1x80 .f32) (k : Fin 16) (j : Fin 80) :
    rws w0 w1 w2 w3 w4 w5 w6 w7 w8 w9 w10 w11 w12 w13 w14 w15 (ix2 k j) = (![w0, w1, w2, w3, w4, w5, w6, w7, w8, w9, w10, w11, w12, w13, w14, w15] k) (ix2 0 j) := by
  have e : ∀ w : Vec Ideal S1x80 .f32, shapeCast S1x80 (shapeCast S80 w shapeCasts_S1x80_S80) shapeCasts_S80_S1x80 (ix2 0 j) = w (ix2 0 j) := fun w => by pointwise
  unfold rws k0_pay88
  refine (concatenate_ofFn_apply (t := S16x80) (s₁ := S1x80) 0 (fun k => shapeCast S1x80 (shapeCast S80 ((![w0, w1, w2, w3, w4, w5, w6, w7, w8, w9, w10, w11, w12, w13, w14, w15] : Fin 16 → Vec Ideal S1x80 .f32) k) shapeCasts_S1x80_S80) shapeCasts_S80_S1x80) _ rfl 1 rfl (ix2 k j) k ?_ (ix2 0 j) ?_ ?_).trans (e _)
  · show k.val / 1 = k.val
    omega
  · show 0 = k.val % 1
    omega
  · intro b hb
    match b with
    | ⟨0, _⟩ => exact absurd rfl hb
    | ⟨1, _⟩ => rfl

/-- Where two words are equal, the first is taken. -/
theorem select_eq (x w : BitVec 32) (a b : EReal) (h : x = w) : Scalar.select (IntOp.cmpi .eq x w) a b = a := by
  subst h
  simp [Scalar.select, IntOp.cmpi]

/-- Where two words differ, the second is taken. -/
theorem select_ne (x w : BitVec 32) (a b : EReal) (h : ¬x = w) : Scalar.select (IntOp.cmpi .eq x w) a b = b := by
  have e : (x == w) = false := beq_false_of_ne h
  simp [Scalar.select, IntOp.cmpi, e]

/-- The logit at a match's class. -/
theorem picked (R : FVec Ideal S16x80 .f32) (l0 l1 l2 l3 l4 l5 l6 l7 l8 l9 l10 l11 l12 l13 l14 l15 : BitVec 32) (k : Fin 16) (l : Fin 80)
    (hl : ((![l0, l1, l2, l3, l4, l5, l6, l7, l8, l9, l10, l11, l12, l13, l14, l15] : Fin 16 → BitVec 32) k).toNat = l.val) :
    k0_pay89 (F := Ideal) R l0 l1 l2 l3 l4 l5 l6 l7 l8 l9 l10 l11 l12 l13 l14 l15 (ix1 k) = R (ix2 k l) := by
  have e : ∀ x : Fin 16, concatenate S16 0 [⟨S1, broadcast S1 l0⟩, ⟨S1, broadcast S1 l1⟩, ⟨S1, broadcast S1 l2⟩, ⟨S1, broadcast S1 l3⟩, ⟨S1, broadcast S1 l4⟩, ⟨S1, broadcast S1 l5⟩, ⟨S1, broadcast S1 l6⟩, ⟨S1, broadcast S1 l7⟩, ⟨S1, broadcast S1 l8⟩, ⟨S1, broadcast S1 l9⟩, ⟨S1, broadcast S1 l10⟩, ⟨S1, broadcast S1 l11⟩, ⟨S1, broadcast S1 l12⟩, ⟨S1, broadcast S1 l13⟩, ⟨S1, broadcast S1 l14⟩, ⟨S1, broadcast S1 l15⟩] concatenates_S1_S1_S1_S1_S1_S1_S1_S1_S1_S1_S1_S1_S1_S1_S1_S1_S16_d0 (ix1 x)
      = (![l0, l1, l2, l3, l4, l5, l6, l7, l8, l9, l10, l11, l12, l13, l14, l15] : Fin 16 → BitVec 32) x := fun x => by
    refine (elems16 (fun z => broadcast S1 ((![l0, l1, l2, l3, l4, l5, l6, l7, l8, l9, l10, l11, l12, l13, l14, l15] : Fin 16 → BitVec 32) z)) x).trans rfl
  unfold k0_pay89
  generalize hc : concatenate S16 0 _ _ = cc at e ⊢
  pointwise
  simp only [e]
  refine (Finset.sum_eq_single l (fun x _ hx => ?_) (fun h => absurd (Finset.mem_univ l) h)).trans ?_
  · have : ¬BitVec.ofNat 32 x.val = (![l0, l1, l2, l3, l4, l5, l6, l7, l8, l9, l10, l11, l12, l13, l14, l15] : Fin 16 → BitVec 32) k := fun h => hx (Fin.ext (by
      have := congrArg BitVec.toNat h
      rw [hl, BitVec.toNat_ofNat] at this
      omega))
    exact select_ne _ _ _ _ this
  · have : BitVec.ofNat 32 l.val = (![l0, l1, l2, l3, l4, l5, l6, l7, l8, l9, l10, l11, l12, l13, l14, l15] : Fin 16 → BitVec 32) k := BitVec.eq_of_toNat_eq (by
      rw [hl, BitVec.toNat_ofNat]
      omega)
    exact select_eq _ _ _ _ this

/-- A point's classification accumulator. -/
theorem clsOf_eq (s : EReal) (R : FVec Ideal S16x80 .f32) (l0 l1 l2 l3 l4 l5 l6 l7 l8 l9 l10 l11 l12 l13 l14 l15 : BitVec 32) (acc : EReal) (X : Fin 16 → EReal)
    (hX : ∀ k, k0_pay89 (F := Ideal) R l0 l1 l2 l3 l4 l5 l6 l7 l8 l9 l10 l11 l12 l13 l14 l15 (ix1 k) = X k) :
    clsOf s R l0 l1 l2 l3 l4 l5 l6 l7 l8 l9 l10 l11 l12 l13 l14 l15 acc = acc + (s + ∑ k : Fin 16, (Loss.f1 (X k) - Loss.f0 (X k))) := by
  unfold clsOf k0_pay90 k0_pay91
  generalize k0_pay89 (F := Ideal) R l0 l1 l2 l3 l4 l5 l6 l7 l8 l9 l10 l11 l12 l13 l14 l15 = v at hX ⊢
  pointwise [k0_pay92]
  simp only [hX, zero_sub]
  rfl

end Cert.KernelIdeal.Gen
end
-- ==== Proof.Value.RefRead.lean ====
/- The reference's four losses as sums over the 80 matches, each of a match's own mask, target and score. -/
module

public import proofs.«01_k».proof.Proof.Value.Weights
public import proofs.«01_k».proof.Proof.Matched
public import Idealize.ShloMosaic.Lib.Tactic
public import Idealize.ShloMosaic.Lib.Claim
public import Idealize.ShloMosaic.Lib.Pointwise
public import Idealize.ShloMosaic.PureOps.Ideal

@[expose] public section

set_option maxRecDepth 16384

noncomputable section

namespace Cert.Ref

open Idealize.ShloMosaic
open Cert.ReferenceIdeal Cert.ReferenceIdeal.Gen

/-- A match's image is one of eight. -/
theorem lt_img (n : Fin 80) : n.val / 10 < 8 := by omega
/-- A match's place in its image is one of ten. -/
theorem lt_slot (n : Fin 80) : n.val % 10 < 10 := by omega
/-- A flat element's row is one of 128. -/
theorem lt_row (r : Fin 16384) : r.val / 128 < 128 := by omega
/-- A flat element's column is one of 128. -/
theorem lt_col (r : Fin 16384) : r.val % 128 < 128 := by omega

/-- The masks gathered at an image and a query. -/
theorem gather_masks (a : FVec Ideal S8x100x128x128 .f32) (ii : IVec S80x2 32) (n : Fin 80) (i j : Fin 128) (b : Fin 8) (q : Fin 100)
    (h0 : (ii (ix2 n 0)).toInt = (b.val : Int)) (h1 : (ii (ix2 n 1)).toInt = (q.val : Int)) :
    Host.gather gather_S8x100x128x128_S80x2_S80x128x128_12_01_n_n_01_1_11128128 a ii (ix3 n i j) = a (ix4 b q i j) := by
  unfold Host.gather
  refine congrArg a (funext fun z => Fin.ext ?_)
  match z with
  | ⟨0, _⟩ =>
    show min (ii (gather_S8x100x128x128_S80x2_S80x128x128_12_01_n_n_01_1_11128128.siIdx (ix3 n i j) ⟨0, _⟩)).toInt.toNat 7 + 0 + 0 = b.val
    rw [show gather_S8x100x128x128_S80x2_S80x128x128_12_01_n_n_01_1_11128128.siIdx (ix3 n i j) ⟨0, by decide⟩ = ix2 n 0 from eq_ix2 _, h0]
    omega
  | ⟨1, _⟩ =>
    show min (ii (gather_S8x100x128x128_S80x2_S80x128x128_12_01_n_n_01_1_11128128.siIdx (ix3 n i j) ⟨1, _⟩)).toInt.toNat 99 + 0 + 0 = q.val
    rw [show gather_S8x100x128x128_S80x2_S80x128x128_12_01_n_n_01_1_11128128.siIdx (ix3 n i j) ⟨1, by decide⟩ = ix2 n 1 from eq_ix2 _, h1]
    omega
  | ⟨2, _⟩ => show 0 + 0 + i.val = i.val; omega
  | ⟨3, _⟩ => show 0 + 0 + j.val = j.val; omega

/-- The scores gathered at an image and a query. -/
theorem gather_scores (a : FVec Ideal S8x100x1 .f32) (ii : IVec S80x2 32) (n : Fin 80) (b : Fin 8) (q : Fin 100)
    (h0 : (ii (ix2 n 0)).toInt = (b.val : Int)) (h1 : (ii (ix2 n 1)).toInt = (q.val : Int)) :
    Host.gather gather_S8x100x1_S80x2_S80x1_1_01_n_n_01_1_111 a ii (ix2 n 0) = a (ix3 b q 0) := by
  unfold Host.gather
  refine congrArg a (funext fun z => Fin.ext ?_)
  match z with
  | ⟨0, _⟩ =>
    show min (ii (gather_S8x100x1_S80x2_S80x1_1_01_n_n_01_1_111.siIdx (ix2 n 0) ⟨0, _⟩)).toInt.toNat 7 + 0 + 0 = b.val
    rw [show gather_S8x100x1_S80x2_S80x1_1_01_n_n_01_1_111.siIdx (ix2 n 0) ⟨0, by decide⟩ = ix2 n 0 from eq_ix2 _, h0]
    omega
  | ⟨1, _⟩ =>
    show min (ii (gather_S8x100x1_S80x2_S80x1_1_01_n_n_01_1_111.siIdx (ix2 n 0) ⟨1, _⟩)).toInt.toNat 99 + 0 + 0 = q.val
    rw [show gather_S8x100x1_S80x2_S80x1_1_01_n_n_01_1_111.siIdx (ix2 n 0) ⟨1, by decide⟩ = ix2 n 1 from eq_ix2 _, h1]
    omega
  | ⟨2, _⟩ => rfl

/-- The targets gathered at their number. -/
theorem gather_targets (a : FVec Ideal S80x512x512 .f32) (ii : IVec S80x1 32) (n : Fin 80) (h w : Fin 512) (b : Fin 80)
    (h0 : (ii (ix2 n 0)).toInt = (b.val : Int)) :
    Host.gather gather_S80x512x512_S80x1_S80x512x512_12_0_n_n_0_1_1512512 a ii (ix3 n h w) = a (ix3 b h w) := by
  unfold Host.gather
  refine congrArg a (funext fun z => Fin.ext ?_)
  match z with
  | ⟨0, _⟩ =>
    show min (ii (gather_S80x512x512_S80x1_S80x512x512_12_0_n_n_0_1_1512512.siIdx (ix3 n h w) ⟨0, _⟩)).toInt.toNat 79 + 0 + 0 = b.val
    rw [show gather_S80x512x512_S80x1_S80x512x512_12_0_n_n_0_1_1512512.siIdx (ix3 n h w) ⟨0, by decide⟩ = ix2 n 0 from eq_ix2 _, h0]
    omega
  | ⟨1, _⟩ => show 0 + 0 + h.val = h.val; omega
  | ⟨2, _⟩ => show 0 + 0 + w.val = w.val; omega

/-- A number below 2³¹ is not below zero, so an index it names is not shifted. -/
theorem unshifted (k n s : ℕ) (hk : k < 2 ^ 31) (x : BitVec 32) (hx : x.toNat = k) :
    (Scalar.select (IntOp.cmpi .slt x 0#32) (IntOp.addi x (BitVec.ofNat 32 s)) x).toInt = (k : Int) := by
  have e : x.toInt = (k : Int) := by rw [BitVec.toInt_eq_toNat_cond]; omega
  have : IntOp.cmpi .slt x 0#32 = 0#1 := by
    show BitVec.ofBool (BitVec.slt x 0#32) = 0#1
    rw [show BitVec.slt x 0#32 = false from by simp [BitVec.slt, e]]
    rfl
  rw [this]
  exact e

variable (src : IVec S8x10 32) (q : Fin 80 → Fin 100)
  (hq : ∀ n : Fin 80, (src (ix2 ⟨n.val / 10, lt_img n⟩ ⟨n.val % 10, lt_slot n⟩)).toNat = (q n).val)

/-- A match's image, as the gather's first index. -/
theorem matchIdx_image (n : Fin 80) : (matchIdx src (ix2 n 0)).toInt = ((n.val / 10 : ℕ) : Int) := by
  pointwise [matchIdx]
  exact unshifted (n.val / 10) 0 8 (by omega) _ (by simp; omega)

include hq in
/-- A match's query, as the gather's second index. -/
theorem matchIdx_query (n : Fin 80) : (matchIdx src (ix2 n 1)).toInt = (((q n).val : ℕ) : Int) := by
  pointwise [matchIdx]
  exact unshifted (q n).val 0 100 (by omega) _ (hq n)

include hq in
/-- The matched masks. -/
theorem matched_at (a1 : FVec Ideal S8x100x128x128 .f32) (n : Fin 80) (r : Fin 16384) :
    matched a1 src (ix2 n r) = a1 (ix4 ⟨n.val / 10, lt_img n⟩ (q n) ⟨r.val / 128, lt_row r⟩ ⟨r.val % 128, lt_col r⟩) := by
  pointwise [matched]
  exact gather_masks a1 _ n _ _ ⟨n.val / 10, lt_img n⟩ (q n) (matchIdx_image src n) (matchIdx_query src q hq n)

include hq in
/-- The matched scores. -/
theorem scores_at (a2 : FVec Ideal S8x100x1 .f32) (n : Fin 80) :
    scores a2 src (ix1 n) = a2 (ix3 ⟨n.val / 10, lt_img n⟩ (q n) 0) := by
  pointwise [scores]
  exact gather_scores a2 _ n ⟨n.val / 10, lt_img n⟩ (q n) (matchIdx_image src n) (matchIdx_query src q hq n)

/-- The matched targets, thresholded. -/
theorem gtBin_at (a3 : FVec Ideal S8x10x512x512 .f32) (tgt : IVec S8x10 32)
    (ht : ∀ b s, tgt (ix2 b s) = BitVec.ofNat 32 s.val) (n : Fin 80) (h w : Fin 512) :
    gtBin a3 tgt (ix3 n h w) = Loss.ind (decide (Ideal.ofBits FTy.f32 0x3F000000#32 < a3 (ix4 ⟨n.val / 10, lt_img n⟩ ⟨n.val % 10, lt_slot n⟩ h w))) := by
  unfold gtBin
  refine (gather_targets _ _ n h w n ?_).trans ?_
  · pointwise
    rw [ht]
    refine unshifted n.val 0 80 (by omega) _ ?_
    show (BitVec.ofNat 32 (n.val / 10) * 10#32 + BitVec.ofNat 32 (n.val % 10)).toNat = n.val
    simp only [BitVec.toNat_add, BitVec.toNat_mul, BitVec.toNat_ofNat]
    omega
  · pointwise
    exact Loss.uitofp_ind _

variable (x t : FVec Ideal S80x16384 .f32) (X T : Fin 80 → Fin 128 → Fin 128 → EReal)
  (hx : ∀ n r, x (ix2 n r) = X n ⟨r.val / 128, lt_row r⟩ ⟨r.val % 128, lt_col r⟩)
  (ht : ∀ n r, t (ix2 n r) = T n ⟨r.val / 128, lt_row r⟩ ⟨r.val % 128, lt_col r⟩)

/-- The absolute value of an extended real. -/
theorem absf_eq (x : EReal) : FloatOps.absf (F := Ideal) (φ := .f32) x = max x (-x) := rfl

/-- A sum over a flattened mask. -/
theorem flat_sum (f : Fin 128 → Fin 128 → EReal) :
    (∑ r : Fin 16384, f ⟨r.val / 128, lt_row r⟩ ⟨r.val % 128, lt_col r⟩) = Loss.total f := by
  refine (Fin.sum_univ_tiles 128 128 (N := 16384) rfl _).trans ?_
  refine Finset.sum_congr rfl fun i _ => Finset.sum_congr rfl fun j _ => ?_
  congr 1
  · apply Fin.ext; show (i.val * 128 + j.val) / 128 = i.val; omega
  · apply Fin.ext; show (i.val * 128 + j.val) % 128 = j.val; omega

include hx ht in
/-- The mask loss. -/
theorem lossMask_at : lossMask x t ix0 = Ideal.ofBits FTy.f32 0x40A00000#32 *
    Ideal.div (∑ n, Loss.total fun i j => Loss.bce (X n i j) (T n i j)) (Ideal.ofBits FTy.f32 0x49A00000#32) := by
  pointwise [lossMask]
  have e : ∀ n, (Loss.total fun i j => Loss.bce (X n i j) (T n i j)) = _ := fun n => (flat_sum fun i j => Loss.bce (X n i j) (T n i j)).symm
  simp only [hx, ht, absf_eq, e]
  simp only [Loss.bce]

include hx in
/-- The sigmoids of the matched masks. -/
theorem squash_at (n : Fin 80) (r : Fin 16384) :
    squash x (ix2 n r) = (fun n i j => Loss.sgm (X n i j)) n ⟨r.val / 128, lt_row r⟩ ⟨r.val % 128, lt_col r⟩ := by
  pointwise [squash]
  rw [hx]
  rfl

/-- Twice the half of a small constant. -/
theorem eps2 : Ideal.ofBits FTy.f32 0x3851B717#32 + Ideal.ofBits FTy.f32 0x3851B717#32 = Ideal.ofBits FTy.f32 0x38D1B717#32 := by
  simp [Ideal.ofBits, Ideal.ieee, -EReal.coe_mul, -EReal.coe_neg]
  rw [← EReal.coe_add]
  congr 1
  norm_num

include hx ht in
/-- The dice loss. -/
theorem lossDice_at : lossDice x t ix0 =
    Ideal.div (Ideal.ofBits FTy.f32 0x40000000#32 * ∑ n, Loss.dice (X n) (T n)) (max (Ideal.ofBits FTy.f32 0x42A00000#32) 1) := by
  pointwise [lossDice]
  have e1 : ∀ n, (Loss.total fun i j => X n i j * T n i j) = _ := fun n => (flat_sum fun i j => X n i j * T n i j).symm
  have e2 : ∀ n, (Loss.total fun i j => X n i j * X n i j) = _ := fun n => (flat_sum fun i j => X n i j * X n i j).symm
  have e3 : ∀ n, (Loss.total fun i j => T n i j * T n i j) = _ := fun n => (flat_sum fun i j => T n i j * T n i j).symm
  simp only [hx, ht, Loss.dice, ← eps2, e1, e2, e3, add_add_add_comm]

include hx ht in
/-- A match's ratio of intersection to union. -/
theorem iou_at (n : Fin 80) : iou x t (ix1 n) = Loss.iou (X n) (T n) := by
  pointwise [iou]
  simp only [hx, ht]
  simp only [Loss.uitofp_ind]
  rw [flat_sum fun i j => Loss.ind (decide (Ideal.ofBits FTy.f32 0x3ECCCCCD#32 ≤ X n i j)) * Loss.ind (decide (Ideal.ofBits FTy.f32 0x3F000000#32 < T n i j)),
    flat_sum fun i j => Loss.ind (decide (Ideal.ofBits FTy.f32 0x3ECCCCCD#32 ≤ X n i j)),
    flat_sum fun i j => Loss.ind (decide (Ideal.ofBits FTy.f32 0x3F000000#32 < T n i j))]
  unfold Loss.iou
  rw [add_comm (Loss.total fun i j => Loss.ind (decide (Ideal.ofBits FTy.f32 0x3F000000#32 < T n i j)))]

/-- The objectness loss. -/
theorem lossObj_at (s q : FVec Ideal S80 .f32) : lossObj s q ix0 = Ideal.ofBits FTy.f32 0x3F800000#32 *
    Ideal.div (∑ n : Fin 80, Loss.bce (s (ix1 n)) (q (ix1 n))) (Ideal.ofBits FTy.f32 0x42A00000#32) := by
  pointwise [lossObj]
  rfl

end Cert.Ref

end
-- ==== Proof.Ref.Run.lean ====
/- The reference's run: it ends with its four results holding the four losses of its arguments. -/
module

public import proofs.«01_k».proof.Proof.Ref.Terms

@[expose] public section

set_option maxRecDepth 16384

noncomputable section

namespace Cert.Ref

open Idealize.ShloMosaic Idealize.ShloMosaic.TcCoe Idealize.ShloMosaic.Tactic
open Cert.ReferenceIdeal Cert.ReferenceIdeal.Gen

variable (m : (ℓ : Loc nD τ sig) → Buf (Elt Ideal) ℓ)

/-- The classification loss of the arguments a device holds. -/
def cls (c : Dev nD) : FVec Ideal S_ .f32 :=
  lossCls (focal (m ((c.tc : Thread nD τ).loc main_arg0)) (classes (m ((c.tc : Thread nD τ).loc main_arg4)) (m ((c.tc : Thread nD τ).loc main_arg5)) (m ((c.tc : Thread nD τ).loc main_arg6))))
/-- The matched masks. -/
def masks (c : Dev nD) : FVec Ideal S80x16384 .f32 := matched (m ((c.tc : Thread nD τ).loc main_arg1)) (m ((c.tc : Thread nD τ).loc main_arg5))
/-- Their targets. -/
def tgts (c : Dev nD) : FVec Ideal S80x16384 .f32 := targets (gtBin (m ((c.tc : Thread nD τ).loc main_arg3)) (m ((c.tc : Thread nD τ).loc main_arg6)))
/-- The objectness loss. -/
def obj (c : Dev nD) : FVec Ideal S_ .f32 :=
  lossObj (scores (m ((c.tc : Thread nD τ).loc main_arg2)) (m ((c.tc : Thread nD τ).loc main_arg5))) (iou (squash (masks m c)) (tgts m c))
/-- The dice loss. -/
def dice (c : Dev nD) : FVec Ideal S_ .f32 := lossDice (squash (masks m c)) (tgts m c)
/-- The mask loss. -/
def mask (c : Dev nD) : FVec Ideal S_ .f32 := lossMask (masks m c) (tgts m c)

set_option maxHeartbeats 16000000 in
/-- Every run of the reference ends with its results holding the four losses, and its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v60) = cls m c
      ∧ r.2.mem ((c.tc : Thread nD τ).loc main_v140) = obj m c
      ∧ r.2.mem ((c.tc : Thread nD τ).loc main_v159) = dice m c
      ∧ r.2.mem ((c.tc : Thread nD τ).loc main_v171) = mask m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  · simp -implicitDefEqProofs only [StableHlo.TRef.toBuf, StableHlo.TRef.ofBuf, cast_cast, cast_eq]
    delta cls lossCls focal classes oneHot takeAlong matchIdx
    dsimp only
    rfl
  · simp -implicitDefEqProofs only [StableHlo.TRef.toBuf, StableHlo.TRef.ofBuf, cast_cast, cast_eq]
    delta obj lossObj scores iou squash masks tgts matched targets gtBin resize weights triSum tri centers pickAll pick matchIdx
    dsimp only
    rfl
  · simp -implicitDefEqProofs only [StableHlo.TRef.toBuf, StableHlo.TRef.ofBuf, cast_cast, cast_eq]
    delta dice lossDice squash masks tgts matched targets gtBin resize weights triSum tri centers pickAll pick matchIdx
    dsimp only
    rfl
  · simp -implicitDefEqProofs only [StableHlo.TRef.toBuf, StableHlo.TRef.ofBuf, cast_cast, cast_eq]
    delta mask lossMask masks tgts matched targets gtBin resize weights triSum tri centers pickAll pick matchIdx
    dsimp only
    rfl

end Cert.Ref

end
-- ==== Proof.Value.Same.lean ====
/- The kernel's losses are the reference's. -/
module

public import proofs.«01_k».proof.Proof.Value.Fold
public import proofs.«01_k».proof.Proof.Value.RefRead
public import proofs.«01_k».proof.Proof.Ref.Run

@[expose] public section

set_option maxRecDepth 16384

noncomputable section

namespace Cert.Ref

open Idealize.ShloMosaic Idealize.ShloMosaic.TcCoe Idealize.ShloMosaic.Tactic Cert.ReferenceIdeal

/-- The targets of the masks: each match's, resized. -/
theorem targets_at (a3 : FVec Ideal S8x10x512x512 .f32) (tgt : IVec S8x10 32)
    (ht : ∀ b s, tgt (ix2 b s) = BitVec.ofNat 32 s.val) (n : Fin 80) (r : Fin 16384) :
    targets (gtBin a3 tgt) (ix2 n r) = Loss.T a3 n ⟨r.val / 128, lt_row r⟩ ⟨r.val % 128, lt_col r⟩ := by
  pointwise [targets]
  exact Weights.resize_at (gtBin a3 tgt) (Loss.G a3) (fun n h w => (gtBin_at a3 tgt ht n h w).trans (Loss.ind_coe _)) n _ _

/-- A quotient by a number that is not zero, of a product. -/
theorem mul_div (x y : EReal) (k : ℝ) (hk : k ≠ 0) : x * Ideal.div y (k : EReal) = Ideal.div (x * y) (k : EReal) := by
  rw [Ideal.div_coe hk, Ideal.div_coe hk, mul_assoc]

/-- The number of mask elements. -/
theorem count : Ideal.ofBits FTy.f32 0x49A00000#32 = ((1310720 : ℝ) : EReal) := by
  simp [Ideal.ofBits, Ideal.ieee, -EReal.coe_mul, -EReal.coe_neg]; norm_num [-EReal.coe_neg]

/-- The number of matches. -/
theorem eighty : Ideal.ofBits FTy.f32 0x42A00000#32 = ((80 : ℝ) : EReal) := by
  simp [Ideal.ofBits, Ideal.ieee, -EReal.coe_mul, -EReal.coe_neg]; norm_num [-EReal.coe_neg]

/-- There are more matches than one. -/
theorem max_eighty : max (Ideal.ofBits FTy.f32 0x42A00000#32) 1 = Ideal.ofBits FTy.f32 0x42A00000#32 := by
  rw [eighty, max_eq_left]
  exact_mod_cast (by norm_num : (1 : ℝ) ≤ 80)

section
variable (m : (ℓ : Loc nD τ sig) → Buf (Elt Ideal) ℓ) (c : Dev nD) (q : Fin 80 → Fin 100)
  (hq : ∀ n : Fin 80, BitVec.toNat (w := 32) ((show IVec S8x10 32 from m ((c : Thread nD τ).loc main_arg5)) (ix2 ⟨n.val / 10, lt_img n⟩ ⟨n.val % 10, lt_slot n⟩)) = (q n).val)
  (ht : ∀ b s, (show IVec S8x10 32 from m ((c : Thread nD τ).loc main_arg6)) (ix2 b s) = BitVec.ofNat 32 s.val)

include hq ht in
/-- The reference's mask loss. -/
theorem mask_eq : mask m c = fun _ => Ideal.div (Ideal.ofBits FTy.f32 0x40A00000#32 * ∑ n : Fin 80, (Loss.total fun i j => Loss.bce (Loss.M (m ((c : Thread nD τ).loc main_arg1)) q n i j) (Loss.T (m ((c : Thread nD τ).loc main_arg3)) n i j)))
    (Ideal.ofBits FTy.f32 0x49A00000#32) := by
  funext x
  obtain rfl : x = ix0 := Subsingleton.elim _ _
  refine (lossMask_at _ _ (Loss.M (m ((c : Thread nD τ).loc main_arg1)) q) (Loss.T (m ((c : Thread nD τ).loc main_arg3))) (matched_at _ q hq _) (targets_at _ _ ht)).trans ?_
  rw [count]
  exact mul_div _ _ _ (by norm_num)

include hq ht in
/-- The reference's dice loss. -/
theorem dice_eq : dice m c = fun _ => Ideal.div (Ideal.ofBits FTy.f32 0x40000000#32 * ∑ n : Fin 80, Loss.dice (fun i j => Loss.sgm (Loss.M (m ((c : Thread nD τ).loc main_arg1)) q n i j)) (Loss.T (m ((c : Thread nD τ).loc main_arg3)) n))
    (Ideal.ofBits FTy.f32 0x42A00000#32) := by
  funext x
  obtain rfl : x = ix0 := Subsingleton.elim _ _
  refine (lossDice_at _ _ (fun n i j => Loss.sgm (Loss.M (m ((c : Thread nD τ).loc main_arg1)) q n i j)) (Loss.T (m ((c : Thread nD τ).loc main_arg3))) (squash_at _ (Loss.M (m ((c : Thread nD τ).loc main_arg1)) q) (matched_at _ q hq _)) (targets_at _ _ ht)).trans ?_
  rw [max_eighty]

include hq ht in
/-- The reference's objectness loss. -/
theorem obj_eq : obj m c = fun _ => Ideal.div (Ideal.ofBits FTy.f32 0x3F800000#32 * ∑ n : Fin 80, Loss.bce ((show FVec Ideal S8x100x1 .f32 from m ((c : Thread nD τ).loc main_arg2)) (ix3 ⟨n.val / 10, lt_img n⟩ (q n) 0)) (Loss.iou (fun i j => Loss.sgm (Loss.M (m ((c : Thread nD τ).loc main_arg1)) q n i j)) (Loss.T (m ((c : Thread nD τ).loc main_arg3)) n)))
    (Ideal.ofBits FTy.f32 0x42A00000#32) := by
  funext x
  obtain rfl : x = ix0 := Subsingleton.elim _ _
  refine (lossObj_at _ _).trans ?_
  rw [eighty]
  refine (mul_div _ _ _ (by norm_num)).trans ?_
  refine congrArg (fun z => Ideal.div (Ideal.ofBits FTy.f32 0x3F800000#32 * z) _) (Finset.sum_congr rfl fun n _ => ?_)
  rw [scores_at _ q hq]
  refine congrArg (Loss.bce _) ?_
  exact iou_at _ _ (fun n i j => Loss.sgm (Loss.M (m ((c : Thread nD τ).loc main_arg1)) q n i j)) (Loss.T (m ((c : Thread nD τ).loc main_arg3))) (squash_at _ (Loss.M (m ((c : Thread nD τ).loc main_arg1)) q) (matched_at _ q hq _)) (targets_at _ _ ht) n

end

end Cert.Ref

end
-- ==== Proof.Value.Classes.lean ====
/- The reference's classes and its classification loss. -/
module

public import proofs.«01_k».proof.Proof.Value.RefRead
public import proofs.«01_k».proof.Proof.Value.Same
public import proofs.«01_k».proof.Proof.Value.Focal
public import Idealize.ShloMosaic.Lib.Routing.OpsSet

@[expose] public section

set_option maxRecDepth 16384

noncomputable section

namespace Cert.Ref

open Idealize.ShloMosaic Idealize.ShloMosaic.TcCoe
open Cert.ReferenceIdeal Cert.ReferenceIdeal.Gen

/-- A row's image is one of eight. -/
theorem lt_of_row (r : Fin 800) : r.val / 100 < 8 := by omega
/-- A row's place in its image is one of a hundred. -/
theorem lt_in_row (r : Fin 800) : r.val % 100 < 100 := by omega
/-- A match's row is one of eight hundred. -/
theorem lt_rows (n : Fin 80) (q : Fin 100) : 100 * (n.val / 10) + q.val < 800 := by omega

/-- The labels gathered along an image's row. -/
theorem gather_labels (a : IVec S8x10 32) (ii : IVec S8x10x1 32) (b : Fin 8) (s z : Fin 10) (h : (ii (ix3 b s 0)).toInt = (z.val : Int)) :
    Host.gather gather_S8x10_S8x10x1_S8x10_n_1_0_0_1_2_11 a ii (ix2 b s) = a (ix2 b z) := by
  unfold Host.gather
  refine congrArg a (funext fun y => Fin.ext ?_)
  match y with
  | ⟨0, _⟩ =>
    show 0 + b.val + 0 = b.val; omega
  | ⟨1, _⟩ =>
    show min (ii (gather_S8x10_S8x10x1_S8x10_n_1_0_0_1_2_11.siIdx (ix2 b s) ⟨0, _⟩)).toInt.toNat 9 + 0 + 0 = z.val
    rw [show gather_S8x10_S8x10x1_S8x10_n_1_0_0_1_2_11.siIdx (ix2 b s) ⟨0, by decide⟩ = ix3 b s 0 from eq_ix3 _, h]
    omega

/-- The labels taken in order are the labels. -/
theorem takeAlong_at (lab tgt : IVec S8x10 32) (b : Fin 8) (s : Fin 10) (ht : tgt (ix2 b s) = BitVec.ofNat 32 s.val) :
    takeAlong lab tgt (ix2 b s) = lab (ix2 b s) := by
  pointwise [takeAlong]
  rw [ht]
  have c : ∀ s : Fin 10, Scalar.select (IntOp.cmpi .slt (BitVec.ofNat 32 s.val) 0#32) (IntOp.addi (BitVec.ofNat 32 s.val) 10#32) (BitVec.ofNat 32 s.val) = BitVec.ofNat 32 s.val := by decide
  have d : ∀ s : Fin 10, IntOp.andi (IntOp.cmpi .sge (BitVec.ofNat 32 s.val) 0#32) (IntOp.cmpi .sle (BitVec.ofNat 32 s.val) 9#32) = 1#1 := by decide
  simp only [c, d]
  rw [gather_labels lab _ b s s ?_]
  · simp [Scalar.select, IntOp.andi]
  · pointwise
    rw [ht]
    exact unshifted s.val 0 10 (by omega) _ (by simp; omega)

/-- A match's class is written at its image and query. -/
theorem lands (ii : IVec S80x2 32) (n : Fin 80) (b : Fin 8) (q : Fin 100) : scatter_S8x100_S80x2_S80_n_01_01_1.resultIdx? (ix1 n) ii = some (ix2 b q) ↔ (ii (ix2 n 0)).toInt = (b.val : Int) ∧ (ii (ix2 n 1)).toInt = (q.val : Int) := by
  refine (Routing.resultIdx?_ix2 scatter_S8x100_S80x2_S80_n_01_01_1 (ix1 n) ii b q).trans ?_
  have e0 : scatter_S8x100_S80x2_S80_n_01_01_1.start (ix1 n) ii 0 = (ii (ix2 n 0)).toInt := by
    show (ii (scatter_S8x100_S80x2_S80_n_01_01_1.siIdx (ix1 n) ⟨0, _⟩)).toInt = _
    rw [show scatter_S8x100_S80x2_S80_n_01_01_1.siIdx (ix1 n) ⟨0, by decide⟩ = ix2 n 0 from eq_ix2 _]
  have e1 : scatter_S8x100_S80x2_S80_n_01_01_1.start (ix1 n) ii 1 = (ii (ix2 n 1)).toInt := by
    show (ii (scatter_S8x100_S80x2_S80_n_01_01_1.siIdx (ix1 n) ⟨1, _⟩)).toInt = _
    rw [show scatter_S8x100_S80x2_S80_n_01_01_1.siIdx (ix1 n) ⟨1, by decide⟩ = ix2 n 1 from eq_ix2 _]
  have w0 : scatter_S8x100_S80x2_S80_n_01_01_1.window (ix1 n) 0 = 0 := rfl
  have w1 : scatter_S8x100_S80x2_S80_n_01_01_1.window (ix1 n) 1 = 0 := rfl
  rw [e0, e1, w0, w1]
  simp

section
variable (lab src tgt : IVec S8x10 32) (q : Fin 80 → Fin 100)
  (hq : ∀ n : Fin 80, (src (ix2 ⟨n.val / 10, lt_img n⟩ ⟨n.val % 10, lt_slot n⟩)).toNat = (q n).val)
  (hne : ∀ n k : Fin 80, n.val / 10 = k.val / 10 → (q n).val = (q k).val → n = k)
  (ht : ∀ b s, tgt (ix2 b s) = BitVec.ofNat 32 s.val)

include hq hne ht in
/-- A matched query's class is its label. -/
theorem classes_hit (n : Fin 80) (r : Fin 800) (hr : r.val = 100 * (n.val / 10) + (q n).val) :
    classes lab src tgt (ix1 r) = lab (ix2 ⟨n.val / 10, lt_img n⟩ ⟨n.val % 10, lt_slot n⟩) := by
  pointwise [classes]
  have hL : ∀ k, (scatter_S8x100_S80x2_S80_n_01_01_1.resultIdx? k (matchIdx src) = some (ix2 ⟨r.val / 100, by omega⟩ ⟨r.val % 100, by omega⟩)) ↔ k = ix1 n := fun k => by
    obtain ⟨k, rfl⟩ : ∃ j, k = ix1 j := ⟨k 0, eq_ix1 k⟩
    rw [lands, matchIdx_image src k, matchIdx_query src q hq k]
    constructor
    · rintro ⟨a, b⟩
      have a' : k.val / 10 = r.val / 100 := by exact_mod_cast a
      have b' : (q k).val = r.val % 100 := by exact_mod_cast b
      rw [hne k n (by omega) (by omega)]
    · intro h
      obtain rfl : k = n := congrFun h 0
      constructor
      · exact_mod_cast (show k.val / 10 = r.val / 100 by omega)
      · exact_mod_cast (show (q k).val = r.val % 100 by omega)
  refine Routing.scatter_set_hit _ _ _ _ _ _ (fun k hk => ?_) (ix1 n) ((hL _).mpr rfl)
  rw [(hL k).mp hk]
  pointwise
  exact takeAlong_at lab tgt _ _ (ht _ _)

include hq in
/-- An unmatched query's class is past the last. -/
theorem classes_miss (r : Fin 800) (hr : ∀ n : Fin 80, r.val ≠ 100 * (n.val / 10) + (q n).val) :
    classes lab src tgt (ix1 r) = 80#32 := by
  pointwise [classes]
  refine (Routing.scatter_set_miss _ _ _ _ _ fun k hk => ?_).trans ?_
  · obtain ⟨k, rfl⟩ : ∃ j, k = ix1 j := ⟨k 0, eq_ix1 k⟩
    rw [lands, matchIdx_image src k, matchIdx_query src q hq k] at hk
    have a' : k.val / 10 = r.val / 100 := by exact_mod_cast hk.1
    have b' : (q k).val = r.val % 100 := by exact_mod_cast hk.2
    exact hr k (by omega)
  · pointwise

end

/-- A logit by its query's number among all images' and its class. -/
def logit (a0 : FVec Ideal S8x100x80 .f32) (r : Fin 800) (j : Fin 80) : EReal := a0 (ix3 ⟨r.val / 100, lt_of_row r⟩ ⟨r.val % 100, lt_in_row r⟩ j)

/-- The reference's focal terms. -/
theorem focal_at (a0 : FVec Ideal S8x100x80 .f32) (cls : IVec S800 32) (r : Fin 800) (j : Fin 80) :
    focal a0 cls (ix2 r j) = Loss.term (logit a0 r j) (Loss.ind (cls (ix1 r) == BitVec.ofNat 32 j.val)) := by
  pointwise [focal, oneHot]
  simp only [absf_eq]
  rw [show FloatOps.uitofp (F := Ideal) FTy.f32 (IntOp.cmpi .eq (cls (ix1 r)) (BitVec.ofNat 32 j.val)) = Loss.ind (cls (ix1 r) == BitVec.ofNat 32 j.val) from Loss.uitofp_ind _]
  rfl

/-- The classification loss. -/
theorem lossCls_at (f : FVec Ideal S800x80 .f32) : lossCls f ix0 = Ideal.div (Ideal.ofBits FTy.f32 0x40000000#32 * ∑ r, ∑ j, f (ix2 r j)) (Ideal.ofBits FTy.f32 0x42A00000#32) := by
  pointwise [lossCls]
  rw [max_eighty]

/-- The row of a match's query among all images'. -/
def row (q : Fin 80 → Fin 100) (n : Fin 80) : Fin 800 := ⟨100 * (n.val / 10) + (q n).val, lt_rows n (q n)⟩

section
variable (m : (ℓ : Loc nD τ sig) → Buf (Elt Ideal) ℓ) (c : Dev nD) (q : Fin 80 → Fin 100) (l : Fin 80 → Fin 80)
  (hq : ∀ n : Fin 80, BitVec.toNat (w := 32) ((show IVec S8x10 32 from m ((c : Thread nD τ).loc main_arg5)) (ix2 ⟨n.val / 10, lt_img n⟩ ⟨n.val % 10, lt_slot n⟩)) = (q n).val)
  (hl : ∀ n : Fin 80, BitVec.toNat (w := 32) ((show IVec S8x10 32 from m ((c : Thread nD τ).loc main_arg4)) (ix2 ⟨n.val / 10, lt_img n⟩ ⟨n.val % 10, lt_slot n⟩)) = (l n).val)
  (hne : ∀ n k : Fin 80, n.val / 10 = k.val / 10 → (q n).val = (q k).val → n = k)
  (ht : ∀ b s, (show IVec S8x10 32 from m ((c : Thread nD τ).loc main_arg6)) (ix2 b s) = BitVec.ofNat 32 s.val)
  (hf : ∀ b n k, (show FVec Ideal S8x100x80 .f32 from m ((c : Thread nD τ).loc main_arg0)) (ix3 b n k) ≠ ⊤ ∧ (show FVec Ideal S8x100x80 .f32 from m ((c : Thread nD τ).loc main_arg0)) (ix3 b n k) ≠ ⊥)

include hq hl hne ht hf in
/-- The reference's classification loss: all the logits' focal terms, corrected at the matches' classes. -/
theorem cls_eq : cls m c = fun _ => Ideal.div (Ideal.ofBits FTy.f32 0x40000000#32 * ((∑ r, ∑ j, Loss.f0 (logit (m ((c : Thread nD τ).loc main_arg0)) r j)) + ∑ n, (Loss.f1 (logit (m ((c : Thread nD τ).loc main_arg0)) (row q n) (l n)) - Loss.f0 (logit (m ((c : Thread nD τ).loc main_arg0)) (row q n) (l n)))))
    (Ideal.ofBits FTy.f32 0x42A00000#32) := by
  funext x
  obtain rfl : x = ix0 := Subsingleton.elim _ _
  refine (lossCls_at _).trans ?_
  have hx : ∀ r j, ((logit (m ((c : Thread nD τ).loc main_arg0)) r j).toReal : EReal) = logit (m ((c : Thread nD τ).loc main_arg0)) r j := fun r j => EReal.coe_toReal (hf _ _ _).1 (hf _ _ _).2
  have E := Loss.total_split (fun r j => (logit (m ((c : Thread nD τ).loc main_arg0)) r j).toReal) (row q) l ?_
    (fun r j => (classes (m ((c : Thread nD τ).loc main_arg4)) (m ((c : Thread nD τ).loc main_arg5)) (m ((c : Thread nD τ).loc main_arg6)) (ix1 r)).toNat = j.val) ?_ ?_
    (fun r j => focal (m ((c : Thread nD τ).loc main_arg0)) (classes (m ((c : Thread nD τ).loc main_arg4)) (m ((c : Thread nD τ).loc main_arg5)) (m ((c : Thread nD τ).loc main_arg6))) (ix2 r j)) ?_ ?_
  · simp only [hx] at E
    exact congrArg (fun z => Ideal.div (Ideal.ofBits FTy.f32 0x40000000#32 * z) _) E
  · intro n k h
    have h' : 100 * (n.val / 10) + (q n).val = 100 * (k.val / 10) + (q k).val := congrArg Fin.val h
    exact hne n k (by omega) (by omega)
  · intro n j
    show (classes _ _ _ (ix1 (row q n))).toNat = j.val ↔ _
    rw [classes_hit _ _ _ q hq hne ht n (row q n) rfl]
    exact (iff_of_eq (congrArg (· = j.val) (hl n))).trans (Fin.ext_iff : l n = j ↔ (l n).val = j.val).symm
  · intro r hr j h
    have h' := classes_miss (m ((c : Thread nD τ).loc main_arg4)) _ (m ((c : Thread nD τ).loc main_arg6)) q hq r (fun n e => hr n (Fin.ext e.symm))
    rw [h'] at h
    have : (80#32).toNat = 80 := rfl
    omega
  · intro r j h
    refine (focal_at _ _ r j).trans ?_
    rw [show (classes (m ((c : Thread nD τ).loc main_arg4)) (m ((c : Thread nD τ).loc main_arg5)) (m ((c : Thread nD τ).loc main_arg6)) (ix1 r) == BitVec.ofNat 32 j.val) = true from
      beq_iff_eq.mpr (BitVec.eq_of_toNat_eq (by rw [h, BitVec.toNat_ofNat]; omega)), ← hx]
    exact Loss.term_one _
  · intro r j h
    refine (focal_at _ _ r j).trans ?_
    rw [show (classes (m ((c : Thread nD τ).loc main_arg4)) (m ((c : Thread nD τ).loc main_arg5)) (m ((c : Thread nD τ).loc main_arg6)) (ix1 r) == BitVec.ofNat 32 j.val) = false from
      beq_false_of_ne fun e => h (by rw [e, BitVec.toNat_ofNat]; omega), ← hx]
    exact Loss.term_zero _

end

end Cert.Ref

end
-- ==== Proof.Value.Totals.lean ====
/- The kernel's classification loss. -/
module

public import proofs.«01_k».proof.Proof.Value.Picked
public import proofs.«01_k».proof.Proof.Value.Classes

@[expose] public section

set_option maxRecDepth 16384

noncomputable section

namespace Cert.Loss

open Idealize.ShloMosaic

/-- What a match changes in the sum of focal terms: at its query and class, the other term. -/
def fix (a0 : FVec Ideal Cert.ReferenceIdeal.S8x100x80 .f32) (q : Fin 80 → Fin 100) (l : Fin 80 → Fin 80) (n : Fin 80) : EReal :=
  f1 (Cert.Ref.logit a0 (Cert.KernelIdeal.Gen.rowOf (q n) n) (l n)) - f0 (Cert.Ref.logit a0 (Cert.KernelIdeal.Gen.rowOf (q n) n) (l n))

end Cert.Loss

namespace Cert.KernelIdeal.Gen

open Idealize.ShloMosaic Idealize.ShloMosaic.TcCoe Idealize.ShloMosaic.Tactic
open Idealize.ShloMosaic.Pipeline (Dat Cfg Window BodyObligation cellOf)

/-- The `i`-th row of a point's slab of logits. -/
def slab (t : Fin grid0.N) (i : Fin 160) : Fin 800 := ⟨160 * t.val + i.val, by have : t.val < 5 := t.isLt; omega⟩

/-- A point's classification accumulator, where its block's focal terms and its matches' logits are known. -/
theorem point22 (s S : EReal) (R : FVec Ideal S16x80 .f32) (l0 l1 l2 l3 l4 l5 l6 l7 l8 l9 l10 l11 l12 l13 l14 l15 : BitVec 32) (acc : EReal) (X : Fin 16 → EReal) (hs : s = S)
    (hX : ∀ k, k0_pay89 (F := Ideal) R l0 l1 l2 l3 l4 l5 l6 l7 l8 l9 l10 l11 l12 l13 l14 l15 (ix1 k) = X k) :
    clsOf s R l0 l1 l2 l3 l4 l5 l6 l7 l8 l9 l10 l11 l12 l13 l14 l15 acc = acc + (S + ∑ k : Fin 16, (Loss.f1 (X k) - Loss.f0 (X k))) := by
  subst hs
  exact clsOf_eq s R l0 l1 l2 l3 l4 l5 l6 l7 l8 l9 l10 l11 l12 l13 l14 l15 acc X hX

variable (m : (ℓ : Loc nD τ sig) → Buf (Elt Ideal) ℓ)

/-- The logits, a query to a row. -/
theorem V41 (c : Dev nD) (r : Fin 800) (j : Fin 80) : V m c main_v41 (ix2 r j) = Cert.Ref.logit (m ((c : Thread nD τ).loc main_arg0)) r j := by
  unfold V
  after_reads_at
  rfl

/-- The logits in five slabs. -/
theorem V40 (c : Dev nD) (t : Fin grid0.N) (i : Fin 160) (j : Fin 80) : V m c main_v40 (ix3 (t.cast rfl) i j) = Cert.Ref.logit (m ((c : Thread nD τ).loc main_arg0)) (slab t i) j := by
  unfold V
  after_reads_at
  unfold Cert.Ref.logit
  have : t.val < 5 := t.isLt
  blk_ext
  · show (t.val * 12800 + i.val * 80 + j.val) / 8000 = (160 * t.val + i.val) / 100
    omega
  · show (t.val * 12800 + i.val * 80 + j.val) / 80 % 100 = (160 * t.val + i.val) % 100
    omega

variable (hi : IntsAt m (0 : Dev nD)) (q : Fin 80 → Fin 100) (l : Fin 80 → Fin 80)
  (hq : ∀ n : Fin 80, (show BitVec 32 from m (((0 : Dev nD) : Thread nD τ).loc main_arg5) (ix2 (img n) (slot n))).toNat = (q n).val)
  (hl : ∀ n : Fin 80, (show BitVec 32 from m (((0 : Dev nD) : Thread nD τ).loc main_arg4) (ix2 (img n) (slot n))).toNat = (l n).val)

include hi hq hl in
/-- A first point's classification loss. -/
theorem stepA_22 (hO : Ok m) (hT : ∀ c : Dev nD, TblOk c (tbl m 0) (tbl m 1)) (c : Dev nD) (t : Fin (cfgM m hO).N) (h0 : t.val % 5 = 0) (x : S1x1.Idx) :
    outA_22 m hO hT c t h0 x = FloatOps.ofBits (F := Ideal) FTy.f32 0#32 + ((∑ i : Fin 160, ∑ j : Fin 80, Loss.f0 (Cert.Ref.logit (m ((c : Thread nD τ).loc main_arg0)) (slab t i) j)) + ∑ k : Fin 16, Loss.fix (m ((c : Thread nD τ).loc main_arg0)) q l (nth t k)) := by
  obtain rfl : c = 0 := Subsingleton.elim _ _
  have h : ∃ (w0 w1 w2 w3 w4 w5 w6 w7 w8 w9 w10 w11 w12 w13 w14 w15 : Vec Ideal S1x80 .f32) (l0 l1 l2 l3 l4 l5 l6 l7 l8 l9 l10 l11 l12 l13 l14 l15 : BitVec 32), (∀ (k : Fin 16) (j : Fin 80), (![w0, w1, w2, w3, w4, w5, w6, w7, w8, w9, w10, w11, w12, w13, w14, w15] k) (ix2 0 j) = (show Vec Ideal S800x80 .f32 from iblk m hO 0 1 t) (ix2 (rowOf (q (nth t k)) (nth t k)) j)) ∧ (∀ k : Fin 16, (![l0, l1, l2, l3, l4, l5, l6, l7, l8, l9, l10, l11, l12, l13, l14, l15] k) = (show Vec Ideal S80 .i32 from tbl m 2) (ix1 (nth t k))) ∧
      outA_22 m hO hT 0 t h0 = fun _ => clsOf (Cert.Point.f0Sum (iblk m hO 0 0 t) (Cert.Point.tgts (iblk m hO 0 3 t) (iblk m hO 0 20 t) (iblk m hO 0 21 t)) (iblk m hO 0 4 t) (iblk m hO 0 5 t) (iblk m hO 0 6 t) (iblk m hO 0 7 t) (iblk m hO 0 8 t) (iblk m hO 0 9 t) (iblk m hO 0 10 t) (iblk m hO 0 11 t) (iblk m hO 0 12 t) (iblk m hO 0 13 t) (iblk m hO 0 14 t) (iblk m hO 0 15 t) (iblk m hO 0 16 t) (iblk m hO 0 17 t) (iblk m hO 0 18 t) (iblk m hO 0 19 t)) (rws w0 w1 w2 w3 w4 w5 w6 w7 w8 w9 w10 w11 w12 w13 w14 w15) l0 l1 l2 l3 l4 l5 l6 l7 l8 l9 l10 l11 l12 l13 l14 l15 (FloatOps.ofBits (F := Ideal) FTy.f32 0#32) := by
    unfold outA_22 runA
    exact outA_22_val _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => rowOf (q (nth t k)) (nth t k)) (fun k => rowOf_toNat m hi q hq _) (fun k => targets_toNat m 0 hi _)
  obtain ⟨w0, w1, w2, w3, w4, w5, w6, w7, w8, w9, w10, w11, w12, w13, w14, w15, l0, l1, l2, l3, l4, l5, l6, l7, l8, l9, l10, l11, l12, l13, l14, l15, hw, hL, h⟩ := h
  refine (congrFun h x).trans (point22 _ (∑ i : Fin 160, ∑ j : Fin 80, Loss.f0 (Cert.Ref.logit (m (((0 : Dev nD) : Thread nD τ).loc main_arg0)) (slab t i) j)) _ _ _ _ _ _ _ _ _ _ _ _ _ _ _ _ _ _ (fun k => Cert.Ref.logit (m (((0 : Dev nD) : Thread nD τ).loc main_arg0)) (rowOf (q (nth t k)) (nth t k)) (l (nth t k))) ?_ fun k => ?_)
  · refine (Cert.Point.f0Sum_eq _ _ _ _ _ _ _ _ _ _ _ _ _ _ _ _ _ _).trans ?_
    exact Finset.sum_congr rfl fun i _ => Finset.sum_congr rfl fun j _ => congrArg Loss.f0 ((blk0 m hO 0 t i j).trans (V40 m 0 t i j))
  · rw [picked _ _ _ _ _ _ _ _ _ _ _ _ _ _ _ _ _ k (l (nth t k)) ?_, rws_at, hw, blk1, V41]
    rw [hL k]
    exact (congrArg BitVec.toNat (V_labels m 0 (nth t k))).trans (hl _)

include hi hq hl in
/-- A later point's classification loss. -/
theorem stepB_22 (hO : Ok m) (hT : ∀ c : Dev nD, TblOk c (tbl m 0) (tbl m 1)) (c : Dev nD) (t : Fin (cfgM m hO).N) (h0 : ¬t.val % 5 = 0) (a22 a23 a24 a25 : Vec Ideal S1x1 .f32) (x : S1x1.Idx) :
    outB_22 m hO hT c t h0 a22 a23 a24 a25 x = a22 (ix2 0 0) + ((∑ i : Fin 160, ∑ j : Fin 80, Loss.f0 (Cert.Ref.logit (m ((c : Thread nD τ).loc main_arg0)) (slab t i) j)) + ∑ k : Fin 16, Loss.fix (m ((c : Thread nD τ).loc main_arg0)) q l (nth t k)) := by
  obtain rfl : c = 0 := Subsingleton.elim _ _
  have h : ∃ (w0 w1 w2 w3 w4 w5 w6 w7 w8 w9 w10 w11 w12 w13 w14 w15 : Vec Ideal S1x80 .f32) (l0 l1 l2 l3 l4 l5 l6 l7 l8 l9 l10 l11 l12 l13 l14 l15 : BitVec 32), (∀ (k : Fin 16) (j : Fin 80), (![w0, w1, w2, w3, w4, w5, w6, w7, w8, w9, w10, w11, w12, w13, w14, w15] k) (ix2 0 j) = (show Vec Ideal S800x80 .f32 from iblk m hO 0 1 t) (ix2 (rowOf (q (nth t k)) (nth t k)) j)) ∧ (∀ k : Fin 16, (![l0, l1, l2, l3, l4, l5, l6, l7, l8, l9, l10, l11, l12, l13, l14, l15] k) = (show Vec Ideal S80 .i32 from tbl m 2) (ix1 (nth t k))) ∧
      outB_22 m hO hT 0 t h0 a22 a23 a24 a25 = fun _ => clsOf (Cert.Point.f0Sum (iblk m hO 0 0 t) (Cert.Point.tgts (iblk m hO 0 3 t) (iblk m hO 0 20 t) (iblk m hO 0 21 t)) (iblk m hO 0 4 t) (iblk m hO 0 5 t) (iblk m hO 0 6 t) (iblk m hO 0 7 t) (iblk m hO 0 8 t) (iblk m hO 0 9 t) (iblk m hO 0 10 t) (iblk m hO 0 11 t) (iblk m hO 0 12 t) (iblk m hO 0 13 t) (iblk m hO 0 14 t) (iblk m hO 0 15 t) (iblk m hO 0 16 t) (iblk m hO 0 17 t) (iblk m hO 0 18 t) (iblk m hO 0 19 t)) (rws w0 w1 w2 w3 w4 w5 w6 w7 w8 w9 w10 w11 w12 w13 w14 w15) l0 l1 l2 l3 l4 l5 l6 l7 l8 l9 l10 l11 l12 l13 l14 l15 (a22 (ix2 0 0)) := by
    unfold outB_22 runB
    exact outB_22_val _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => rowOf (q (nth t k)) (nth t k)) (fun k => rowOf_toNat m hi q hq _) (fun k => targets_toNat m 0 hi _)
  obtain ⟨w0, w1, w2, w3, w4, w5, w6, w7, w8, w9, w10, w11, w12, w13, w14, w15, l0, l1, l2, l3, l4, l5, l6, l7, l8, l9, l10, l11, l12, l13, l14, l15, hw, hL, h⟩ := h
  refine (congrFun h x).trans (point22 _ (∑ i : Fin 160, ∑ j : Fin 80, Loss.f0 (Cert.Ref.logit (m (((0 : Dev nD) : Thread nD τ).loc main_arg0)) (slab t i) j)) _ _ _ _ _ _ _ _ _ _ _ _ _ _ _ _ _ _ (fun k => Cert.Ref.logit (m (((0 : Dev nD) : Thread nD τ).loc main_arg0)) (rowOf (q (nth t k)) (nth t k)) (l (nth t k))) ?_ fun k => ?_)
  · refine (Cert.Point.f0Sum_eq _ _ _ _ _ _ _ _ _ _ _ _ _ _ _ _ _ _).trans ?_
    exact Finset.sum_congr rfl fun i _ => Finset.sum_congr rfl fun j _ => congrArg Loss.f0 ((blk0 m hO 0 t i j).trans (V40 m 0 t i j))
  · rw [picked _ _ _ _ _ _ _ _ _ _ _ _ _ _ _ _ _ k (l (nth t k)) ?_, rws_at, hw, blk1, V41]
    rw [hL k]
    exact (congrArg BitVec.toNat (V_labels m 0 (nth t k))).trans (hl _)

/-- A sum over five slabs of logits. -/
theorem sum_slabs (f : Fin 800 → EReal) : (∑ t : Fin grid0.N, ∑ i : Fin 160, f (slab t i)) = ∑ r, f r := by
  symm
  refine (Fin.sum_univ_tiles 5 160 (N := 800) rfl f).trans ?_
  refine Finset.sum_congr rfl fun t _ => Finset.sum_congr rfl fun i _ => congrArg f (Fin.ext ?_)
  show t.val * 160 + i.val = 160 * t.val + i.val
  omega

/-- The classification accumulator is written back once, at the last point. -/
theorem whole22 (hO : Ok m) : ((cfgM m hO).win 22).WholeAt ⟨4, (by decide : 4 < grid0.N)⟩ :=
  ⟨(flush0_22 (adm m hO) _).mpr rfl, fun t h => Fin.ext (by
    have h1 := (flush0_22 (adm m hO) t).mp h
    have h2 : t.val < 5 := lt_of_lt_of_eq t.isLt (show (cfgM m hO).N = 5 from N_0)
    show t.val = 4
    omega), fun a => match a with | ⟨0, _⟩ => ⟨rfl, rfl⟩ | ⟨1, _⟩ => ⟨rfl, rfl⟩⟩

include hi hq hl in
/-- What the classification accumulator holds after the last point. -/
theorem acc22 (hO : Ok m) (hT : ∀ c : Dev nD, TblOk c (tbl m 0) (tbl m 1)) (c : Dev nD) (x : S1x1.Idx) :
    (outsAt0 m hO hT c (⟨4, (by decide : 4 < grid0.N)⟩ : Fin (cfgM m hO).N).val (⟨4, (by decide : 4 < grid0.N)⟩ : Fin (cfgM m hO).N).isLt).1 x = ((∑ r, ∑ j, Loss.f0 (Cert.Ref.logit (m ((c : Thread nD τ).loc main_arg0)) r j)) + ∑ n, Loss.fix (m ((c : Thread nD τ).loc main_arg0)) q l n) := by
  have h := Pipeline.eq_sum_fin_of_reset_step_apply_last (M := EReal) (fun n h => (outsAt0 m hO hT c n h).1) 5 (fun _ => 0) (fun t _ => ((∑ i : Fin 160, ∑ j : Fin 80, Loss.f0 (Cert.Ref.logit (m ((c : Thread nD τ).loc main_arg0)) (slab t i) j)) + ∑ k : Fin 16, Loss.fix (m ((c : Thread nD τ).loc main_arg0)) q l (nth t k)))
    (fun t h j => by
      rw [outsAt0_A m hO hT c t h]
      exact (stepA_22 m hi q l hq hl hO hT c t h j).trans (congrArg (· + _) Ideal.ofBits_zero_f32))
    (fun t h j => by
      rw [outsAt0_B m hO hT c t h]
      exact (stepB_22 m hi q l hq hl hO hT c t h (outsAt0 m hO hT c (t.val - 1) (Nat.lt_of_le_of_lt (Nat.sub_le _ _) t.isLt)).1 (outsAt0 m hO hT c (t.val - 1) (Nat.lt_of_le_of_lt (Nat.sub_le _ _) t.isLt)).2.1 (outsAt0 m hO hT c (t.val - 1) (Nat.lt_of_le_of_lt (Nat.sub_le _ _) t.isLt)).2.2.1 (outsAt0 m hO hT c (t.val - 1) (Nat.lt_of_le_of_lt (Nat.sub_le _ _) t.isLt)).2.2.2 j).trans (congrArg (fun y => (outsAt0 m hO hT c (t.val - 1) (Nat.lt_of_le_of_lt (Nat.sub_le _ _) t.isLt)).1 y + _) (unit_eq _ _)))
    (le_of_eq N_0) (⟨4, (by decide : 4 < grid0.N)⟩ : Fin (cfgM m hO).N) rfl x
  refine h.trans ((zero_add (_ : EReal)).trans (Finset.sum_add_distrib.trans ?_))
  exact congrArg₂ (· + ·) (sum_slabs fun r => ∑ j : Fin 80, Loss.f0 (Cert.Ref.logit (m ((c : Thread nD τ).loc main_arg0)) r j)) (sum_points (Loss.fix (m ((c : Thread nD τ).loc main_arg0)) q l))

include hi hq hl in
/-- The classification result of the region. -/
theorem arr22 (hO : Ok m) (hT : ∀ c : Dev nD, TblOk c (tbl m 0) (tbl m 1)) (c : Dev nD) :
    (dats m hO hT 0 c).arrAt 22 (cfgM m hO).N = fun _ => ((∑ r, ∑ j, Loss.f0 (Cert.Ref.logit (m ((c : Thread nD τ).loc main_arg0)) r j)) + ∑ n, Loss.fix (m ((c : Thread nD τ).loc main_arg0)) q l n) := by
  refine (dats m hO hT 0 c).arrAt_eq_of_after_last 22 ⟨4, (by decide : 4 < grid0.N)⟩ (whole22 m hO) _ fun j => ?_
  blk_simp
  rw [after0_22]
  exact acc22 m hi q l hq hl hO hT c _

/-- The host lines' classification loss. -/
theorem host22 (U : Valuation τ sig (Elt Ideal)) :
    StableHlo.after (hostOps1 (F := Ideal)) U (Proc.devRef .tc main_v46) = (fun _ => Ideal.div (Ideal.ofBits FTy.f32 0x40000000#32 * (show Vec Ideal S1x1 .f32 from U (Proc.devRef .tc main_v43_0)) (ix2 0 0)) (Ideal.ofBits FTy.f32 0x42A00000#32) : FVec Ideal S_ .f32) := by
  funext x
  after_reads_at

include hi hq hl in
/-- The kernel's classification loss. -/
theorem result22 (hO : Ok m) (hT : ∀ c : Dev nD, TblOk c (tbl m 0) (tbl m 1)) (c : Dev nD) :
    Pipeline.afterTail pcfgs (fun _ => adm m hO) (dats m hO hT) 0 (V0 m) [hostOps1] c main_v46
      = (fun _ => Ideal.div (Ideal.ofBits FTy.f32 0x40000000#32 * ((∑ r, ∑ j, Loss.f0 (Cert.Ref.logit (m ((c : Thread nD τ).loc main_arg0)) r j)) + ∑ n, Loss.fix (m ((c : Thread nD τ).loc main_arg0)) q l n)) (Ideal.ofBits FTy.f32 0x42A00000#32) : FVec Ideal S_ .f32) := by
  unfold Pipeline.afterTail
  refine (host22 _).trans (funext fun _ => congrArg (fun z => Ideal.div (Ideal.ofBits FTy.f32 0x40000000#32 * z) (Ideal.ofBits FTy.f32 0x42A00000#32)) ?_)
  exact congrFun (((dats m hO hT 0 c).withArrays_arrAt sharedIn0 (V0 m c) (A_eq m hO hT c) 22).trans (arr22 m hi q l hq hl hO hT c)) (ix2 0 0)

end Cert.KernelIdeal.Gen

end
-- ==== Proof.Value.Losses.lean ====
/- The kernel's run and the reference's leave equal losses. -/
module

public import proofs.«01_k».proof.Defs
public import proofs.«01_k».proof.Proof.Value.Totals
public import proofs.«01_k».proof.Proof.Value.Same
public import proofs.«01_k».proof.Proof.Ideal.Frame
public import proofs.«01_k».proof.Proof.Ideal.Tables
public import proofs.«01_k».proof.Proof.Matched
public import proofs.«01_k».proof.Proof.Gen.Pre_matched

@[expose] public section

set_option maxRecDepth 16384

noncomputable section

namespace Cert.KernelIdeal.Gen

open Idealize.ShloMosaic Idealize.ShloMosaic.TcCoe Idealize.ShloMosaic.Tactic Idealize.SL.Sem

variable (m : (ℓ : Loc nD τ sig) → Buf (Elt Ideal) ℓ)
variable (hi : IntsAt m (0 : Dev nD)) (q : Fin 80 → Fin 100) (l : Fin 80 → Fin 80)
  (hq : ∀ n : Fin 80, (show BitVec 32 from m (((0 : Dev nD) : Thread nD τ).loc main_arg5) (ix2 (img n) (slot n))).toNat = (q n).val)
  (hl : ∀ n : Fin 80, (show BitVec 32 from m (((0 : Dev nD) : Thread nD τ).loc main_arg4) (ix2 (img n) (slot n))).toNat = (l n).val)

include hi hq in
/-- Two matches of an image with one query are one match. -/
theorem match_eq (n k : Fin 80) (h : n.val / 10 = k.val / 10) (hk : (q n).val = (q k).val) : n = k := by
  by_contra hn
  have hs : slot n ≠ slot k := fun e => hn (Fin.ext (by
    have : n.val % 10 = k.val % 10 := congrArg Fin.val e
    omega))
  refine hi.query_ne (img n) (slot n) (slot k) hs (BitVec.eq_of_toNat_eq ?_)
  have e : img n = img k := Fin.ext h
  exact (hq n).trans (hk.trans ((hq k).symm.trans (by rw [e])))

include hi hq hl in
/-- The run of the kernel: its four losses, and its arguments as they were. -/
theorem run_losses (g : Dev nD → PrngReg) :
    θ_run (defs (F := Ideal)) (onTc (τ := τ) (main (F := Ideal))) ⟨m, fun _ => 0, g⟩ (fun r => ∀ c : Dev nD,
      r.2.mem ((c.tc : Thread nD τ).loc main_v46) = (fun _ => Ideal.div (Ideal.ofBits FTy.f32 0x40000000#32 * ((∑ r, ∑ j, Loss.f0 (Cert.Ref.logit (m ((c : Thread nD τ).loc main_arg0)) r j)) + ∑ n, Loss.fix (m ((c : Thread nD τ).loc main_arg0)) q l n)) (Ideal.ofBits FTy.f32 0x42A00000#32) : FVec Ideal S_ .f32)
      ∧ r.2.mem ((c.tc : Thread nD τ).loc main_v49) = (fun _ => Ideal.div (Ideal.ofBits FTy.f32 0x3F800000#32 * ∑ n : Fin 80, Loss.bce (Loss.Sc (m ((c : Thread nD τ).loc main_arg2)) q n) (Loss.iou (fun i j => Loss.sgm (Loss.M (m ((c : Thread nD τ).loc main_arg1)) q n i j)) (Loss.T (m ((c : Thread nD τ).loc main_arg3)) n))) (Ideal.ofBits FTy.f32 0x42A00000#32) : FVec Ideal S_ .f32)
      ∧ r.2.mem ((c.tc : Thread nD τ).loc main_v52) = (fun _ => Ideal.div (Ideal.ofBits FTy.f32 0x40000000#32 * ∑ n : Fin 80, Loss.dice (fun i j => Loss.sgm (Loss.M (m ((c : Thread nD τ).loc main_arg1)) q n i j)) (Loss.T (m ((c : Thread nD τ).loc main_arg3)) n)) (Ideal.ofBits FTy.f32 0x42A00000#32) : FVec Ideal S_ .f32)
      ∧ r.2.mem ((c.tc : Thread nD τ).loc main_v55) = (fun _ => Ideal.div (Ideal.ofBits FTy.f32 0x40A00000#32 * ∑ n : Fin 80, (Loss.total fun i j => Loss.bce (Loss.M (m ((c : Thread nD τ).loc main_arg1)) q n i j) (Loss.T (m ((c : Thread nD τ).loc main_arg3)) n i j))) (Ideal.ofBits FTy.f32 0x49A00000#32) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO := ok_of m hi
  have hT := tblOk_of m hi
  exact (θ_run defs _ _).mono (fun _ h c => ⟨
    ((h c).2 main_v46 (by decide : main_v46 ∈ Pipeline.restRefs sig spec0)).trans (result22 m hi q l hq hl hO hT c),
    ((h c).2 main_v49 (by decide : main_v49 ∈ Pipeline.restRefs sig spec0)).trans (result23 m hi q hq hO hT c),
    ((h c).2 main_v52 (by decide : main_v52 ∈ Pipeline.restRefs sig spec0)).trans (result24 m hi q hq hO hT c),
    ((h c).2 main_v55 (by decide : main_v55 ∈ Pipeline.restRefs sig spec0)).trans (result25 m hi q hq hO hT c),
    ((h c).2 main_arg0 (by decide : main_arg0 ∈ Pipeline.restRefs sig spec0)).trans (W_main_arg0 m hO (dats m hO hT) c),
    ((h c).2 main_arg1 (by decide : main_arg1 ∈ Pipeline.restRefs sig spec0)).trans (W_main_arg1 m hO (dats m hO hT) c),
    ((h c).2 main_arg2 (by decide : main_arg2 ∈ Pipeline.restRefs sig spec0)).trans (W_main_arg2 m hO (dats m hO hT) c),
    ((h c).2 main_arg3 (by decide : main_arg3 ∈ Pipeline.restRefs sig spec0)).trans (W_main_arg3 m hO (dats m hO hT) c),
    ((h c).2 main_arg4 (by decide : main_arg4 ∈ Pipeline.restRefs sig spec0)).trans (W_main_arg4 m hO (dats m hO hT) c),
    ((h c).2 main_arg5 (by decide : main_arg5 ∈ Pipeline.restRefs sig spec0)).trans (W_main_arg5 m hO (dats m hO hT) c),
    ((h c).2 main_arg6 (by decide : main_arg6 ∈ Pipeline.restRefs sig spec0)).trans (W_main_arg6 m hO (dats m hO hT) c)⟩) (run_main m g hO hT)

end Cert.KernelIdeal.Gen

namespace Cert.Proof

open Idealize.ShloMosaic Idealize.ShloMosaic.TcCoe Idealize.SL.Sem

/-- Over matchings as the problem draws them, the kernel's four losses are the reference's, as extended reals. -/
theorem losses : Cert.algebraic_KernelIdeal_ReferenceIdeal := by
  intro m g m' g' hp hagree
  obtain ⟨h1, h2, h3, h4, h5⟩ := hp 0
  have hi : Cert.KernelIdeal.Gen.IntsAt m 0 := Cert.Matched.ints_of _ _ _ _ _ _ _ h1 h2 h3 h4
  let q : Fin 80 → Fin 100 := fun n => ⟨_, hi.query_lt (Cert.KernelIdeal.Gen.img n) (Cert.KernelIdeal.Gen.slot n)⟩
  let l : Fin 80 → Fin 80 := fun n => ⟨_, hi.label_lt (Cert.KernelIdeal.Gen.img n) (Cert.KernelIdeal.Gen.slot n)⟩
  have hne := Cert.KernelIdeal.Gen.match_eq m hi q (fun n => rfl)
  have hfin := Cert.Matched.finite_of _ _ _ _ _ _ _ h5
  have hK := Cert.KernelIdeal.Gen.run_losses m hi q l (fun n => rfl) (fun n => rfl) g
  have hR := Cert.Ref.run m' g'
  refine ⟨fun c => Cert.Ref.cls m' c, fun c => Cert.Ref.obj m' c, fun c => Cert.Ref.dice m' c, fun c => Cert.Ref.mask m' c,
    (θ_run Cert.KernelIdeal.defs _ _).mono (fun r h c => ?_) hK, (θ_run Cert.ReferenceIdeal.defs _ _).mono (fun r h c => ?_) hR⟩
  · obtain rfl : c = 0 := Subsingleton.elim _ _
    obtain ⟨a0, a1, a2, a3, a4, a5, a6⟩ := hagree 0
    obtain ⟨e0, e1, e2, e3, hargs⟩ := h 0
    have hq : ∀ n : Fin 80, BitVec.toNat (w := 32) ((show IVec Cert.ReferenceIdeal.S8x10 32 from m' (((0 : Dev Cert.ReferenceIdeal.nD) : Thread Cert.ReferenceIdeal.nD Cert.ReferenceIdeal.τ).loc Cert.ReferenceIdeal.main_arg5)) (ix2 ⟨n.val / 10, Cert.Ref.lt_img n⟩ ⟨n.val % 10, Cert.Ref.lt_slot n⟩)) = (q n).val := fun n => by
      rw [a5]
    have hl : ∀ n : Fin 80, BitVec.toNat (w := 32) ((show IVec Cert.ReferenceIdeal.S8x10 32 from m' (((0 : Dev Cert.ReferenceIdeal.nD) : Thread Cert.ReferenceIdeal.nD Cert.ReferenceIdeal.τ).loc Cert.ReferenceIdeal.main_arg4)) (ix2 ⟨n.val / 10, Cert.Ref.lt_img n⟩ ⟨n.val % 10, Cert.Ref.lt_slot n⟩)) = (l n).val := fun n => by
      rw [a4]
    have hf : ∀ b n k, (show FVec Ideal Cert.ReferenceIdeal.S8x100x80 .f32 from m' (((0 : Dev Cert.ReferenceIdeal.nD) : Thread Cert.ReferenceIdeal.nD Cert.ReferenceIdeal.τ).loc Cert.ReferenceIdeal.main_arg0)) (ix3 b n k) ≠ ⊤ ∧ (show FVec Ideal Cert.ReferenceIdeal.S8x100x80 .f32 from m' (((0 : Dev Cert.ReferenceIdeal.nD) : Thread Cert.ReferenceIdeal.nD Cert.ReferenceIdeal.τ).loc Cert.ReferenceIdeal.main_arg0)) (ix3 b n k) ≠ ⊥ := fun b n k => by
      rw [a0]; exact hfin b n k
    have ht : ∀ b s, (show IVec Cert.ReferenceIdeal.S8x10 32 from m' (((0 : Dev Cert.ReferenceIdeal.nD) : Thread Cert.ReferenceIdeal.nD Cert.ReferenceIdeal.τ).loc Cert.ReferenceIdeal.main_arg6)) (ix2 b s) = BitVec.ofNat 32 s.val := fun b s => by
      rw [a6]; exact hi.target_eq b s
    refine ⟨?_, ?_, ?_, ?_, hargs⟩
    · have E := Cert.Ref.cls_eq m' 0 q l hq hl hne ht hf
      rw [a0] at E
      exact e0.trans E.symm
    · have E := Cert.Ref.obj_eq m' 0 q hq ht
      rw [a1, a2, a3] at E
      exact e1.trans E.symm
    · have E := Cert.Ref.dice_eq m' 0 q hq ht
      rw [a1, a3] at E
      exact e2.trans E.symm
    · have E := Cert.Ref.mask_eq m' 0 q hq ht
      rw [a1, a3] at E
      exact e3.trans E.symm
  · exact h c

end Cert.Proof

end
-- ==== Proof.lean ====
/- The proof of the certificate's claim: the runs of the kernel, of its idealized form and of the reference end with the
   arguments unchanged and the semaphores at zero, idealizing preserves the kernel, and the idealized kernel's four losses are
   the reference's. -/
module

public import proofs.«01_k».proof.Defs
public import proofs.«01_k».proof.Proof.Word.Frame
public import proofs.«01_k».proof.Proof.Word.Tables
public import proofs.«01_k».proof.Proof.Ideal.Frame
public import proofs.«01_k».proof.Proof.Ideal.Tables
public import proofs.«01_k».proof.Proof.Ref.Frame
public import proofs.«01_k».proof.Proof.Gen.Pre_matched
public import proofs.«01_k».proof.Proof.Value.Losses

@[expose] public section

set_option maxRecDepth 16384

noncomputable section

namespace Cert.Proof

open Idealize.ShloMosaic Idealize.SL.Sem

/-- The kernel on machine words: its run ends, with the arguments unchanged and every semaphore counter at zero. -/
theorem frame_p : Cert.quiescent_Kernel := fun m g hp => by
  obtain ⟨h1, h2, h3, h4, -⟩ := hp 0
  have hi : Cert.Kernel.Gen.IntsAt m 0 := Cert.Matched.ints_of _ _ _ _ _ _ _ h1 h2 h3 h4
  exact Cert.Kernel.Gen.frame m g (Cert.Kernel.Gen.ok_of m hi) (Cert.Kernel.Gen.tblOk_of m hi)

/-- The kernel on the extended reals: likewise. -/
theorem frame_pi : Cert.quiescent_KernelIdeal := fun m g hp => by
  obtain ⟨h1, h2, h3, h4, -⟩ := hp 0
  have hi : Cert.KernelIdeal.Gen.IntsAt m 0 := Cert.Matched.ints_of _ _ _ _ _ _ _ h1 h2 h3 h4
  exact Cert.KernelIdeal.Gen.frame m g (Cert.KernelIdeal.Gen.ok_of m hi) (Cert.KernelIdeal.Gen.tblOk_of m hi)

/-- The certificate's claim: the frames, the preservation and the equality of the losses. -/
theorem claim : Cert.Claim :=
  ⟨Cert.Kernel.Gen.facts, Cert.KernelIdeal.Gen.facts, Cert.ReferenceIdeal.Gen.facts, Cert.Pre_matched.Gen.facts,
    frame_p, frame_pi, Cert.Ref.frame_r, fun m g _ => Cert.Ref.frame_r m g trivial, trivial, losses⟩

end Cert.Proof

end
